-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v37)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v75_0)) (v1 : (c : Dev Cert.Kernel5Ideal.nD) → Buf (Elt Ideal) ((c.tc : Thread Cert.Kernel5Ideal.nD Cert.Kernel5Ideal.τ).loc Cert.Kernel5Ideal.main_v75_1)) (v2 : (c : Dev Cert.Kernel5Ideal.nD) → Buf (Elt Ideal) ((c.tc : Thread Cert.Kernel5Ideal.nD Cert.Kernel5Ideal.τ).loc Cert.Kernel5Ideal.main_v75_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v75_0) = v0 c
          ∧ r.2.mem ((c.tc : Thread Cert.Kernel5Ideal.nD Cert.Kernel5Ideal.τ).loc Cert.Kernel5Ideal.main_v75_1) = v1 c
          ∧ r.2.mem ((c.tc : Thread Cert.Kernel5Ideal.nD Cert.Kernel5Ideal.τ).loc Cert.Kernel5Ideal.main_v75_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v18_3)) (v1 : (c : Dev Cert.Kernel6Ideal.nD) → Buf (Elt Ideal) ((c.tc : Thread Cert.Kernel6Ideal.nD Cert.Kernel6Ideal.τ).loc Cert.Kernel6Ideal.main_v18_4)) (v2 : (c : Dev Cert.Kernel6Ideal.nD) → Buf (Elt Ideal) ((c.tc : Thread Cert.Kernel6Ideal.nD Cert.Kernel6Ideal.τ).loc Cert.Kernel6Ideal.main_v18_5)) (v3 : (c : Dev Cert.Kernel6Ideal.nD) → Buf (Elt Ideal) ((c.tc : Thread Cert.Kernel6Ideal.nD Cert.Kernel6Ideal.τ).loc Cert.Kernel6Ideal.main_v18_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_3) = v0 c
          ∧ r.2.mem ((c.tc : Thread Cert.Kernel6Ideal.nD Cert.Kernel6Ideal.τ).loc Cert.Kernel6Ideal.main_v18_4) = v1 c
          ∧ r.2.mem ((c.tc : Thread Cert.Kernel6Ideal.nD Cert.Kernel6Ideal.τ).loc Cert.Kernel6Ideal.main_v18_5) = v2 c
          ∧ r.2.mem ((c.tc : Thread Cert.Kernel6Ideal.nD Cert.Kernel6Ideal.τ).loc Cert.Kernel6Ideal.main_v18_6) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8704x5632 : Shape := ⟨2, ![8704, 5632]⟩
abbrev S2x8x4224 : Shape := ⟨3, ![2, 8, 4224]⟩
abbrev S8448x2048 : Shape := ⟨2, ![8448, 2048]⟩
abbrev S_ : Shape := ⟨0, ![]⟩

class Facts : Prop where
  slices_S8704x5632_S8448x2048_0_2048 : S8704x5632.Slices ![0, 2048] S8448x2048
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S2x8x4224 : S_.BroadcastsInDim S2x8x4224 (![] : Fin 0 → Fin S2x8x4224.rank)
  reducesTo_S2x8x4224_S_d0_1_2 : S2x8x4224.ReducesTo [0, 1, 2] S_

variable [Facts]

def fn {F : FTy → Type} [FloatOps F] (main_arg0 : FVec F S8704x5632 .f32) (main_arg1 : FVec F S2x8x4224 .f32) : IVec S_ 1 :=
  let main_v0 : FVec F S8448x2048 .f32 := (extractStridedSlice S8448x2048 ![0, 2048] · slices_S8704x5632_S8448x2048_0_2048) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S2x8x4224 .f32 := Host.absf main_arg1
  let main_cst_0 : FVec F S_ .f32 := constant S_ .f32 0x7F800000#32
  let main_v6 : FVec F S2x8x4224 .f32 := broadcastInDim S2x8x4224 ![] bcast_S_S2x8x4224 main_cst_0
  let main_v7 : IVec S2x8x4224 1 := cmpf .olt main_v5 main_v6
  let main_c_1 : IVec S_ 1 := constantI S_ 1 1#1
  let main_v8 : IVec S_ 1 := (fun x v => Host.reduce IntOp.andi x v reducesTo_S2x8x4224_S_d0_1_2 h_S_) main_v7 main_c_1
  let main_v9 : IVec S_ 1 := andi main_v4 main_v8
  main_v9
-- ==== Kernel.lean ====
abbrev S8704x5632 : Shape := ⟨2, ![8704, 5632]⟩
abbrev S2x8x4224 : Shape := ⟨3, ![2, 8, 4224]⟩
abbrev S2x4x2x4224 : Shape := ⟨4, ![2, 4, 2, 4224]⟩
abbrev S8448x1024 : Shape := ⟨2, ![8448, 1024]⟩
abbrev S384x256 : Shape := ⟨2, ![384, 256]⟩
abbrev S4224x256 : Shape := ⟨2, ![4224, 256]⟩
abbrev S1x1x2x4224 : Shape := ⟨4, ![1, 1, 2, 4224]⟩
abbrev S384x128 : Shape := ⟨2, ![384, 128]⟩
abbrev S384x1 : Shape := ⟨2, ![384, 1]⟩
abbrev S384x384 : Shape := ⟨2, ![384, 384]⟩
abbrev S1x1x1x384 : Shape := ⟨4, ![1, 1, 1, 384]⟩
abbrev S1x384 : Shape := ⟨2, ![1, 384]⟩
abbrev S384 : Shape := ⟨1, ![384]⟩

abbrev nBuf : Space → Nat
  | .hbm => 4
  | .vmem => 12
  | .smem => 0
  | _ => 0

abbrev bufTy : (tb : Table) → Fin (tcTables nBuf tb) → BufTy
  | .hbm, ⟨0, _⟩ => ⟨S8704x5632, .f32⟩
  | .hbm, ⟨1, _⟩ => ⟨S2x8x4224, .f32⟩
  | .hbm, ⟨2, _⟩ => ⟨S2x4x2x4224, .f32⟩
  | .hbm, ⟨3, _⟩ => ⟨S8448x1024, .bf16⟩
  | .local _ .vmem, ⟨0, _⟩ => ⟨S384x256, .f32⟩
  | .local _ .vmem, ⟨1, _⟩ => ⟨S384x256, .f32⟩
  | .local _ .vmem, ⟨2, _⟩ => ⟨S4224x256, .f32⟩
  | .local _ .vmem, ⟨3, _⟩ => ⟨S4224x256, .f32⟩
  | .local _ .vmem, ⟨4, _⟩ => ⟨S4224x256, .f32⟩
  | .local _ .vmem, ⟨5, _⟩ => ⟨S4224x256, .f32⟩
  | .local _ .vmem, ⟨6, _⟩ => ⟨S1x1x2x4224, .f32⟩
  | .local _ .vmem, ⟨7, _⟩ => ⟨S1x1x2x4224, .f32⟩
  | .local _ .vmem, ⟨8, _⟩ => ⟨S384x256, .bf16⟩
  | .local _ .vmem, ⟨9, _⟩ => ⟨S384x256, .bf16⟩
  | .local _ .vmem, ⟨10, _⟩ => ⟨S4224x256, .bf16⟩
  | .local _ .vmem, ⟨11, _⟩ => ⟨S4224x256, .bf16⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 11], ![false, false, false]⟩

@[reducible] def k0_t1_loop (i : grid0.Coords) : Scf.Loop 32 :=
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_8 : BitVec 32 := 1#32
  ⟨c0_i32_7, v18, c1_i32_8⟩
def k0_mult1 (i : grid0.Coords) (k0_t1 : Fin (k0_t1_loop i).trips) : BitVec 32 :=
  let c0_i32_7 : BitVec 32 := 0#32
  let c1_i32_8 : BitVec 32 := 1#32
  let arg10 : BitVec 32 := Scf.iv c0_i32_7 c1_i32_8 k0_t1
  let c384_i32_35 : BitVec 32 := 384#32
  let v99 : BitVec 32 := Scalar.muli arg10 c384_i32_35
  v99
def k0_off1 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c384_i32_35 : BitVec 32 := 384#32
  let v99 : BitVec 32 := Scalar.muli arg10 c384_i32_35
  let v100 : BitVec 32 := v99
  let v101 : Index := Scalar.indexCast v100
  let c0_36 : Index := 0#32
  ![v101.toNat, 0]
def k0_off2 (i : grid0.Coords) (k0_t1 : Fin (k0_t1_loop i).trips) : Fin 4 → Nat :=
  let c0_38 : Index := 0#32
  let c0_39 : Index := 0#32
  let c0_40 : Index := 0#32
  let c0_i32_7 : BitVec 32 := 0#32
  let c1_i32_8 : BitVec 32 := 1#32
  let arg10 : BitVec 32 := Scf.iv c0_i32_7 c1_i32_8 k0_t1
  let c384_i32_35 : BitVec 32 := 384#32
  let v99 : BitVec 32 := Scalar.muli arg10 c384_i32_35
  let v100 : BitVec 32 := v99
  let v104 : Index := Scalar.indexCast v100
  ![0, 0, 0, v104.toNat]
def k0_off3 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c384_i32_35 : BitVec 32 := 384#32
  let v99 : BitVec 32 := Scalar.muli arg10 c384_i32_35
  let v100 : BitVec 32 := v99
  let v130 : Index := Scalar.indexCast v100
  let c128_46 : Index := 128#32
  ![v130.toNat, 128]
def k0_off4 (i : grid0.Coords) (k0_t1 : Fin (k0_t1_loop i).trips) : Fin 4 → Nat :=
  let c0_48 : Index := 0#32
  let c0_49 : Index := 0#32
  let c1_50 : Index := 1#32
  let c0_i32_7 : BitVec 32 := 0#32
  let c1_i32_8 : BitVec 32 := 1#32
  let arg10 : BitVec 32 := Scf.iv c0_i32_7 c1_i32_8 k0_t1
  let c384_i32_35 : BitVec 32 := 384#32
  let v99 : BitVec 32 := Scalar.muli arg10 c384_i32_35
  let v100 : BitVec 32 := v99
  let v133 : Index := Scalar.indexCast v100
  ![0, 0, 1, v133.toNat]
@[reducible] def k0_t2_loop (i : grid0.Coords) : Scf.Loop 32 :=
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let v15 : BitVec 32 := Scalar.addi c0_i32_7 v14
  let c1_i32_9 : BitVec 32 := 1#32
  ⟨v18, v15, c1_i32_9⟩
def k0_mult2 (i : grid0.Coords) (k0_t2 : Fin (k0_t2_loop i).trips) : BitVec 32 :=
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg10 : BitVec 32 := Scf.iv v18 c1_i32_9 k0_t2
  let c384_i32_35 : BitVec 32 := 384#32
  let v99 : BitVec 32 := Scalar.muli arg10 c384_i32_35
  v99
def k0_off5 (i : grid0.Coords) (k0_t2 : Fin (k0_t2_loop i).trips) : Fin 2 → Nat :=
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg10 : BitVec 32 := Scf.iv v18 c1_i32_9 k0_t2
  let c384_i32_35 : BitVec 32 := 384#32
  let v99 : BitVec 32 := Scalar.muli arg10 c384_i32_35
  let v100 : BitVec 32 := v99
  let v101 : Index := Scalar.indexCast v100
  let c0_36 : Index := 0#32
  ![v101.toNat, 0]
def k0_off6 (i : grid0.Coords) (k0_t2 : Fin (k0_t2_loop i).trips) : Fin 4 → Nat :=
  let c0_38 : Index := 0#32
  let c0_39 : Index := 0#32
  let c0_40 : Index := 0#32
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg10 : BitVec 32 := Scf.iv v18 c1_i32_9 k0_t2
  let c384_i32_35 : BitVec 32 := 384#32
  let v99 : BitVec 32 := Scalar.muli arg10 c384_i32_35
  let v100 : BitVec 32 := v99
  let v104 : Index := Scalar.indexCast v100
  ![0, 0, 0, v104.toNat]
def k0_off7 (i : grid0.Coords) (k0_t2 : Fin (k0_t2_loop i).trips) : Fin 2 → Nat :=
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg10 : BitVec 32 := Scf.iv v18 c1_i32_9 k0_t2
  let c384_i32_35 : BitVec 32 := 384#32
  let v99 : BitVec 32 := Scalar.muli arg10 c384_i32_35
  let v100 : BitVec 32 := v99
  let v130 : Index := Scalar.indexCast v100
  let c128_46 : Index := 128#32
  ![v130.toNat, 128]
def k0_off8 (i : grid0.Coords) (k0_t2 : Fin (k0_t2_loop i).trips) : Fin 4 → Nat :=
  let c0_48 : Index := 0#32
  let c0_49 : Index := 0#32
  let c1_50 : Index := 1#32
  let c0_i32_7 : BitVec 32 := 0#32
  let arg2 : BitVec 32 := BitVec.ofNat 32 (i 2).val
  let v14 : BitVec 32 := Scalar.subi arg2 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg10 : BitVec 32 := Scf.iv v18 c1_i32_9 k0_t2
  let c384_i32_35 : BitVec 32 := 384#32
  let v99 : BitVec 32 := Scalar.muli arg10 c384_i32_35
  let v100 : BitVec 32 := v99
  let v133 : Index := Scalar.indexCast v100
  ![0, 0, 1, v133.toNat]
def k0_mult3 (i : grid0.Coords) : BitVec 32 :=
  let arg2 : BitVec 32 := BitVec.ofNat 32 (i 2).val
  let c384_i32 : BitVec 32 := 384#32
  let v21 : BitVec 32 := Scalar.muli arg2 c384_i32
  v21
def k0_off9 (i : grid0.Coords) : Fin 2 → Nat :=
  let arg2 : BitVec 32 := BitVec.ofNat 32 (i 2).val
  let c384_i32 : BitVec 32 := 384#32
  let v21 : BitVec 32 := Scalar.muli arg2 c384_i32
  let v22 : BitVec 32 := v21
  let v23 : Index := Scalar.indexCast v22
  let c0_10 : Index := 0#32
  ![v23.toNat, 0]
def k0_off10 (i : grid0.Coords) : Fin 4 → Nat :=
  let c0_12 : Index := 0#32
  let c0_13 : Index := 0#32
  let c0_14 : Index := 0#32
  let arg2 : BitVec 32 := BitVec.ofNat 32 (i 2).val
  let c384_i32 : BitVec 32 := 384#32
  let v21 : BitVec 32 := Scalar.muli arg2 c384_i32
  let v22 : BitVec 32 := v21
  let v26 : Index := Scalar.indexCast v22
  ![0, 0, 0, v26.toNat]
def k0_off11 (i : grid0.Coords) : Fin 2 → Nat :=
  let arg2 : BitVec 32 := BitVec.ofNat 32 (i 2).val
  let c384_i32 : BitVec 32 := 384#32
  let v21 : BitVec 32 := Scalar.muli arg2 c384_i32
  let v22 : BitVec 32 := v21
  let v57 : Index := Scalar.indexCast v22
  let c128_21 : Index := 128#32
  ![v57.toNat, 128]
def k0_off12 (i : grid0.Coords) : Fin 4 → Nat :=
  let c0_23 : Index := 0#32
  let c0_24 : Index := 0#32
  let c1 : Index := 1#32
  let arg2 : BitVec 32 := BitVec.ofNat 32 (i 2).val
  let c384_i32 : BitVec 32 := 384#32
  let v21 : BitVec 32 := Scalar.muli arg2 c384_i32
  let v22 : BitVec 32 := v21
  let v60 : Index := Scalar.indexCast v22
  ![0, 0, 1, v60.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S8704x5632 : Shape := ⟨2, ![8704, 5632]⟩
abbrev S2x8x4224 : Shape := ⟨3, ![2, 8, 4224]⟩
abbrev S8448x5632 : Shape := ⟨2, ![8448, 5632]⟩
abbrev S8448x2048 : Shape := ⟨2, ![8448, 2048]⟩
abbrev S8448x1024 : Shape := ⟨2, ![8448, 1024]⟩
abbrev S8448x512 : Shape := ⟨2, ![8448, 512]⟩
abbrev S2x4224x8x128 : Shape := ⟨4, ![2, 4224, 8, 128]⟩
abbrev S4224 : Shape := ⟨1, ![4224]⟩
abbrev S2x8x4224x4224 : Shape := ⟨4, ![2, 8, 4224, 4224]⟩
abbrev S_ : Shape := ⟨0, ![]⟩
abbrev S2x8x4224x1 : Shape := ⟨4, ![2, 8, 4224, 1]⟩
abbrev S2x8x1x4224 : Shape := ⟨4, ![2, 8, 1, 4224]⟩
abbrev S1x4224 : Shape := ⟨2, ![1, 4224]⟩
abbrev S4224x1 : Shape := ⟨2, ![4224, 1]⟩
abbrev S4224x4224 : Shape := ⟨2, ![4224, 4224]⟩
abbrev S2x8x128x4224 : Shape := ⟨4, ![2, 8, 128, 4224]⟩

abbrev nBuf : Space → Nat
  | .hbm => 51
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S2x8x4224, .f32⟩
  | .hbm, ⟨2, _⟩ => ⟨S8448x5632, .f32⟩
  | .hbm, ⟨3, _⟩ => ⟨S8448x2048, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x512, .f32⟩
  | .hbm, ⟨8, _⟩ => ⟨S2x4224x8x128, .f32⟩
  | .hbm, ⟨9, _⟩ => ⟨S2x4224x8x128, .f32⟩
  | .hbm, ⟨10, _⟩ => ⟨S2x4224x8x128, .f32⟩
  | .hbm, ⟨11, _⟩ => ⟨S4224, .i32⟩
  | .hbm, ⟨12, _⟩ => ⟨S2x8x4224x4224, .f32⟩
  | .hbm, ⟨13, _⟩ => ⟨S_, .f32⟩
  | .hbm, ⟨14, _⟩ => ⟨S_, .f32⟩
  | .hbm, ⟨15, _⟩ => ⟨S2x8x4224x4224, .f32⟩
  | .hbm, ⟨16, _⟩ => ⟨S2x8x4224x4224, .f32⟩
  | .hbm, ⟨17, _⟩ => ⟨S2x8x4224x1, .f32⟩
  | .hbm, ⟨18, _⟩ => ⟨S2x8x4224x4224, .f32⟩
  | .hbm, ⟨19, _⟩ => ⟨S2x8x4224x4224, .f32⟩
  | .hbm, ⟨20, _⟩ => ⟨S2x8x1x4224, .f32⟩
  | .hbm, ⟨21, _⟩ => ⟨S2x8x4224x4224, .f32⟩
  | .hbm, ⟨22, _⟩ => ⟨S2x8x4224x4224, .f32⟩
  | .hbm, ⟨23, _⟩ => ⟨S1x4224, .i32⟩
  | .hbm, ⟨24, _⟩ => ⟨S4224x1, .i32⟩
  | .hbm, ⟨25, _⟩ => ⟨S4224x4224, .i32⟩
  | .hbm, ⟨26, _⟩ => ⟨S4224x4224, .i32⟩
  | .hbm, ⟨27, _⟩ => ⟨S4224x4224, .i1⟩
  | .hbm, ⟨28, _⟩ => ⟨S_, .f32⟩
  | .hbm, ⟨29, _⟩ => ⟨S_, .f32⟩
  | .hbm, ⟨30, _⟩ => ⟨S2x8x4224x4224, .i1⟩
  | .hbm, ⟨31, _⟩ => ⟨S2x8x4224x4224, .f32⟩
  | .hbm, ⟨32, _⟩ => ⟨S2x8x4224x4224, .f32⟩
  | .hbm, ⟨33, _⟩ => ⟨S_, .f32⟩
  | .hbm, ⟨34, _⟩ => ⟨S2x8x4224, .f32⟩
  | .hbm, ⟨35, _⟩ => ⟨S_, .f32⟩
  | .hbm, ⟨36, _⟩ => ⟨S2x8x4224, .f32⟩
  | .hbm, ⟨37, _⟩ => ⟨S2x8x4224, .f32⟩
  | .hbm, ⟨38, _⟩ => ⟨S2x8x4224x1, .f32⟩
  | .hbm, ⟨39, _⟩ => ⟨S2x8x4224x4224, .f32⟩
  | .hbm, ⟨40, _⟩ => ⟨S2x8x4224x4224, .f32⟩
  | .hbm, ⟨41, _⟩ => ⟨S2x8x4224x4224, .f32⟩
  | .hbm, ⟨42, _⟩ => ⟨S_, .f32⟩
  | .hbm, ⟨43, _⟩ => ⟨S2x8x4224, .f32⟩
  | .hbm, ⟨44, _⟩ => ⟨S2x8x4224x1, .f32⟩
  | .hbm, ⟨45, _⟩ => ⟨S2x8x4224x4224, .f32⟩
  | .hbm, ⟨46, _⟩ => ⟨S2x8x4224x4224, .f32⟩
  | .hbm, ⟨47, _⟩ => ⟨S2x8x128x4224, .f32⟩
  | .hbm, ⟨48, _⟩ => ⟨S2x4224x8x128, .f32⟩
  | .hbm, ⟨49, _⟩ => ⟨S8448x1024, .f32⟩
  | .hbm, ⟨50, _⟩ => ⟨S8448x1024, .bf16⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel2.lean ====
abbrev S8704x2048 : Shape := ⟨2, ![8704, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x2048x5632, .bf16⟩
  | .hbm, ⟨6, _⟩ => ⟨S2x2048x5632, .bf16⟩
  | .hbm, ⟨7, _⟩ => ⟨S2x5632x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8704x2048 : Shape := ⟨2, ![8704, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S1x2048x5632 : Shape := ⟨3, ![1, 2048, 5632]⟩
abbrev S2048x5632 : Shape := ⟨2, ![2048, 5632]⟩
abbrev S8704x5632 : Shape := ⟨2, ![8704, 5632]⟩
abbrev S1x5632x2048 : Shape := ⟨3, ![1, 5632, 2048]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S1x2048x5632, .f32⟩
  | .hbm, ⟨24, _⟩ => ⟨S2048x5632, .f32⟩
  | .hbm, ⟨25, _⟩ => ⟨S8704x5632, .f32⟩
  | .hbm, ⟨26, _⟩ => ⟨S8704x5632, .f32⟩
  | .hbm, ⟨27, _⟩ => ⟨S8704x5632, .f32⟩
  | .hbm, ⟨28, _⟩ => ⟨S_, .f32⟩
  | .hbm, ⟨29, _⟩ => ⟨S8704x5632, .f32⟩
  | .hbm, ⟨30, _⟩ => ⟨S8704x5632, .f32⟩
  | .hbm, ⟨31, _⟩ => ⟨S_, .f32⟩
  | .hbm, ⟨32, _⟩ => ⟨S8704x5632, .f32⟩
  | .hbm, ⟨33, _⟩ => ⟨S8704x5632, .f32⟩
  | .hbm, ⟨34, _⟩ => ⟨S8704x5632, .f32⟩
  | .hbm, ⟨35, _⟩ => ⟨S1x2048x5632, .f32⟩
  | .hbm, ⟨36, _⟩ => ⟨S2048x5632, .f32⟩
  | .hbm, ⟨37, _⟩ => ⟨S8704x5632, .f32⟩
  | .hbm, ⟨38, _⟩ => ⟨S8704x5632, .f32⟩
  | .hbm, ⟨39, _⟩ => ⟨S1x5632x2048, .f32⟩
  | .hbm, ⟨40, _⟩ => ⟨S5632x2048, .f32⟩
  | .hbm, ⟨41, _⟩ => ⟨S8704x2048, .f32⟩
  | .hbm, ⟨42, _⟩ => ⟨S_, .f32⟩
  | .hbm, ⟨43, _⟩ => ⟨S8704x2048, .f32⟩
  | .hbm, ⟨44, _⟩ => ⟨S8704x2048, .f32⟩
  | .hbm, ⟨45, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S8704x2048 : Shape := ⟨2, ![8704, 2048]⟩
abbrev S2x2048 : Shape := ⟨2, ![2, 2048]⟩
abbrev S2x2048x5136 : Shape := ⟨3, ![2, 2048, 5136]⟩
abbrev S2x8 : Shape := ⟨2, ![2, 8]⟩
abbrev S2x128 : Shape := ⟨2, ![2, 128]⟩
abbrev S2x2048x512 : Shape := ⟨3, ![2, 2048, 512]⟩
abbrev S2x2048x1024 : Shape := ⟨3, ![2, 2048, 1024]⟩
abbrev S2x2048x8 : Shape := ⟨3, ![2, 2048, 8]⟩
abbrev S_ : Shape := ⟨0, ![]⟩
abbrev S2x2048x496 : Shape := ⟨3, ![2, 2048, 496]⟩
abbrev S2x2048x5632 : Shape := ⟨3, ![2, 2048, 5632]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S4x512 : Shape := ⟨2, ![4, 512]⟩
abbrev S3x512 : Shape := ⟨2, ![3, 512]⟩
abbrev S11x512 : Shape := ⟨2, ![11, 512]⟩
abbrev S11x1x512 : Shape := ⟨3, ![11, 1, 512]⟩
abbrev S1x8 : Shape := ⟨2, ![1, 8]⟩
abbrev S8 : Shape := ⟨1, ![8]⟩
abbrev S496 : Shape := ⟨1, ![496]⟩
abbrev S1x2048 : Shape := ⟨2, ![1, 2048]⟩
abbrev S2048 : Shape := ⟨1, ![2048]⟩
abbrev S8704x5632 : Shape := ⟨2, ![8704, 5632]⟩
abbrev S1088x2048 : Shape := ⟨2, ![1088, 2048]⟩
abbrev S1x2048x512 : Shape := ⟨3, ![1, 2048, 512]⟩
abbrev S1x1x512 : Shape := ⟨3, ![1, 1, 512]⟩
abbrev S1088x512 : Shape := ⟨2, ![1088, 512]⟩
abbrev S1088 : Shape := ⟨1, ![1088]⟩
abbrev S1088x1 : Shape := ⟨2, ![1088, 1]⟩
abbrev S2048x512 : Shape := ⟨2, ![2048, 512]⟩
abbrev S1088x128 : Shape := ⟨2, ![1088, 128]⟩
abbrev S1x1x128 : Shape := ⟨3, ![1, 1, 128]⟩
abbrev S1088x384 : Shape := ⟨2, ![1088, 384]⟩

abbrev nBuf : Space → Nat
  | .hbm => 49
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x5136, .f32⟩
  | .hbm, ⟨3, _⟩ => ⟨S2x8, .f32⟩
  | .hbm, ⟨4, _⟩ => ⟨S2x128, .f32⟩
  | .hbm, ⟨5, _⟩ => ⟨S2x128, .f32⟩
  | .hbm, ⟨6, _⟩ => ⟨S2x8, .f32⟩
  | .hbm, ⟨7, _⟩ => ⟨S2x2048x512, .f32⟩
  | .hbm, ⟨8, _⟩ => ⟨S2x2048x1024, .f32⟩
  | .hbm, ⟨9, _⟩ => ⟨S2x2048x8, .f32⟩
  | .hbm, ⟨10, _⟩ => ⟨S2x2048x512, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x8, .f32⟩
  | .hbm, ⟨15, _⟩ => ⟨S_, .f32⟩
  | .hbm, ⟨16, _⟩ => ⟨S2x2048x496, .f32⟩
  | .hbm, ⟨17, _⟩ => ⟨S2x2048x5632, .f32⟩
  | .hbm, ⟨18, _⟩ => ⟨S2x2048x5632, .bf16⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S4x128, .f32⟩
  | .hbm, ⟨23, _⟩ => ⟨S512, .f32⟩
  | .hbm, ⟨24, _⟩ => ⟨S1x512, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S4x128, .f32⟩
  | .hbm, ⟨29, _⟩ => ⟨S512, .f32⟩
  | .hbm, ⟨30, _⟩ => ⟨S1x512, .f32⟩
  | .hbm, ⟨31, _⟩ => ⟨S_, .f32⟩
  | .hbm, ⟨32, _⟩ => ⟨S4x512, .f32⟩
  | .hbm, ⟨33, _⟩ => ⟨S_, .f32⟩
  | .hbm, ⟨34, _⟩ => ⟨S3x512, .f32⟩
  | .hbm, ⟨35, _⟩ => ⟨S11x512, .f32⟩
  | .hbm, ⟨36, _⟩ => ⟨S11x1x512, .f32⟩
  | .hbm, ⟨37, _⟩ => ⟨S1x8, .f32⟩
  | .hbm, ⟨38, _⟩ => ⟨S8, .f32⟩
  | .hbm, ⟨39, _⟩ => ⟨S1x8, .f32⟩
  | .hbm, ⟨40, _⟩ => ⟨S8, .f32⟩
  | .hbm, ⟨41, _⟩ => ⟨S_, .f32⟩
  | .hbm, ⟨42, _⟩ => ⟨S496, .f32⟩
  | .hbm, ⟨43, _⟩ => ⟨S512, .f32⟩
  | .hbm, ⟨44, _⟩ => ⟨S1x512, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S8704x5632, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x1x512, .f32⟩
  | .local _ .vmem, ⟨6, _⟩ => ⟨S1x1x512, .f32⟩
  | .local _ .vmem, ⟨7, _⟩ => ⟨S1x512, .f32⟩
  | .local _ .vmem, ⟨8, _⟩ => ⟨S1088x512, .f32⟩
  | .local _ .vmem, ⟨9, _⟩ => ⟨S1088x512, .f32⟩
  | .local _ .vmem, ⟨10, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c4_i32 : BitVec 32 := 4#32
  let v7 : BitVec 1 := Scalar.cmpi .sge arg1 c4_i32
  let c8_i32 : BitVec 32 := 8#32
  let v8 : BitVec 1 := Scalar.cmpi .slt arg1 c8_i32
  let v9 : BitVec 1 := Scalar.andi v7 v8
  let v_true : BitVec 1 := 1#1
  let v10 : BitVec 1 := Scalar.xori v9 v_true
  let c10_i32 : BitVec 32 := 10#32
  let v11 : BitVec 1 := Scalar.cmpi .ne arg1 c10_i32
  let v12 : BitVec 1 := Scalar.andi v10 v11
  let v13 : BitVec 32 := Scalar.extui v12
  let c0_i32_5 : BitVec 32 := 0#32
  let v14 : BitVec 1 := Scalar.cmpi .ne v13 c0_i32_5
  v14

def k0_cond3 (i : grid0.Coords) : BitVec 1 :=
  let arg1 : BitVec 32 := BitVec.ofNat 32 (i 1).val
  let c4_i32 : BitVec 32 := 4#32
  let v7 : BitVec 1 := Scalar.cmpi .sge arg1 c4_i32
  let c8_i32 : BitVec 32 := 8#32
  let v8 : BitVec 1 := Scalar.cmpi .slt arg1 c8_i32
  let v9 : BitVec 1 := Scalar.andi v7 v8
  let v15 : BitVec 32 := Scalar.extui v9
  let c0_i32_6 : BitVec 32 := 0#32
  let v16 : BitVec 1 := Scalar.cmpi .ne v15 c0_i32_6
  v16

def k0_cond4 (i : grid0.Coords) : BitVec 1 :=
  let arg1 : BitVec 32 := BitVec.ofNat 32 (i 1).val
  let c10_i32_7 : BitVec 32 := 10#32
  let v17 : BitVec 1 := Scalar.cmpi .eq arg1 c10_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8704x2048 : Shape := ⟨2, ![8704, 2048]⟩
abbrev S2x2048 : Shape := ⟨2, ![2, 2048]⟩
abbrev S2x2048x5136 : Shape := ⟨3, ![2, 2048, 5136]⟩
abbrev S2x8 : Shape := ⟨2, ![2, 8]⟩
abbrev S2x128 : Shape := ⟨2, ![2, 128]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S1x2048x5136 : Shape := ⟨3, ![1, 2048, 5136]⟩
abbrev S2048x5136 : Shape := ⟨2, ![2048, 5136]⟩
abbrev S8704x5136 : Shape := ⟨2, ![8704, 5136]⟩
abbrev S8704x1536 : Shape := ⟨2, ![8704, 1536]⟩
abbrev S8704x8 : Shape := ⟨2, ![8704, 8]⟩
abbrev S8704x512 : Shape := ⟨2, ![8704, 512]⟩
abbrev S8704x1024 : Shape := ⟨2, ![8704, 1024]⟩
abbrev S8704x8x128 : Shape := ⟨3, ![8704, 8, 128]⟩
abbrev S8704x8x1 : Shape := ⟨3, ![8704, 8, 1]⟩
abbrev S1x128 : Shape := ⟨2, ![1, 128]⟩
abbrev S128 : Shape := ⟨1, ![128]⟩
abbrev S1x1x128 : Shape := ⟨3, ![1, 1, 128]⟩
abbrev S1x8 : Shape := ⟨2, ![1, 8]⟩
abbrev S8 : Shape := ⟨1, ![8]⟩
abbrev S8704x120 : Shape := ⟨2, ![8704, 120]⟩
abbrev S8704x384 : Shape := ⟨2, ![8704, 384]⟩
abbrev S8704x5632 : Shape := ⟨2, ![8704, 5632]⟩

abbrev nBuf : Space → Nat
  | .hbm => 121
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x5136, .f32⟩
  | .hbm, ⟨3, _⟩ => ⟨S2x8, .f32⟩
  | .hbm, ⟨4, _⟩ => ⟨S2x128, .f32⟩
  | .hbm, ⟨5, _⟩ => ⟨S2x128, .f32⟩
  | .hbm, ⟨6, _⟩ => ⟨S2x8, .f32⟩
  | .hbm, ⟨7, _⟩ => ⟨S8704x2048, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8704x2048, .f32⟩
  | .hbm, ⟨24, _⟩ => ⟨S8704x2048, .f32⟩
  | .hbm, ⟨25, _⟩ => ⟨S1x2048x5136, .f32⟩
  | .hbm, ⟨26, _⟩ => ⟨S2048x5136, .f32⟩
  | .hbm, ⟨27, _⟩ => ⟨S8704x5136, .f32⟩
  | .hbm, ⟨28, _⟩ => ⟨S8704x1536, .f32⟩
  | .hbm, ⟨29, _⟩ => ⟨S8704x8, .f32⟩
  | .hbm, ⟨30, _⟩ => ⟨S8704x512, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x8, .f32⟩
  | .hbm, ⟨35, _⟩ => ⟨S8704x8x128, .f32⟩
  | .hbm, ⟨36, _⟩ => ⟨S8704x8x128, .f32⟩
  | .hbm, ⟨37, _⟩ => ⟨S8704x8x128, .f32⟩
  | .hbm, ⟨38, _⟩ => ⟨S_, .f32⟩
  | .hbm, ⟨39, _⟩ => ⟨S8704x8, .f32⟩
  | .hbm, ⟨40, _⟩ => ⟨S8704x8x1, .f32⟩
  | .hbm, ⟨41, _⟩ => ⟨S_, .f32⟩
  | .hbm, ⟨42, _⟩ => ⟨S8704x8x1, .f32⟩
  | .hbm, ⟨43, _⟩ => ⟨S8704x8x1, .f32⟩
  | .hbm, ⟨44, _⟩ => ⟨S_, .f32⟩
  | .hbm, ⟨45, _⟩ => ⟨S8704x8x1, .f32⟩
  | .hbm, ⟨46, _⟩ => ⟨S8704x8x1, .f32⟩
  | .hbm, ⟨47, _⟩ => ⟨S8704x8x1, .f32⟩
  | .hbm, ⟨48, _⟩ => ⟨S8704x8x128, .f32⟩
  | .hbm, ⟨49, _⟩ => ⟨S8704x8x128, .f32⟩
  | .hbm, ⟨50, _⟩ => ⟨S1x128, .f32⟩
  | .hbm, ⟨51, _⟩ => ⟨S128, .f32⟩
  | .hbm, ⟨52, _⟩ => ⟨S1x1x128, .f32⟩
  | .hbm, ⟨53, _⟩ => ⟨S8704x8x128, .f32⟩
  | .hbm, ⟨54, _⟩ => ⟨S8704x8x128, .f32⟩
  | .hbm, ⟨55, _⟩ => ⟨S8704x8x128, .f32⟩
  | .hbm, ⟨56, _⟩ => ⟨S_, .f32⟩
  | .hbm, ⟨57, _⟩ => ⟨S8704x8, .f32⟩
  | .hbm, ⟨58, _⟩ => ⟨S8704x8x1, .f32⟩
  | .hbm, ⟨59, _⟩ => ⟨S_, .f32⟩
  | .hbm, ⟨60, _⟩ => ⟨S8704x8x1, .f32⟩
  | .hbm, ⟨61, _⟩ => ⟨S8704x8x1, .f32⟩
  | .hbm, ⟨62, _⟩ => ⟨S_, .f32⟩
  | .hbm, ⟨63, _⟩ => ⟨S8704x8x1, .f32⟩
  | .hbm, ⟨64, _⟩ => ⟨S8704x8x1, .f32⟩
  | .hbm, ⟨65, _⟩ => ⟨S8704x8x1, .f32⟩
  | .hbm, ⟨66, _⟩ => ⟨S8704x8x128, .f32⟩
  | .hbm, ⟨67, _⟩ => ⟨S8704x8x128, .f32⟩
  | .hbm, ⟨68, _⟩ => ⟨S1x128, .f32⟩
  | .hbm, ⟨69, _⟩ => ⟨S128, .f32⟩
  | .hbm, ⟨70, _⟩ => ⟨S1x1x128, .f32⟩
  | .hbm, ⟨71, _⟩ => ⟨S8704x8x128, .f32⟩
  | .hbm, ⟨72, _⟩ => ⟨S8704x8x128, .f32⟩
  | .hbm, ⟨73, _⟩ => ⟨S1x8, .f32⟩
  | .hbm, ⟨74, _⟩ => ⟨S8, .f32⟩
  | .hbm, ⟨75, _⟩ => ⟨S1x8, .f32⟩
  | .hbm, ⟨76, _⟩ => ⟨S8704x8, .f32⟩
  | .hbm, ⟨77, _⟩ => ⟨S8704x8, .f32⟩
  | .hbm, ⟨78, _⟩ => ⟨S_, .f32⟩
  | .hbm, ⟨79, _⟩ => ⟨S8704x8, .f32⟩
  | .hbm, ⟨80, _⟩ => ⟨S8704x8, .f32⟩
  | .hbm, ⟨81, _⟩ => ⟨S8704x8, .f32⟩
  | .hbm, ⟨82, _⟩ => ⟨S8704x8, .f32⟩
  | .hbm, ⟨83, _⟩ => ⟨S8704x8, .i1⟩
  | .hbm, ⟨84, _⟩ => ⟨S8704x8, .f32⟩
  | .hbm, ⟨85, _⟩ => ⟨S8704x8, .f32⟩
  | .hbm, ⟨86, _⟩ => ⟨S8704x8, .f32⟩
  | .hbm, ⟨87, _⟩ => ⟨S8704x8, .f32⟩
  | .hbm, ⟨88, _⟩ => ⟨S8704x8, .f32⟩
  | .hbm, ⟨89, _⟩ => ⟨S8704x8, .f32⟩
  | .hbm, ⟨90, _⟩ => ⟨S8704x8, .f32⟩
  | .hbm, ⟨91, _⟩ => ⟨S8704x8, .f32⟩
  | .hbm, ⟨92, _⟩ => ⟨S1x8, .f32⟩
  | .hbm, ⟨93, _⟩ => ⟨S8, .f32⟩
  | .hbm, ⟨94, _⟩ => ⟨S1x8, .f32⟩
  | .hbm, ⟨95, _⟩ => ⟨S8704x8, .f32⟩
  | .hbm, ⟨96, _⟩ => ⟨S8704x8, .f32⟩
  | .hbm, ⟨97, _⟩ => ⟨S_, .i32⟩
  | .hbm, ⟨98, _⟩ => ⟨S_, .f32⟩
  | .hbm, ⟨99, _⟩ => ⟨S8704x120, .f32⟩
  | .hbm, ⟨100, _⟩ => ⟨S8704x120, .f32⟩
  | .hbm, ⟨101, _⟩ => ⟨S_, .f32⟩
  | .hbm, ⟨102, _⟩ => ⟨S8704x120, .f32⟩
  | .hbm, ⟨103, _⟩ => ⟨S8704x120, .f32⟩
  | .hbm, ⟨104, _⟩ => ⟨S8704x120, .f32⟩
  | .hbm, ⟨105, _⟩ => ⟨S8704x120, .f32⟩
  | .hbm, ⟨106, _⟩ => ⟨S8704x120, .i1⟩
  | .hbm, ⟨107, _⟩ => ⟨S8704x120, .f32⟩
  | .hbm, ⟨108, _⟩ => ⟨S8704x120, .f32⟩
  | .hbm, ⟨109, _⟩ => ⟨S8704x120, .f32⟩
  | .hbm, ⟨110, _⟩ => ⟨S8704x120, .f32⟩
  | .hbm, ⟨111, _⟩ => ⟨S8704x120, .f32⟩
  | .hbm, ⟨112, _⟩ => ⟨S8704x120, .f32⟩
  | .hbm, ⟨113, _⟩ => ⟨S8704x120, .f32⟩
  | .hbm, ⟨114, _⟩ => ⟨S8704x120, .f32⟩
  | .hbm, ⟨115, _⟩ => ⟨S8704x120, .f32⟩
  | .hbm, ⟨116, _⟩ => ⟨S8704x1024, .f32⟩
  | .hbm, ⟨117, _⟩ => ⟨S8704x1024, .f32⟩
  | .hbm, ⟨118, _⟩ => ⟨S_, .f32⟩
  | .hbm, ⟨119, _⟩ => ⟨S8704x384, .f32⟩
  | .hbm, ⟨120, _⟩ => ⟨S8704x5632, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c : Ref sig .tc := ⟨.hbm, 97, rfl⟩
abbrev main_call1_v0 : Ref sig .tc := ⟨.hbm, 98, rfl⟩
abbrev main_v68 : Ref sig .tc := ⟨.hbm, 99, rfl⟩
abbrev main_call2_v0 : Ref sig .tc := ⟨.hbm, 100, rfl⟩
abbrev main_call2_call0_cst : Ref sig .tc := ⟨.hbm, 101, rfl⟩
abbrev main_call2_call0_v0 : Ref sig .tc := ⟨.hbm, 102, rfl⟩
abbrev main_call2_call0_v1 : Ref sig .tc := ⟨.hbm, 103, rfl⟩
abbrev main_call2_call0_v2 : Ref sig .tc := ⟨.hbm, 104, rfl⟩
abbrev main_call2_call0_v3 : Ref sig .tc := ⟨.hbm, 105, rfl⟩
abbrev main_call2_call0_v4 : Ref sig .tc := ⟨.hbm, 106, rfl⟩
abbrev main_call2_call0_v5 : Ref sig .tc := ⟨.hbm, 107, rfl⟩
abbrev main_call2_call0_v6 : Ref sig .tc := ⟨.hbm, 108, rfl⟩
abbrev main_call2_call0_v7 : Ref sig .tc := ⟨.hbm, 109, rfl⟩
abbrev main_call2_call0_v8 : Ref sig .tc := ⟨.hbm, 110, rfl⟩
abbrev main_call2_call0_v9 : Ref sig .tc := ⟨.hbm, 111, rfl⟩
abbrev main_call2_call0_v10 : Ref sig .tc := ⟨.hbm, 112, rfl⟩
abbrev main_call2_call0_v11 : Ref sig .tc := ⟨.hbm, 113, rfl⟩
abbrev main_call2_v1 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_8 : Ref sig .tc := ⟨.hbm, 118, rfl⟩
abbrev main_v72 : Ref sig .tc := ⟨.hbm, 119, rfl⟩
abbrev main_v73 : Ref sig .tc := ⟨.hbm, 120, rfl⟩

abbrev nD : Nat := 1
abbrev τ : Topo := Topo.v7x

variable {F : FTy → Type} [FloatOps F]
-- ==== Kernel4.lean ====
abbrev S8704x2048 : Shape := ⟨2, ![8704, 2048]⟩
abbrev S8448x512 : Shape := ⟨2, ![8448, 512]⟩
abbrev S8448x1024 : Shape := ⟨2, ![8448, 1024]⟩
abbrev S128x512 : Shape := ⟨2, ![128, 512]⟩
abbrev S128x1024 : Shape := ⟨2, ![128, 1024]⟩
abbrev S2x2048x2048 : Shape := ⟨3, ![2, 2048, 2048]⟩
abbrev S256x2048 : Shape := ⟨2, ![256, 2048]⟩
abbrev S256x512 : Shape := ⟨2, ![256, 512]⟩
abbrev S256x1024 : Shape := ⟨2, ![256, 1024]⟩
abbrev S1x2048x2048 : Shape := ⟨3, ![1, 2048, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8448x512, .bf16⟩
  | .hbm, ⟨2, _⟩ => ⟨S8448x512, .bf16⟩
  | .hbm, ⟨3, _⟩ => ⟨S8448x1024, .bf16⟩
  | .hbm, ⟨4, _⟩ => ⟨S128x512, .bf16⟩
  | .hbm, ⟨5, _⟩ => ⟨S128x512, .bf16⟩
  | .hbm, ⟨6, _⟩ => ⟨S128x1024, .bf16⟩
  | .hbm, ⟨7, _⟩ => ⟨S2x2048x2048, .f32⟩
  | .hbm, ⟨8, _⟩ => ⟨S2x2048x2048, .bf16⟩
  | .hbm, ⟨9, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S128x512, .bf16⟩
  | .local _ .vmem, ⟨9, _⟩ => ⟨S128x512, .bf16⟩
  | .local _ .vmem, ⟨10, _⟩ => ⟨S128x1024, .bf16⟩
  | .local _ .vmem, ⟨11, _⟩ => ⟨S1x2048x2048, .bf16⟩
  | .local _ .vmem, ⟨12, _⟩ => ⟨S256x2048, .f32⟩
  | .local _ .vmem, ⟨13, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c33_i32 : BitVec 32 := 33#32
  let v0 : BitVec 1 := Scalar.cmpi .slt arg0 c33_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c33_i32_0 : BitVec 32 := 33#32
  let v3 : BitVec 1 := Scalar.cmpi .sge arg0 c33_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8704x2048 : Shape := ⟨2, ![8704, 2048]⟩
abbrev S8448x512 : Shape := ⟨2, ![8448, 512]⟩
abbrev S8448x1024 : Shape := ⟨2, ![8448, 1024]⟩
abbrev S128x512 : Shape := ⟨2, ![128, 512]⟩
abbrev S128x1024 : Shape := ⟨2, ![128, 1024]⟩
abbrev S2x2048x2048 : Shape := ⟨3, ![2, 2048, 2048]⟩
abbrev S8448x2048 : Shape := ⟨2, ![8448, 2048]⟩
abbrev S1x2048x2048 : Shape := ⟨3, ![1, 2048, 2048]⟩
abbrev S2048x2048 : Shape := ⟨2, ![2048, 2048]⟩
abbrev S128x2048 : Shape := ⟨2, ![128, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8448x512, .bf16⟩
  | .hbm, ⟨2, _⟩ => ⟨S8448x512, .bf16⟩
  | .hbm, ⟨3, _⟩ => ⟨S8448x1024, .bf16⟩
  | .hbm, ⟨4, _⟩ => ⟨S128x512, .bf16⟩
  | .hbm, ⟨5, _⟩ => ⟨S128x512, .bf16⟩
  | .hbm, ⟨6, _⟩ => ⟨S128x1024, .bf16⟩
  | .hbm, ⟨7, _⟩ => ⟨S2x2048x2048, .f32⟩
  | .hbm, ⟨8, _⟩ => ⟨S8448x2048, .bf16⟩
  | .hbm, ⟨9, _⟩ => ⟨S8448x2048, .f32⟩
  | .hbm, ⟨10, _⟩ => ⟨S1x2048x2048, .f32⟩
  | .hbm, ⟨11, _⟩ => ⟨S2048x2048, .f32⟩
  | .hbm, ⟨12, _⟩ => ⟨S8448x2048, .f32⟩
  | .hbm, ⟨13, _⟩ => ⟨S128x2048, .bf16⟩
  | .hbm, ⟨14, _⟩ => ⟨S128x2048, .f32⟩
  | .hbm, ⟨15, _⟩ => ⟨S1x2048x2048, .f32⟩
  | .hbm, ⟨16, _⟩ => ⟨S2048x2048, .f32⟩
  | .hbm, ⟨17, _⟩ => ⟨S128x2048, .f32⟩
  | .hbm, ⟨18, _⟩ => ⟨S_, .f32⟩
  | .hbm, ⟨19, _⟩ => ⟨S128x2048, .f32⟩
  | .hbm, ⟨20, _⟩ => ⟨S8704x2048, .f32⟩
  | .hbm, ⟨21, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel5.lean ====
abbrev S8704x5632 : Shape := ⟨2, ![8704, 5632]⟩
abbrev S2x128x32x64 : Shape := ⟨4, ![2, 128, 32, 64]⟩
abbrev S8x32x64 : Shape := ⟨3, ![8, 32, 64]⟩
abbrev S32x16x64 : Shape := ⟨3, ![32, 16, 64]⟩
abbrev S2x32x16x64 : Shape := ⟨4, ![2, 32, 16, 64]⟩
abbrev S2x32x16 : Shape := ⟨3, ![2, 32, 16]⟩
abbrev S2x512x512 : Shape := ⟨3, ![2, 512, 512]⟩
abbrev S2x512 : Shape := ⟨2, ![2, 512]⟩
abbrev S32x32 : Shape := ⟨2, ![32, 32]⟩
abbrev S_ : Shape := ⟨0, ![]⟩
abbrev S32x1x32x1 : Shape := ⟨4, ![32, 1, 32, 1]⟩
abbrev S32x16x1x64 : Shape := ⟨4, ![32, 16, 1, 64]⟩
abbrev S32x16x32x64 : Shape := ⟨4, ![32, 16, 32, 64]⟩
abbrev S512x2048 : Shape := ⟨2, ![512, 2048]⟩
abbrev S8x2048 : Shape := ⟨2, ![8, 2048]⟩
abbrev S1x32x16x64 : Shape := ⟨4, ![1, 32, 16, 64]⟩
abbrev S32x64x16 : Shape := ⟨3, ![32, 64, 16]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x32x16 : Shape := ⟨3, ![1, 32, 16]⟩
abbrev S32x16 : Shape := ⟨2, ![32, 16]⟩
abbrev S1x512 : Shape := ⟨2, ![1, 512]⟩
abbrev S1x512x512 : Shape := ⟨3, ![1, 512, 512]⟩
abbrev S512x512 : Shape := ⟨2, ![512, 512]⟩
abbrev S512 : Shape := ⟨1, ![512]⟩
abbrev S1x128x32x64 : Shape := ⟨4, ![1, 128, 32, 64]⟩
abbrev S128x32x64 : Shape := ⟨3, ![128, 32, 64]⟩
abbrev S128x2048 : Shape := ⟨2, ![128, 2048]⟩
abbrev S128x512 : Shape := ⟨2, ![128, 512]⟩
abbrev S1x2048 : Shape := ⟨2, ![1, 2048]⟩
abbrev S128x128 : Shape := ⟨2, ![128, 128]⟩
abbrev S512x128 : Shape := ⟨2, ![512, 128]⟩

abbrev nBuf : Space → Nat
  | .hbm => 94
  | .vmem => 15
  | .smem => 0
  | _ => 0

abbrev bufTy : (tb : Table) → Fin (tcTables nBuf tb) → BufTy
  | .hbm, ⟨0, _⟩ => ⟨S8704x5632, .f32⟩
  | .hbm, ⟨1, _⟩ => ⟨S2x128x32x64, .f32⟩
  | .hbm, ⟨2, _⟩ => ⟨S2x128x32x64, .f32⟩
  | .hbm, ⟨3, _⟩ => ⟨S8x32x64, .f32⟩
  | .hbm, ⟨4, _⟩ => ⟨S8x32x64, .f32⟩
  | .hbm, ⟨5, _⟩ => ⟨S32x16x64, .f32⟩
  | .hbm, ⟨6, _⟩ => ⟨S32x16x64, .f32⟩
  | .hbm, ⟨7, _⟩ => ⟨S2x32x16x64, .f32⟩
  | .hbm, ⟨8, _⟩ => ⟨S2x32x16x64, .f32⟩
  | .hbm, ⟨9, _⟩ => ⟨S2x32x16, .f32⟩
  | .hbm, ⟨10, _⟩ => ⟨S2x512x512, .f32⟩
  | .hbm, ⟨11, _⟩ => ⟨S2x512, .f32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S32x32, .i1⟩
  | .hbm, ⟨18, _⟩ => ⟨S32x32, .f32⟩
  | .hbm, ⟨19, _⟩ => ⟨S32x1x32x1, .f32⟩
  | .hbm, ⟨20, _⟩ => ⟨S32x16x1x64, .f32⟩
  | .hbm, ⟨21, _⟩ => ⟨S32x16x32x64, .f32⟩
  | .hbm, ⟨22, _⟩ => ⟨S32x16x32x64, .f32⟩
  | .hbm, ⟨23, _⟩ => ⟨S32x16x32x64, .f32⟩
  | .hbm, ⟨24, _⟩ => ⟨S512x2048, .f32⟩
  | .hbm, ⟨25, _⟩ => ⟨S512x2048, .bf16⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S32x32, .i1⟩
  | .hbm, ⟨32, _⟩ => ⟨S32x32, .f32⟩
  | .hbm, ⟨33, _⟩ => ⟨S32x1x32x1, .f32⟩
  | .hbm, ⟨34, _⟩ => ⟨S32x16x1x64, .f32⟩
  | .hbm, ⟨35, _⟩ => ⟨S32x16x32x64, .f32⟩
  | .hbm, ⟨36, _⟩ => ⟨S32x16x32x64, .f32⟩
  | .hbm, ⟨37, _⟩ => ⟨S32x16x32x64, .f32⟩
  | .hbm, ⟨38, _⟩ => ⟨S512x2048, .f32⟩
  | .hbm, ⟨39, _⟩ => ⟨S512x2048, .bf16⟩
  | .hbm, ⟨40, _⟩ => ⟨S8x2048, .f32⟩
  | .hbm, ⟨41, _⟩ => ⟨S8x2048, .f32⟩
  | .hbm, ⟨42, _⟩ => ⟨S1x32x16x64, .f32⟩
  | .hbm, ⟨43, _⟩ => ⟨S32x16x64, .f32⟩
  | .hbm, ⟨44, _⟩ => ⟨S32x64x16, .f32⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S32x1x32x1, .f32⟩
  | .hbm, ⟨53, _⟩ => ⟨S32x64x1x16, .f32⟩
  | .hbm, ⟨54, _⟩ => ⟨S32x64x32x16, .f32⟩
  | .hbm, ⟨55, _⟩ => ⟨S32x64x32x16, .f32⟩
  | .hbm, ⟨56, _⟩ => ⟨S32x64x32x16, .f32⟩
  | .hbm, ⟨57, _⟩ => ⟨S2048x512, .f32⟩
  | .hbm, ⟨58, _⟩ => ⟨S2048x512, .bf16⟩
  | .hbm, ⟨59, _⟩ => ⟨S1x32x16x64, .f32⟩
  | .hbm, ⟨60, _⟩ => ⟨S32x16x64, .f32⟩
  | .hbm, ⟨61, _⟩ => ⟨S32x64x16, .f32⟩
  | .hbm, ⟨62, _⟩ => ⟨S32x32, .i32⟩
  | .hbm, ⟨63, _⟩ => ⟨S32x32, .i32⟩
  | .hbm, ⟨64, _⟩ => ⟨S_, .i32⟩
  | .hbm, ⟨65, _⟩ => ⟨S32x32, .i32⟩
  | .hbm, ⟨66, _⟩ => ⟨S32x32, .i32⟩
  | .hbm, ⟨67, _⟩ => ⟨S32x32, .i1⟩
  | .hbm, ⟨68, _⟩ => ⟨S32x32, .f32⟩
  | .hbm, ⟨69, _⟩ => ⟨S32x1x32x1, .f32⟩
  | .hbm, ⟨70, _⟩ => ⟨S32x64x1x16, .f32⟩
  | .hbm, ⟨71, _⟩ => ⟨S32x64x32x16, .f32⟩
  | .hbm, ⟨72, _⟩ => ⟨S32x64x32x16, .f32⟩
  | .hbm, ⟨73, _⟩ => ⟨S32x64x32x16, .f32⟩
  | .hbm, ⟨74, _⟩ => ⟨S2048x512, .f32⟩
  | .hbm, ⟨75, _⟩ => ⟨S2048x512, .bf16⟩
  | .hbm, ⟨76, _⟩ => ⟨S1x32x16, .f32⟩
  | .hbm, ⟨77, _⟩ => ⟨S32x16, .f32⟩
  | .hbm, ⟨78, _⟩ => ⟨S1x512, .f32⟩
  | .hbm, ⟨79, _⟩ => ⟨S1x512x512, .f32⟩
  | .hbm, ⟨80, _⟩ => ⟨S512x512, .f32⟩
  | .hbm, ⟨81, _⟩ => ⟨S512x512, .bf16⟩
  | .hbm, ⟨82, _⟩ => ⟨S1x512, .f32⟩
  | .hbm, ⟨83, _⟩ => ⟨S512, .f32⟩
  | .hbm, ⟨84, _⟩ => ⟨S1x512, .f32⟩
  | .hbm, ⟨85, _⟩ => ⟨S1x128x32x64, .f32⟩
  | .hbm, ⟨86, _⟩ => ⟨S128x32x64, .f32⟩
  | .hbm, ⟨87, _⟩ => ⟨S128x2048, .f32⟩
  | .hbm, ⟨88, _⟩ => ⟨S1x128x32x64, .f32⟩
  | .hbm, ⟨89, _⟩ => ⟨S128x32x64, .f32⟩
  | .hbm, ⟨90, _⟩ => ⟨S128x2048, .f32⟩
  | .hbm, ⟨91, _⟩ => ⟨S128x512, .bf16⟩
  | .hbm, ⟨92, _⟩ => ⟨S128x2048, .f32⟩
  | .hbm, ⟨93, _⟩ => ⟨S128x2048, .f32⟩
  | .local _ .vmem, ⟨0, _⟩ => ⟨S128x512, .f32⟩
  | .local _ .vmem, ⟨1, _⟩ => ⟨S128x2048, .f32⟩
  | .local _ .vmem, ⟨2, _⟩ => ⟨S128x2048, .f32⟩
  | .local _ .vmem, ⟨3, _⟩ => ⟨S512x2048, .bf16⟩
  | .local _ .vmem, ⟨4, _⟩ => ⟨S512x2048, .bf16⟩
  | .local _ .vmem, ⟨5, _⟩ => ⟨S8x2048, .f32⟩
  | .local _ .vmem, ⟨6, _⟩ => ⟨S8x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S128x512, .bf16⟩
  | .local _ .vmem, ⟨13, _⟩ => ⟨S128x2048, .f32⟩
  | .local _ .vmem, ⟨14, _⟩ => ⟨S128x2048, .f32⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75_0 : Ref sig .tc := ⟨.hbm, 91, rfl⟩
abbrev main_v75_1 : Ref sig .tc := ⟨.hbm, 92, rfl⟩
abbrev main_v75_2 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c66_i32 : BitVec 32 := 66#32
  let c3_i32 : BitVec 32 := 3#32
  let c0_i32 : BitVec 32 := 0#32
  ![c66_i32.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S8704x5632 : Shape := ⟨2, ![8704, 5632]⟩
abbrev S2x128x32x64 : Shape := ⟨4, ![2, 128, 32, 64]⟩
abbrev S8x32x64 : Shape := ⟨3, ![8, 32, 64]⟩
abbrev S32x16x64 : Shape := ⟨3, ![32, 16, 64]⟩
abbrev S2x32x16x64 : Shape := ⟨4, ![2, 32, 16, 64]⟩
abbrev S2x32x16 : Shape := ⟨3, ![2, 32, 16]⟩
abbrev S2x512x512 : Shape := ⟨3, ![2, 512, 512]⟩
abbrev S2x512 : Shape := ⟨2, ![2, 512]⟩
abbrev S128x512 : Shape := ⟨2, ![128, 512]⟩
abbrev S1x32x64 : Shape := ⟨3, ![1, 32, 64]⟩
abbrev S32x64 : Shape := ⟨2, ![32, 64]⟩
abbrev S1x32x16x64 : Shape := ⟨4, ![1, 32, 16, 64]⟩
abbrev S1x32x16 : Shape := ⟨3, ![1, 32, 16]⟩
abbrev S32x16 : Shape := ⟨2, ![32, 16]⟩
abbrev S128x1x32x16 : Shape := ⟨4, ![128, 1, 32, 16]⟩
abbrev S32x128x1x64 : Shape := ⟨4, ![32, 128, 1, 64]⟩
abbrev S128x1x32x64 : Shape := ⟨4, ![128, 1, 32, 64]⟩
abbrev S1x128x32x64 : Shape := ⟨4, ![1, 128, 32, 64]⟩
abbrev S128x32x64 : Shape := ⟨3, ![128, 32, 64]⟩
abbrev S32x128x1x16 : Shape := ⟨4, ![32, 128, 1, 16]⟩
abbrev S1x1x32x16 : Shape := ⟨4, ![1, 1, 32, 16]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S128x2048 : Shape := ⟨2, ![128, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S2x128x32x64, .f32⟩
  | .hbm, ⟨2, _⟩ => ⟨S2x128x32x64, .f32⟩
  | .hbm, ⟨3, _⟩ => ⟨S8x32x64, .f32⟩
  | .hbm, ⟨4, _⟩ => ⟨S8x32x64, .f32⟩
  | .hbm, ⟨5, _⟩ => ⟨S32x16x64, .f32⟩
  | .hbm, ⟨6, _⟩ => ⟨S32x16x64, .f32⟩
  | .hbm, ⟨7, _⟩ => ⟨S2x32x16x64, .f32⟩
  | .hbm, ⟨8, _⟩ => ⟨S2x32x16x64, .f32⟩
  | .hbm, ⟨9, _⟩ => ⟨S2x32x16, .f32⟩
  | .hbm, ⟨10, _⟩ => ⟨S2x512x512, .f32⟩
  | .hbm, ⟨11, _⟩ => ⟨S2x512, .f32⟩
  | .hbm, ⟨12, _⟩ => ⟨S128x512, .f32⟩
  | .hbm, ⟨13, _⟩ => ⟨S1x32x64, .f32⟩
  | .hbm, ⟨14, _⟩ => ⟨S32x64, .f32⟩
  | .hbm, ⟨15, _⟩ => ⟨S1x32x64, .f32⟩
  | .hbm, ⟨16, _⟩ => ⟨S32x64, .f32⟩
  | .hbm, ⟨17, _⟩ => ⟨S1x32x16x64, .f32⟩
  | .hbm, ⟨18, _⟩ => ⟨S32x16x64, .f32⟩
  | .hbm, ⟨19, _⟩ => ⟨S1x32x16x64, .f32⟩
  | .hbm, ⟨20, _⟩ => ⟨S32x16x64, .f32⟩
  | .hbm, ⟨21, _⟩ => ⟨S1x32x16, .f32⟩
  | .hbm, ⟨22, _⟩ => ⟨S32x16, .f32⟩
  | .hbm, ⟨23, _⟩ => ⟨S128x1x32x16, .f32⟩
  | .hbm, ⟨24, _⟩ => ⟨S32x128x1x64, .f32⟩
  | .hbm, ⟨25, _⟩ => ⟨S128x1x32x64, .f32⟩
  | .hbm, ⟨26, _⟩ => ⟨S32x128x1x64, .f32⟩
  | .hbm, ⟨27, _⟩ => ⟨S128x1x32x64, .f32⟩
  | .hbm, ⟨28, _⟩ => ⟨S128x1x32x64, .f32⟩
  | .hbm, ⟨29, _⟩ => ⟨S128x1x32x64, .f32⟩
  | .hbm, ⟨30, _⟩ => ⟨S1x128x32x64, .f32⟩
  | .hbm, ⟨31, _⟩ => ⟨S128x32x64, .f32⟩
  | .hbm, ⟨32, _⟩ => ⟨S128x1x32x64, .f32⟩
  | .hbm, ⟨33, _⟩ => ⟨S1x128x32x64, .f32⟩
  | .hbm, ⟨34, _⟩ => ⟨S128x32x64, .f32⟩
  | .hbm, ⟨35, _⟩ => ⟨S128x1x32x64, .f32⟩
  | .hbm, ⟨36, _⟩ => ⟨S128x1x32x64, .f32⟩
  | .hbm, ⟨37, _⟩ => ⟨S128x1x32x64, .f32⟩
  | .hbm, ⟨38, _⟩ => ⟨S128x1x32x64, .f32⟩
  | .hbm, ⟨39, _⟩ => ⟨S128x1x32x64, .f32⟩
  | .hbm, ⟨40, _⟩ => ⟨S128x1x32x64, .f32⟩
  | .hbm, ⟨41, _⟩ => ⟨S128x1x32x64, .f32⟩
  | .hbm, ⟨42, _⟩ => ⟨S128x1x32x64, .f32⟩
  | .hbm, ⟨43, _⟩ => ⟨S128x1x32x64, .f32⟩
  | .hbm, ⟨44, _⟩ => ⟨S32x128x1x16, .f32⟩
  | .hbm, ⟨45, _⟩ => ⟨S128x1x32x16, .f32⟩
  | .hbm, ⟨46, _⟩ => ⟨S32x128x1x16, .f32⟩
  | .hbm, ⟨47, _⟩ => ⟨S128x1x32x16, .f32⟩
  | .hbm, ⟨48, _⟩ => ⟨S128x1x32x16, .f32⟩
  | .hbm, ⟨49, _⟩ => ⟨S1x1x32x16, .f32⟩
  | .hbm, ⟨50, _⟩ => ⟨S128x1x32x16, .f32⟩
  | .hbm, ⟨51, _⟩ => ⟨S128x1x32x16, .f32⟩
  | .hbm, ⟨52, _⟩ => ⟨S128x1x32x16, .f32⟩
  | .hbm, ⟨53, _⟩ => ⟨S128x512, .f32⟩
  | .hbm, ⟨54, _⟩ => ⟨S128x512, .f32⟩
  | .hbm, ⟨55, _⟩ => ⟨S128x512, .f32⟩
  | .hbm, ⟨56, _⟩ => ⟨S_, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S_, .f32⟩
  | .hbm, ⟨61, _⟩ => ⟨S128x512, .f32⟩
  | .hbm, ⟨62, _⟩ => ⟨S128x512, .f32⟩
  | .hbm, ⟨63, _⟩ => ⟨S128x512, .f32⟩
  | .hbm, ⟨64, _⟩ => ⟨S_, .f32⟩
  | .hbm, ⟨65, _⟩ => ⟨S128x512, .f32⟩
  | .hbm, ⟨66, _⟩ => ⟨S128x512, .f32⟩
  | .hbm, ⟨67, _⟩ => ⟨S_, .f32⟩
  | .hbm, ⟨68, _⟩ => ⟨S128x512, .f32⟩
  | .hbm, ⟨69, _⟩ => ⟨S128x512, .f32⟩
  | .hbm, ⟨70, _⟩ => ⟨S128x512, .f32⟩
  | .hbm, ⟨71, _⟩ => ⟨S1x512x512, .f32⟩
  | .hbm, ⟨72, _⟩ => ⟨S512x512, .f32⟩
  | .hbm, ⟨73, _⟩ => ⟨S128x512, .f32⟩
  | .hbm, ⟨74, _⟩ => ⟨S1x512, .f32⟩
  | .hbm, ⟨75, _⟩ => ⟨S512, .f32⟩
  | .hbm, ⟨76, _⟩ => ⟨S1x512, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S_, .f32⟩
  | .hbm, ⟨82, _⟩ => ⟨S128x512, .f32⟩
  | .hbm, ⟨83, _⟩ => ⟨S128x512, .f32⟩
  | .hbm, ⟨84, _⟩ => ⟨S_, .f32⟩
  | .hbm, ⟨85, _⟩ => ⟨S128x512, .f32⟩
  | .hbm, ⟨86, _⟩ => ⟨S128x512, .f32⟩
  | .hbm, ⟨87, _⟩ => ⟨S128x512, .f32⟩
  | .hbm, ⟨88, _⟩ => ⟨S128x512, .bf16⟩
  | .hbm, ⟨89, _⟩ => ⟨S128x32x64, .f32⟩
  | .hbm, ⟨90, _⟩ => ⟨S128x2048, .f32⟩
  | .hbm, ⟨91, _⟩ => ⟨S128x32x64, .f32⟩
  | .hbm, ⟨92, _⟩ => ⟨S128x2048, .f32⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_3 : Ref sig .tc := ⟨.hbm, 81, rfl⟩
abbrev main_v65 : Ref sig .tc := ⟨.hbm, 82, rfl⟩
abbrev main_v66 : Ref sig .tc := ⟨.hbm, 83, rfl⟩
abbrev main_cst_4 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Kernel6.lean ====
abbrev S8704x5632 : Shape := ⟨2, ![8704, 5632]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S1x2x4224x1024 : Shape := ⟨4, ![1, 2, 4224, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x8 : Shape := ⟨2, ![1, 8]⟩
abbrev S8 : Shape := ⟨1, ![8]⟩
abbrev S_ : Shape := ⟨0, ![]⟩
abbrev S120 : Shape := ⟨1, ![120]⟩
abbrev S128 : Shape := ⟨1, ![128]⟩
abbrev S1x128 : Shape := ⟨2, ![1, 128]⟩
abbrev S8x64 : Shape := ⟨2, ![8, 64]⟩
abbrev S512 : Shape := ⟨1, ![512]⟩
abbrev S1x512 : Shape := ⟨2, ![1, 512]⟩
abbrev S8448x512 : Shape := ⟨2, ![8448, 512]⟩
abbrev S2x8x4224 : Shape := ⟨3, ![2, 8, 4224]⟩
abbrev S2x8x128x64 : Shape := ⟨4, ![2, 8, 128, 64]⟩
abbrev S2x3x1024 : Shape := ⟨3, ![2, 3, 1024]⟩
abbrev S2x2x4224x1024 : Shape := ⟨4, ![2, 2, 4224, 1024]⟩
abbrev S2x4224x8 : Shape := ⟨3, ![2, 4224, 8]⟩
abbrev S128x512 : Shape := ⟨2, ![128, 512]⟩
abbrev S128x128 : Shape := ⟨2, ![128, 128]⟩
abbrev S128x1024 : Shape := ⟨2, ![128, 1024]⟩
abbrev S1x1x128x1024 : Shape := ⟨4, ![1, 1, 128, 1024]⟩
abbrev S1x8x128 : Shape := ⟨3, ![1, 8, 128]⟩
abbrev S1x8x128x64 : Shape := ⟨4, ![1, 8, 128, 64]⟩
abbrev S1x3x1024 : Shape := ⟨3, ![1, 3, 1024]⟩
abbrev S2x1x128x1024 : Shape := ⟨4, ![2, 1, 128, 1024]⟩
abbrev S1x128x8 : Shape := ⟨3, ![1, 128, 8]⟩
abbrev S136x1024 : Shape := ⟨2, ![136, 1024]⟩
abbrev S8x128x64 : Shape := ⟨3, ![8, 128, 64]⟩
abbrev S8x128 : Shape := ⟨2, ![8, 128]⟩
abbrev S1x128x1024 : Shape := ⟨3, ![1, 128, 1024]⟩
abbrev S128x8 : Shape := ⟨2, ![128, 8]⟩
abbrev S8x1024 : Shape := ⟨2, ![8, 1024]⟩
abbrev S3x1024 : Shape := ⟨2, ![3, 1024]⟩
abbrev S128x64 : Shape := ⟨2, ![128, 64]⟩
abbrev S128x1 : Shape := ⟨2, ![128, 1]⟩
abbrev S1x128x64 : Shape := ⟨3, ![1, 128, 64]⟩
abbrev S1x1 : Shape := ⟨2, ![1, 1]⟩
abbrev S1x64 : Shape := ⟨2, ![1, 64]⟩
abbrev S128x256 : Shape := ⟨2, ![128, 256]⟩
abbrev S1x256 : Shape := ⟨2, ![1, 256]⟩

abbrev nBuf : Space → Nat
  | .hbm => 34
  | .vmem => 39
  | .smem => 0
  | _ => 0

abbrev bufTy : (tb : Table) → Fin (tcTables nBuf tb) → BufTy
  | .hbm, ⟨0, _⟩ => ⟨S8704x5632, .f32⟩
  | .hbm, ⟨1, _⟩ => ⟨S2x4x1024, .f32⟩
  | .hbm, ⟨2, _⟩ => ⟨S2x1024, .f32⟩
  | .hbm, ⟨3, _⟩ => ⟨S2x8, .f32⟩
  | .hbm, ⟨4, _⟩ => ⟨S2x8, .f32⟩
  | .hbm, ⟨5, _⟩ => ⟨S2x512, .f32⟩
  | .hbm, ⟨6, _⟩ => ⟨S1x2x4224x1024, .f32⟩
  | .hbm, ⟨7, _⟩ => ⟨S1x2x4224x1024, .f32⟩
  | .hbm, ⟨8, _⟩ => ⟨S1x4x1024, .f32⟩
  | .hbm, ⟨9, _⟩ => ⟨S4x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x8, .f32⟩
  | .hbm, ⟨14, _⟩ => ⟨S8, .f32⟩
  | .hbm, ⟨15, _⟩ => ⟨S_, .f32⟩
  | .hbm, ⟨16, _⟩ => ⟨S120, .f32⟩
  | .hbm, ⟨17, _⟩ => ⟨S128, .f32⟩
  | .hbm, ⟨18, _⟩ => ⟨S1x128, .f32⟩
  | .hbm, ⟨19, _⟩ => ⟨S1x8, .f32⟩
  | .hbm, ⟨20, _⟩ => ⟨S8, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8448x512, .bf16⟩
  | .hbm, ⟨28, _⟩ => ⟨S2x8x4224, .f32⟩
  | .hbm, ⟨29, _⟩ => ⟨S2x8x128x64, .f32⟩
  | .hbm, ⟨30, _⟩ => ⟨S2x3x1024, .f32⟩
  | .hbm, ⟨31, _⟩ => ⟨S2x2x4224x1024, .f32⟩
  | .hbm, ⟨32, _⟩ => ⟨S2x2x4224x1024, .f32⟩
  | .hbm, ⟨33, _⟩ => ⟨S2x4224x8, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S4x1024, .f32⟩
  | .local _ .vmem, ⟨13, _⟩ => ⟨S1x1024, .f32⟩
  | .local _ .vmem, ⟨14, _⟩ => ⟨S1x128, .f32⟩
  | .local _ .vmem, ⟨15, _⟩ => ⟨S1x512, .f32⟩
  | .local _ .vmem, ⟨16, _⟩ => ⟨S1x512, .f32⟩
  | .local _ .vmem, ⟨17, _⟩ => ⟨S1x1x128x1024, .f32⟩
  | .local _ .vmem, ⟨18, _⟩ => ⟨S1x1x128x1024, .f32⟩
  | .local _ .vmem, ⟨19, _⟩ => ⟨S1x1x128x1024, .f32⟩
  | .local _ .vmem, ⟨20, _⟩ => ⟨S1x1x128x1024, .f32⟩
  | .local _ .vmem, ⟨21, _⟩ => ⟨S128x512, .bf16⟩
  | .local _ .vmem, ⟨22, _⟩ => ⟨S128x512, .bf16⟩
  | .local _ .vmem, ⟨23, _⟩ => ⟨S1x8x128, .f32⟩
  | .local _ .vmem, ⟨24, _⟩ => ⟨S1x8x128, .f32⟩
  | .local _ .vmem, ⟨25, _⟩ => ⟨S1x8x128x64, .f32⟩
  | .local _ .vmem, ⟨26, _⟩ => ⟨S1x8x128x64, .f32⟩
  | .local _ .vmem, ⟨27, _⟩ => ⟨S1x3x1024, .f32⟩
  | .local _ .vmem, ⟨28, _⟩ => ⟨S1x3x1024, .f32⟩
  | .local _ .vmem, ⟨29, _⟩ => ⟨S2x1x128x1024, .f32⟩
  | .local _ .vmem, ⟨30, _⟩ => ⟨S2x1x128x1024, .f32⟩
  | .local _ .vmem, ⟨31, _⟩ => ⟨S2x1x128x1024, .f32⟩
  | .local _ .vmem, ⟨32, _⟩ => ⟨S2x1x128x1024, .f32⟩
  | .local _ .vmem, ⟨33, _⟩ => ⟨S1x128x8, .f32⟩
  | .local _ .vmem, ⟨34, _⟩ => ⟨S1x128x8, .f32⟩
  | .local _ .vmem, ⟨35, _⟩ => ⟨S136x1024, .f32⟩
  | .local _ .vmem, ⟨36, _⟩ => ⟨S8x128x64, .f32⟩
  | .local _ .vmem, ⟨37, _⟩ => ⟨S8x128, .f32⟩
  | .local _ .vmem, ⟨38, _⟩ => ⟨S128x512, .f32⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![2, 33], ![false, false]⟩

def k0_cond3 (i : grid0.Coords) : BitVec 1 :=
  let arg1 : BitVec 32 := BitVec.ofNat 32 (i 1).val
  let c32_i32_195 : BitVec 32 := 32#32
  let v541 : BitVec 1 := Scalar.cmpi .eq arg1 c32_i32_195
  let v542 : BitVec 32 := Scalar.extui v541
  let c0_i32_196 : BitVec 32 := 0#32
  let v543 : BitVec 1 := Scalar.cmpi .ne v542 c0_i32_196
  v543

def k0_cond2 (i : grid0.Coords) : BitVec 1 :=
  let arg1 : BitVec 32 := BitVec.ofNat 32 (i 1).val
  let c32_i32 : BitVec 32 := 32#32
  let v62 : BitVec 1 := Scalar.cmpi .eq arg1 c32_i32
  let v63 : BitVec 32 := Scalar.extui v62
  let c0_i32_51 : BitVec 32 := 0#32
  let v64 : BitVec 1 := Scalar.cmpi .ne v63 c0_i32_51
  v64

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c40_i32 : BitVec 32 := 40#32
  let c0_i32 : BitVec 32 := 0#32
  ![v1.toNat, c40_i32.toNat]

def cc0_transform_4 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c4_i32 : BitVec 32 := 4#32
  let c0_i32 : BitVec 32 := 0#32
  ![v1.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x3x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S2x1x128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference6Ideal.lean ====
abbrev S8704x5632 : Shape := ⟨2, ![8704, 5632]⟩
abbrev S2x4x1024 : Shape := ⟨3, ![2, 4, 1024]⟩
abbrev S2x1024 : Shape := ⟨2, ![2, 1024]⟩
abbrev S2x8 : Shape := ⟨2, ![2, 8]⟩
abbrev S2x512 : Shape := ⟨2, ![2, 512]⟩
abbrev S1x2x4224x1024 : Shape := ⟨4, ![1, 2, 4224, 1024]⟩
abbrev S8448x5632 : Shape := ⟨2, ![8448, 5632]⟩
abbrev S2x4224x5632 : Shape := ⟨3, ![2, 4224, 5632]⟩
abbrev S2x4112x1024 : Shape := ⟨3, ![2, 4112, 1024]⟩
abbrev S_ : Shape := ⟨0, ![]⟩
abbrev S2x3x1024 : Shape := ⟨3, ![2, 3, 1024]⟩
abbrev S2x4115x1024 : Shape := ⟨3, ![2, 4115, 1024]⟩
abbrev S2x4224x1024 : Shape := ⟨3, ![2, 4224, 1024]⟩
abbrev S2x2x4224x1024 : Shape := ⟨4, ![2, 2, 4224, 1024]⟩
abbrev S2x4224x8 : Shape := ⟨3, ![2, 4224, 8]⟩

abbrev nBuf : Space → Nat
  | .hbm => 22
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S2x4x1024, .f32⟩
  | .hbm, ⟨2, _⟩ => ⟨S2x1024, .f32⟩
  | .hbm, ⟨3, _⟩ => ⟨S2x8, .f32⟩
  | .hbm, ⟨4, _⟩ => ⟨S2x8, .f32⟩
  | .hbm, ⟨5, _⟩ => ⟨S2x512, .f32⟩
  | .hbm, ⟨6, _⟩ => ⟨S1x2x4224x1024, .f32⟩
  | .hbm, ⟨7, _⟩ => ⟨S1x2x4224x1024, .f32⟩
  | .hbm, ⟨8, _⟩ => ⟨S8448x5632, .f32⟩
  | .hbm, ⟨9, _⟩ => ⟨S2x4224x5632, .f32⟩
  | .hbm, ⟨10, _⟩ => ⟨S2x4112x1024, .f32⟩
  | .hbm, ⟨11, _⟩ => ⟨S_, .f32⟩
  | .hbm, ⟨12, _⟩ => ⟨S2x3x1024, .f32⟩
  | .hbm, ⟨13, _⟩ => ⟨S2x4115x1024, .f32⟩
  | .hbm, ⟨14, _⟩ => ⟨S2x3x1024, .f32⟩
  | .hbm, ⟨15, _⟩ => ⟨S2x4224x1024, .f32⟩
  | .hbm, ⟨16, _⟩ => ⟨S1x2x4224x1024, .f32⟩
  | .hbm, ⟨17, _⟩ => ⟨S2x2x4224x1024, .f32⟩
  | .hbm, ⟨18, _⟩ => ⟨S2x4224x1024, .f32⟩
  | .hbm, ⟨19, _⟩ => ⟨S1x2x4224x1024, .f32⟩
  | .hbm, ⟨20, _⟩ => ⟨S2x2x4224x1024, .f32⟩
  | .hbm, ⟨21, _⟩ => ⟨S2x4224x8, .f32⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.FfnBlock.lean ====
/-
  What one grid point of the feed-forward kernel leaves behind: the terms the run found for the output block and for
  the carried normalised rows, with the loads and stores read away, as the two payloads of the blocks.
-/
module

public import proofs.«01_k».proof.Proof.Gen.Kernel2Ideal.Value

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-- The zero offsets of a rank-2 access are the constant zero function. -/
theorem hz2 : (![0, 0] : Fin 2 → Nat) = fun _ => 0 := funext fun a => by fin_cases a <;> rfl

/-- The zero offsets of a rank-3 access are the constant zero function. -/
theorem hz3 : (![0, 0, 0] : Fin 3 → Nat) = fun _ => 0 := funext fun a => by fin_cases a <;> rfl

/-- At the first of a row block's points the carried scratch is left at the normalised rows of the block. -/
theorem sout_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole) (hc0 : cond0_0 i)
    (x0 : Vec F S512x2048 .f32) (x1 : Vec F S1x2048 .f32) (x2 : Vec F S1x2048x512 .bf16) (x3 : Vec F S1x2048x512 .bf16) (x4 : Vec F S1x512x2048 .bf16) :
    sout0_A_0 c i arg2 harg2 arg3 harg3 arg4 harg4 arg5 harg5 arg6 harg6 arg7 harg7 arg8 harg8 hc0 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg2.read_unread, harg3.read_unread, View.ld_unit_zero (S := S512x2048) hz2, View.ld_unit_zero (S := S1x2048) hz2]

/-- At the first of a row block's points the output block is left at the rows themselves plus the point's product. -/
theorem out_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole) (hc0 : cond0_0 i)
    (x0 : Vec F S512x2048 .f32) (x1 : Vec F S1x2048 .f32) (x2 : Vec F S1x2048x512 .bf16) (x3 : Vec F S1x2048x512 .bf16) (x4 : Vec F S1x512x2048 .bf16) :
    out0_A_5 c i arg2 harg2 arg3 harg3 arg4 harg4 arg5 harg5 arg6 harg6 arg7 harg7 arg8 harg8 hc0 x0 x1 x2 x3 x4 = k0_pay2 (k0_pay1 x0 x1) x2 x3 x0 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S512x2048) hz2]
  simp only [View.readCov_unit_zero (S := S512x2048) _ hz2, View.readAt_eq_ld, harg2.read_unread, harg3.read_unread, harg4.read_unread, harg5.read_unread, harg6.read_unread, View.ld_unit_zero (S := S512x2048) hz2, View.ld_unit_zero (S := S1x2048) hz2, View.ld_unit_zero (S := S1x2048x512) hz3, View.ld_unit_zero (S := S1x512x2048) hz3]

/-- At every later point the output block is left at what it held plus the point's product. -/
theorem out_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole) (hc0 : ¬cond0_0 i)
    (x0 : Vec F S512x2048 .f32) (x1 : Vec F S1x2048 .f32) (x2 : Vec F S1x2048x512 .bf16) (x3 : Vec F S1x2048x512 .bf16) (x4 : Vec F S1x512x2048 .bf16) (xo5 : Vec F S512x2048 .f32) (xs0 : Vec F S512x2048 .bf16) :
    out0_B_5 c i arg2 harg2 arg3 harg3 arg4 harg4 arg5 harg5 arg6 harg6 arg7 harg7 arg8 harg8 hc0 x0 x1 x2 x3 x4 xo5 xs0 = k0_pay2 xs0 x2 x3 xo5 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xs0)]
  unfold kernelRun0_B
  dsimp only
  sl_unfold_words
  rw [View.canon_unit_zero hz2]
  simp only [View.readAt_eq_ld, harg4.read_unread, harg5.read_unread, harg6.read_unread, harg7.read_unread, harg8.read_unread, View.ld_unit_zero (S := S512x2048) hz2, View.ld_unit_zero (S := S1x2048x512) hz3, View.ld_unit_zero (S := S1x512x2048) hz3]

end Cert.Kernel2Ideal.Ffn

end
-- ==== Proof.FfnReads.lean ====
/-
  The feed-forward kernel's input blocks and payloads read at an index, over the argument arrays, at the ideal instance.
-/
module

public import proofs.«01_k».proof.Proof.FfnBlock
public import Idealize.ShloMosaic.Lib.Pointwise
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- The block indices of the six windows at a point: the row block is the point's quotient by 11, the chunk its remainder. -/
theorem idx_facts : ∀ t : Fin cfg0.N,
    (win0_0.index t 0 = t.val / 11 ∧ win0_0.index t 1 = 0) ∧ (win0_1.index t 0 = 0 ∧ win0_1.index t 1 = 0)
    ∧ (win0_2.index t 0 = 1 ∧ win0_2.index t 1 = 0 ∧ win0_2.index t 2 = t.val % 11)
    ∧ (win0_3.index t 0 = 1 ∧ win0_3.index t 1 = 0 ∧ win0_3.index t 2 = t.val % 11)
    ∧ (win0_4.index t 0 = 1 ∧ win0_4.index t 1 = t.val % 11 ∧ win0_4.index t 2 = 0) :=
  (by decide +kernel : ∀ t : Fin grid0.N, _)

/-- The residual stream's element. -/
abbrev hAt (c : Dev nD) (r : Fin 8704) (k : Fin 2048) : EReal := m ((c : Thread nD τ).loc main_arg0) (ix2 r k)
/-- The gain's element of the last layer. -/
abbrev gainAt (c : Dev nD) (k : Fin 2048) : EReal := m ((c : Thread nD τ).loc main_arg1) (ix2 1 k)
/-- The gate weight's element of the last layer. -/
abbrev gateAt (c : Dev nD) (k : Fin 2048) (n : Fin 5632) : EReal := m ((c : Thread nD τ).loc main_arg2) (ix3 1 k n)
/-- The up weight's element of the last layer. -/
abbrev upAt (c : Dev nD) (k : Fin 2048) (n : Fin 5632) : EReal := m ((c : Thread nD τ).loc main_arg3) (ix3 1 k n)
/-- The down weight's element of the last layer. -/
abbrev downAt (c : Dev nD) (n : Fin 5632) (k : Fin 2048) : EReal := m ((c : Thread nD τ).loc main_arg4) (ix3 1 n k)

/-- The gain the region finds is the last row of the argument. -/
theorem V_gain (c : Dev nD) (k : Fin 2048) : (V m c main_v5 : Vec Ideal S1x2048 .f32) (ix2 0 k) = gainAt m c k := by
  unfold V
  after_reads_at

/-- The gate weights the region finds are the argument's. -/
theorem V_gate (c : Dev nD) (l : Fin 2) (k : Fin 2048) (n : Fin 5632) : (V m c main_v0 : Vec Ideal S2x2048x5632 .bf16) (ix3 l k n) = m ((c : Thread nD τ).loc main_arg2) (ix3 l k n) := by
  unfold V
  after_reads_at

/-- The up weights the region finds are the argument's. -/
theorem V_up (c : Dev nD) (l : Fin 2) (k : Fin 2048) (n : Fin 5632) : (V m c main_v1 : Vec Ideal S2x2048x5632 .bf16) (ix3 l k n) = m ((c : Thread nD τ).loc main_arg3) (ix3 l k n) := by
  unfold V
  after_reads_at

/-- The down weights the region finds are the argument's. -/
theorem V_down (c : Dev nD) (l : Fin 2) (n : Fin 5632) (k : Fin 2048) : (V m c main_v2 : Vec Ideal S2x5632x2048 .bf16) (ix3 l n k) = m ((c : Thread nD τ).loc main_arg4) (ix3 l n k) := by
  unfold V
  after_reads_at

/-- The row of the residual stream that block row `r` of point `t` is. -/
def row (t : Fin cfg0.N) (r : Fin 512) : Fin 8704 := ⟨512 * (t.val / 11) + r.val, by have := lt_of_lt_of_eq t.isLt (show cfg0.N = 187 from N_0); omega⟩
/-- The hidden unit that block column `n` of point `t` is. -/
def unit (t : Fin cfg0.N) (n : Fin 512) : Fin 5632 := ⟨512 * (t.val % 11) + n.val, by omega⟩

/-- The block of the residual stream at an index. -/
theorem blk0 (c : Dev nD) (t : Fin cfg0.N) (r : Fin 512) (k : Fin 2048) :
    (iblk m c 0 t : Vec Ideal S512x2048 .f32) (ix2 r k) = hAt m c (row t r) k := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [h0]; omega
  | ⟨1, _⟩ => show win0_0.index t 1 * 2048 + 1 * k.val = k.val; rw [h1]; omega

/-- The block of the gain at an index. -/
theorem blk1 (c : Dev nD) (t : Fin cfg0.N) (k : Fin 2048) :
    (iblk m c 1 t : Vec Ideal S1x2048 .f32) (ix2 0 k) = gainAt m c k := by
  obtain ⟨-, ⟨h0, h1⟩, -⟩ := idx_facts t
  unfold iblk
  rw [View.read_apply, ← V_gain]
  show V m c main_v5 _ = _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- The block of the gate weights at an index. -/
theorem blk2 (c : Dev nD) (t : Fin cfg0.N) (k : Fin 2048) (n : Fin 512) :
    (iblk m c 2 t : Vec Ideal S1x2048x512 .bf16) (ix3 0 k n) = gateAt m c k (unit t n) := by
  obtain ⟨-, -, ⟨h0, h1, h2⟩, -⟩ := idx_facts t
  unfold iblk
  rw [View.read_apply]
  refine Eq.trans ?_ (V_gate m c 1 k (unit t n))
  show V m c main_v0 _ = _
  congr 1
  funext a
  apply Fin.ext
  match a with
  | ⟨0, _⟩ => show win0_2.index t 0 * 1 + 1 * 0 = 1; rw [h0]
  | ⟨1, _⟩ => show win0_2.index t 1 * 2048 + 1 * k.val = k.val; rw [h1]; omega
  | ⟨2, _⟩ => show win0_2.index t 2 * 512 + 1 * n.val = 512 * (t.val % 11) + n.val; rw [h2]; omega

/-- The block of the up weights at an index. -/
theorem blk3 (c : Dev nD) (t : Fin cfg0.N) (k : Fin 2048) (n : Fin 512) :
    (iblk m c 3 t : Vec Ideal S1x2048x512 .bf16) (ix3 0 k n) = upAt m c k (unit t n) := by
  obtain ⟨-, -, -, ⟨h0, h1, h2⟩, -⟩ := idx_facts t
  unfold iblk
  rw [View.read_apply]
  refine Eq.trans ?_ (V_up m c 1 k (unit t n))
  show V m c main_v1 _ = _
  congr 1
  funext a
  apply Fin.ext
  match a with
  | ⟨0, _⟩ => show win0_3.index t 0 * 1 + 1 * 0 = 1; rw [h0]
  | ⟨1, _⟩ => show win0_3.index t 1 * 2048 + 1 * k.val = k.val; rw [h1]; omega
  | ⟨2, _⟩ => show win0_3.index t 2 * 512 + 1 * n.val = 512 * (t.val % 11) + n.val; rw [h2]; omega

/-- The block of the down weights at an index. -/
theorem blk4 (c : Dev nD) (t : Fin cfg0.N) (n : Fin 512) (k : Fin 2048) :
    (iblk m c 4 t : Vec Ideal S1x512x2048 .bf16) (ix3 0 n k) = downAt m c (unit t n) k := by
  obtain ⟨-, -, -, -, ⟨h0, h1, h2⟩⟩ := idx_facts t
  unfold iblk
  rw [View.read_apply]
  refine Eq.trans ?_ (V_down m c 1 (unit t n) k)
  show V m c main_v2 _ = _
  congr 1
  funext a
  apply Fin.ext
  match a with
  | ⟨0, _⟩ => show win0_4.index t 0 * 1 + 1 * 0 = 1; rw [h0]
  | ⟨1, _⟩ => show win0_4.index t 1 * 512 + 1 * n.val = 512 * (t.val % 11) + n.val; rw [h1]; omega
  | ⟨2, _⟩ => show win0_4.index t 2 * 2048 + 1 * k.val = k.val; rw [h2]; omega

/-- The normalised residual stream's element. -/
def xn (c : Dev nD) (r : Fin 8704) (k : Fin 2048) : EReal :=
  hAt m c r k * Ideal.rsqrt (Ideal.div (∑ j, hAt m c r j * hAt m c r j) (Ideal.ofBits FTy.f32 0x45000000#32) + Ideal.ofBits FTy.f32 0x358637BD#32) * gainAt m c k
/-- The gate's pre-activation. -/
def gate (c : Dev nD) (r : Fin 8704) (n : Fin 5632) : EReal := ∑ k, xn m c r k * gateAt m c k n
/-- The hidden unit: the gate's activation times the up projection. -/
def hid (c : Dev nD) (r : Fin 8704) (n : Fin 5632) : EReal :=
  gate m c r n * Ideal.logistic (gate m c r n) * ∑ k, xn m c r k * upAt m c k n

/-- The kernel's normalised rows at an index. -/
theorem pay1_apply (c : Dev nD) (t : Fin cfg0.N) (r : Fin 512) (k : Fin 2048) :
    k0_pay1 (iblk m c 0 t : Vec Ideal S512x2048 .f32) (iblk m c 1 t : Vec Ideal S1x2048 .f32) (ix2 r k) = xn m c (row t r) k := by
  pointwise [k0_pay1]
  simp only [blk0, blk1, xn]

/-- The point's block at an index: what it is added to, plus the chunk's sum. -/
theorem pay2_apply (c : Dev nD) (t : Fin cfg0.N) (xs : Vec Ideal S512x2048 .bf16) (xo : Vec Ideal S512x2048 .f32)
    (hx : ∀ r k, xs (ix2 r k) = xn m c (row t r) k) (r : Fin 512) (k : Fin 2048) :
    k0_pay2 xs (iblk m c 2 t : Vec Ideal S1x2048x512 .bf16) (iblk m c 3 t : Vec Ideal S1x2048x512 .bf16) xo (iblk m c 4 t : Vec Ideal S1x512x2048 .bf16) (ix2 r k)
      = xo (ix2 r k) + ∑ n, Ideal.ofBits FTy.f32 0x3F000000#32 * (hid m c (row t r) (unit t n) * downAt m c (unit t n) k) := by
  pointwise [k0_pay2]
  simp only [blk2, blk3, blk4, hx, hid, gate, mul_assoc]

end Cert.Kernel2Ideal.Ffn

end
-- ==== Proof.FfnSum.lean ====
/-
  The feed-forward kernel's result array: the residual stream plus the sum over all hidden units, each taken at half
  weight; by induction over the eleven chunks of a row block.
-/
module

public import proofs.«01_k».proof.Proof.FfnReads

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- One hidden unit's contribution to an element of the result. -/
def term (c : Dev nD) (r : Fin 8704) (k : Fin 2048) (n : Fin 5632) : EReal :=
  Ideal.ofBits FTy.f32 0x3F000000#32 * (hid m c r n * downAt m c n k)

/-- The contribution of the hidden unit numbered `n`, zero past the last. -/
def termN (c : Dev nD) (r : Fin 8704) (k : Fin 2048) (n : ℕ) : EReal :=
  if h : n < 5632 then term m c r k ⟨n, h⟩ else 0

/-- A chunk's sum is the sum over its range of hidden units. -/
theorem chunk_sum (c : Dev nD) (t : Fin cfg0.N) (r : Fin 512) (k : Fin 2048) :
    ∑ n, Ideal.ofBits FTy.f32 0x3F000000#32 * (hid m c (row t r) (unit t n) * downAt m c (unit t n) k)
      = ∑ n ∈ Finset.range 512, termN m c (row t r) k (512 * (t.val % 11) + n) := by
  rw [← Fin.sum_univ_eq_sum_range (fun n => termN m c (row t r) k (512 * (t.val % 11) + n)) 512]
  refine Finset.sum_congr rfl fun n _ => ?_
  have hn : 512 * (t.val % 11) + n.val < 5632 := by omega
  simp only [termN, dif_pos hn]
  rfl

/-- After point `t` the carried rows are the normalised rows of the point's block, and the output block holds the rows
    plus the contributions of the chunks up to the point's. -/
theorem outs_eq (c : Dev nD) : ∀ (n : ℕ) (h : n < cfg0.N),
    (∀ r k, (outsAt0 m c n h).2 (ix2 r k) = xn m c (row ⟨n, h⟩ r) k)
    ∧ (∀ r k, (outsAt0 m c n h).1 (ix2 r k) = hAt m c (row ⟨n, h⟩ r) k
        + ∑ i ∈ Finset.range (512 * (n % 11 + 1)), termN m c (row ⟨n, h⟩ r) k i) := by
  intro n
  induction n with
  | zero =>
    intro h
    rw [outsAt0_A m c ⟨0, h⟩ rfl]
    dsimp only
    rw [sout_A, out_A]
    refine ⟨fun r k => pay1_apply m c ⟨0, h⟩ r k, fun r k => ?_⟩
    rw [pay2_apply m c ⟨0, h⟩ _ _ (fun r k => pay1_apply m c ⟨0, h⟩ r k), blk0, chunk_sum]
    simp
  | succ n ih =>
    intro h
    by_cases h0 : (n + 1) % 11 = 0
    · rw [outsAt0_A m c ⟨n + 1, h⟩ h0]
      dsimp only
      rw [sout_A, out_A]
      refine ⟨fun r k => pay1_apply m c ⟨n + 1, h⟩ r k, fun r k => ?_⟩
      rw [pay2_apply m c ⟨n + 1, h⟩ _ _ (fun r k => pay1_apply m c ⟨n + 1, h⟩ r k), blk0, chunk_sum]
      simp [h0]
    · obtain ⟨ih2, ih1⟩ := ih (Nat.lt_of_succ_lt h)
      have hrow : ∀ r, row ⟨n, Nat.lt_of_succ_lt h⟩ r = row ⟨n + 1, h⟩ r := fun r => Fin.ext (by
        show 512 * (n / 11) + r.val = 512 * ((n + 1) / 11) + r.val
        omega)
      rw [outsAt0_B m c ⟨n + 1, h⟩ h0]
      dsimp only
      rw [out_B]
      unfold sout0_B_0
      simp only [Nat.add_sub_cancel]
      refine ⟨fun r k => by rw [ih2, hrow], fun r k => ?_⟩
      rw [pay2_apply m c ⟨n + 1, h⟩ _ _ (fun r k => by rw [ih2, hrow]), ih1, chunk_sum, hrow, add_assoc]
      congr 1
      have e : (n + 1) % 11 = n % 11 + 1 := by omega
      rw [e, show 512 * (n % 11 + 1 + 1) = 512 * (n % 11 + 1) + 512 by ring, Finset.sum_range_add]

/-- What the feed-forward branch's result holds at an element. -/
def val (c : Dev nD) (r : Fin 8704) (k : Fin 2048) : EReal := hAt m c r k + ∑ n, term m c r k n

/-- The result array after the run, at an index. -/
theorem G5_apply (c : Dev nD) (r : Fin 8704) (k : Fin 2048) : Value.G5 m c (ix2 r k) = val m c r k := by
  have hv : Value.pt5Of (ix2 r k) = 11 * (1 * (r.val / 512 - 0) + 1 * (k.val / 2048 - 0)) + 10 := rfl
  have hp : Value.pt5Of (ix2 r k) < cfg0.N := by
    rw [show cfg0.N = 187 from N_0, hv]; omega
  unfold Value.G5
  rw [dif_pos hp, ← Value.outsAt0_sweep m c _ hp]
  have hl : Value.loc5Of (ix2 r k) = ix2 ⟨r.val % 512, Nat.mod_lt _ (by decide)⟩ k := by
    funext a
    apply Fin.ext
    match a with
    | ⟨0, _⟩ => rfl
    | ⟨1, _⟩ => exact Nat.mod_eq_of_lt k.isLt
  rw [hl, (outs_eq m c _ hp).2]
  have hr : row ⟨_, hp⟩ ⟨r.val % 512, Nat.mod_lt _ (by decide)⟩ = r := Fin.ext (by
    show 512 * (Value.pt5Of (ix2 r k) / 11) + r.val % 512 = r.val
    rw [hv]
    omega)
  have he : 512 * (Value.pt5Of (ix2 r k) % 11 + 1) = 5632 := by rw [hv]; omega
  rw [hr, val, he, ← Fin.sum_univ_eq_sum_range (fun n => termN m c r k n) 5632]
  exact congrArg (hAt m c r k + ·) (Finset.sum_congr rfl fun n _ => dif_pos n.isLt)

end Cert.Kernel2Ideal.Ffn

end
-- ==== Proof.FfnRef.lean ====
/-
  The feed-forward reference read at an index: the same element as the kernel's, the half taken outside the sum.
-/
module

public import proofs.«01_k».proof.Proof.FfnSum
public import proofs.«01_k».proof.Proof.Gen.Reference2Ideal.Run

@[expose] public section

set_option maxRecDepth 16384

noncomputable section

namespace Cert.Kernel2Ideal.Ffn

open Idealize.ShloMosaic Idealize.ShloMosaic.TcCoe Idealize.SL.Sem

/-- The f32 pattern `0x3F000000` is the real one half. -/
theorem ofBits_half : Ideal.ofBits FTy.f32 0x3F000000#32 = (((1 : ℝ) / 2 : ℝ) : EReal) := by
  simp [Ideal.ofBits, Ideal.ieee, -EReal.coe_mul]; norm_num

/-- A nonnegative real factor goes into a finite sum of extended reals. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- The logistic function is the quotient the reference's activation spells. -/
theorem logistic_eq (x : EReal) : Ideal.logistic x = Ideal.div 1 (1 + Ideal.exp (-x)) := rfl

end Cert.Kernel2Ideal.Ffn

namespace Cert.Reference2Ideal.Ffn

open Cert.Reference2Ideal Cert.Reference2Ideal.Gen Idealize.ShloMosaic Idealize.ShloMosaic.TcCoe Idealize.SL.Sem

/-- The composed term of the feed-forward reference, over its five arguments. -/
abbrev out (x : FVec Ideal S8704x2048 .f32) (g : FVec Ideal S2x2048 .f32) (wg wu : FVec Ideal S2x2048x5632 .f32) (wd : FVec Ideal S2x5632x2048 .f32) : FVec Ideal S8704x2048 .f32 :=
  let xn : FVec Ideal S8704x2048 .f32 := mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast S2048 (extractStridedSlice S1x2048 ![1, 0] g slices_S2x2048_S1x2048_1_0) shapeCasts_S1x2048_S2048)))
  let gt : FVec Ideal S8704x5632 .f32 := Host.dotGeneral dot_S8704x2048_S2048x5632_S8704x5632_1_0_0_1_n_n none xn (shapeCast S2048x5632 (extractStridedSlice S1x2048x5632 ![1, 0, 0] wg slices_S2x2048x5632_S1x2048x5632_1_0_0) shapeCasts_S1x2048x5632_S2048x5632)
  let up : FVec Ideal S8704x5632 .f32 := Host.dotGeneral dot_S8704x2048_S2048x5632_S8704x5632_1_0_0_1_n_n none xn (shapeCast S2048x5632 (extractStridedSlice S1x2048x5632 ![1, 0, 0] wu slices_S2x2048x5632_S1x2048x5632_1_0_0) shapeCasts_S1x2048x5632_S2048x5632)
  let hd : FVec Ideal S8704x5632 .f32 := mulf (mulf gt (Host.divf (broadcastInDim S8704x5632 ![] bcast_S_S8704x5632 (constant S_ .f32 0x3F800000#32)) (addf (broadcastInDim S8704x5632 ![] bcast_S_S8704x5632 (constant S_ .f32 0x3F800000#32)) (Host.exp (Host.negf gt))))) up
  addf x (mulf (broadcastInDim S8704x2048 ![] bcast_S_S8704x2048 (constant S_ .f32 0x3F000000#32)) (Host.dotGeneral dot_S8704x5632_S5632x2048_S8704x2048_1_0_0_1_n_n none hd (shapeCast S5632x2048 (extractStridedSlice S1x5632x2048 ![1, 0, 0] wd slices_S2x5632x2048_S1x5632x2048_1_0_0) shapeCasts_S1x5632x2048_S5632x2048)))

/-- The reference's element is the kernel's: the residual plus half the sum of the hidden units' contributions. -/
theorem out_apply (m : (ℓ : Loc Cert.Kernel2Ideal.nD Cert.Kernel2Ideal.τ Cert.Kernel2Ideal.sig) → Buf (Elt Ideal) ℓ) (c : Dev Cert.Kernel2Ideal.nD) (r : Fin 8704) (k : Fin 2048) :
    out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (ix2 r k)
      = Cert.Kernel2Ideal.Ffn.val m c r k := by
  pointwise [out]
  unfold Cert.Kernel2Ideal.Ffn.val Cert.Kernel2Ideal.Ffn.term
  rw [Cert.Kernel2Ideal.Ffn.ofBits_half, ← Cert.Kernel2Ideal.Ffn.coe_mul_sum _ (by norm_num)]
  rfl

end Cert.Reference2Ideal.Ffn

end
-- ==== Proof.FfnClaim.lean ====
/-
  The feed-forward branch's claims: its frames, and that kernel and reference compute one function.
-/
module

public import proofs.«01_k».proof.Proof.FfnRef
public import proofs.«01_k».proof.Proof.Gen.Kernel2.Frame
public import proofs.«01_k».proof.Defs
public import Idealize.ShloMosaic.Lib.Claim

@[expose] public section

set_option maxRecDepth 16384

noncomputable section

namespace Cert.Proof.Ffn

open Idealize.ShloMosaic Idealize.SL.Sem

/-- Kernel and reference of the feed-forward branch leave equal result arrays, for every input. -/
theorem value_eq (m : (ℓ : Loc Cert.Kernel2Ideal.nD Cert.Kernel2Ideal.τ Cert.Kernel2Ideal.sig) → Buf (Elt Ideal) ℓ) (c : Dev Cert.Kernel2Ideal.nD) :
    Cert.Reference2Ideal.Ffn.out
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      = Cert.Kernel2Ideal.Value.G5 m c := by
  funext j
  have e : j = ix2 (j 0) (j 1) := by
    funext a
    match a with
    | ⟨0, _⟩ => rfl
    | ⟨1, _⟩ => rfl
  rw [e]
  exact (Cert.Reference2Ideal.Ffn.out_apply m c (j 0) (j 1)).trans (Cert.Kernel2Ideal.Ffn.G5_apply m c (j 0) (j 1)).symm

/-- The algebraic claim of the feed-forward branch. -/
theorem algebraic : @Cert.algebraic_Kernel2Ideal_Reference2Ideal Cert.Kernel2Ideal.Gen.facts Cert.Reference2Ideal.Gen.facts := by
  intro m g m' g' _ hag
  refine ⟨fun c => Cert.Kernel2Ideal.Value.G5 m c, Cert.Kernel2Ideal.Value.run m g, ?_⟩
  refine (θ_run _ _ _).mono (fun r h c => ?_) (Cert.Reference2Ideal.Value.run m' g')
  obtain ⟨hv, h0⟩ := h c
  refine ⟨hv.trans ?_, h0⟩
  obtain ⟨e0, e1, e2, e3, e4⟩ := hag c
  rw [e0, e1, e2, e3, e4]
  exact value_eq m c

end Cert.Proof.Ffn

end
-- ==== Proof.FoxBlock.lean ====
/-
  What one grid point of the attention kernel leaves behind: the carried keys and values, and the output block as the
  payloads of its last masked block over the state its loop over the earlier key blocks ends in.
-/
module

public import proofs.«01_k».proof.Proof.Gen.KernelIdeal.Value
public import Idealize.ShloMosaic.Lib.LoopRemainder

@[expose] public section

set_option maxRecDepth 16384

noncomputable section

namespace Cert.KernelIdeal.Fox

open Cert.KernelIdeal Cert.KernelIdeal.Gen Idealize.ShloMosaic Idealize.ShloMosaic.TcCoe Idealize.SL.Sem

variable {F : FTy → Type} [FloatOps F] [Named F]

/-- The zero offsets of a rank-2 access are the constant zero function. -/
theorem hz2 : (![0, 0] : Fin 2 → Nat) = fun _ => 0 := funext fun a => by fin_cases a <;> rfl

/-- The carried state of the loop: running maximum, weight sum and weighted sum of values, for the two heads. -/
abbrev St (F : FTy → Type) : Type := FVec F S384x1 .f32 × FVec F S384x1 .f32 × FVec F S384x128 .f32 × FVec F S384x1 .f32 × FVec F S384x1 .f32 × FVec F S384x128 .f32

/-- The state before the first key block. -/
abbrev init : St F := (k0_pay21, k0_pay22, k0_pay23, k0_pay21, k0_pay22, k0_pay23)

/-- One trip's new state: both heads' running maximum, weight sum and weighted sum after the trip's key block. -/
def step (i : grid0.Coords) (v3 v7 : Vec F S384x128 .f32) (kb vb : Vec F S4224x256 .bf16) (cb : Vec F S1x1x2x4224 .f32) (k : Fin (k0_t1_loop i).trips) (acc : St F) : St F :=
  let s0 : FVec F S384x384 .f32 := k0_pay9 (k0_pay19 v3) (View.ld kb (Rect.unit (k0_off1 i k) S384x128.size (k0_off1_inb i k))) (View.ld cb (Rect.unit (k0_off2 i k) S1x1x1x384.size (k0_off2_inb i k)))
  let s1 : FVec F S384x384 .f32 := k0_pay9 (k0_pay20 v7) (View.ld kb (Rect.unit (k0_off3 i k) S384x128.size (k0_off3_inb i k))) (View.ld cb (Rect.unit (k0_off4 i k) S1x1x1x384.size (k0_off4_inb i k)))
  (k0_pay24 acc.1 s0, k0_pay27 acc.1 acc.2.1 s0, k0_pay28 acc.1 acc.2.2.1 s0 (View.ld vb (Rect.unit (k0_off1 i k) S384x128.size (k0_off1_inb i k))),
    k0_pay24 acc.2.2.2.1 s1, k0_pay27 acc.2.2.2.1 acc.2.2.2.2.1 s1, k0_pay28 acc.2.2.2.1 acc.2.2.2.2.2 s1 (View.ld vb (Rect.unit (k0_off3 i k) S384x128.size (k0_off3_inb i k))))

/-- The state before trip `n`. -/
def state (i : grid0.Coords) (v3 v7 : Vec F S384x128 .f32) (kb vb : Vec F S4224x256 .bf16) (cb : Vec F S1x1x2x4224 .f32) : ℕ → St F
  | 0 => init
  | n + 1 => if h : n < (k0_t1_loop i).trips then step i v3 v7 kb vb cb ⟨n, h⟩ (state i v3 v7 kb vb cb n) else state i v3 v7 kb vb cb n

/-- The state after a trip. -/
theorem state_succ (i : grid0.Coords) (v3 v7 : Vec F S384x128 .f32) (kb vb : Vec F S4224x256 .bf16) (cb : Vec F S1x1x2x4224 .f32) (k : Fin (k0_t1_loop i).trips) :
    state i v3 v7 kb vb cb (k.val + 1) = step i v3 v7 kb vb cb k (state i v3 v7 kb vb cb k.val) := by
  show (if h : k.val < (k0_t1_loop i).trips then step i v3 v7 kb vb cb ⟨k.val, h⟩ (state i v3 v7 kb vb cb k.val) else state i v3 v7 kb vb cb k.val) = _
  rw [dif_pos k.isLt]

/-- What the run found for one trip is `step` at what the trip's memrefs hold. -/
theorem trip_eq (𝒱 : Variants) (c : Dev nD) (bd : Option 𝒱.V) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (v3 v7 : Vec F S384x128 .f32) (X_arg6 : BufTy.Contents (Elt F) arg6.view.ty) (X_arg8 : BufTy.Contents (Elt F) arg8.view.ty) (X_arg9 : BufTy.Contents (Elt F) arg9.view.ty) (k : Fin (k0_t1_loop i).trips) (acc : St F) :
    tripR_k0_t1 (F := F) 𝒱 c bd i arg3 harg3 arg4 harg4 arg5 harg5 arg6 harg6 arg7 harg7 arg8 harg8 arg9 harg9 v3 v7 X_arg6 X_arg8 X_arg9 k acc
      = step i v3 v7 (arg8.view.read (Elt F) X_arg8) (arg9.view.read (Elt F) X_arg9) (arg6.view.read (Elt F) X_arg6) k acc := by
  unfold tripR_k0_t1 trip_k0_t1
  dsimp only
  sl_unfold_words
  rfl

/-- The loop's state before trip `n`, as the run names it, is `state`. -/
theorem st_eq (𝒱 : Variants) (c : Dev nD) (bd : Option 𝒱.V) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (v3 v7 : Vec F S384x128 .f32) (X_arg6 : BufTy.Contents (Elt F) arg6.view.ty) (X_arg8 : BufTy.Contents (Elt F) arg8.view.ty) (X_arg9 : BufTy.Contents (Elt F) arg9.view.ty) (n : ℕ) (hn : n ≤ (k0_t1_loop i).trips) :
    st_k0_t1 (F := F) 𝒱 c bd i arg3 harg3 arg4 harg4 arg5 harg5 arg6 harg6 arg7 harg7 arg8 harg8 arg9 harg9 v3 v7 X_arg6 X_arg8 X_arg9 init n
      = state i v3 v7 (arg8.view.read (Elt F) X_arg8) (arg9.view.read (Elt F) X_arg9) (arg6.view.read (Elt F) X_arg6) n := by
  induction n with
  | zero => rfl
  | succ n ih =>
    rw [st_k0_t1_succ (F := F) 𝒱 c bd i arg3 harg3 arg4 harg4 arg5 harg5 arg6 harg6 arg7 harg7 arg8 harg8 arg9 harg9 v3 v7 X_arg6 X_arg8 X_arg9 init ⟨n, hn⟩, trip_eq, ih (by omega)]
    exact (state_succ i _ _ _ _ _ ⟨n, hn⟩).symm

/-- What a whole-array store leaves reads as what it stored. -/
theorem read_whole {sp : Space} (v : View sig .tc sp S4224x256 .bf16) (f : v.ty.Contents (Elt F)) (inb : ∀ a, (![0, 0] : Fin 2 → Nat) a + (![4224, 256] : Fin 2 → Nat) a ≤ S4224x256.size a) (w : S4224x256.Idx → Elt F .bf16) :
    v.read (Elt F) (v.writes (Elt F) f [⟨Rect.unit ![0, 0] ![4224, 256] inb, w⟩]) = w := by
  rw [View.read_writes_eq_canon _ _ _ (View.cover_of_tiledL _ S4224x256.size (by sl_kernel_rfl))]
  exact View.canon_unit_zero hz2 inb w

/-- The remainder loop makes no trip. -/
theorem trips2 (i : grid0.Coords) : Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32 = 0 := by
  have h : ∀ n : Fin 11, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide
  exact h (i 2)

/-- The counted loop makes one trip per earlier key block. -/
theorem trips1 (i : grid0.Coords) : Scf.trips 0#32 (Scalar.addi 0#32 (Scalar.muli (Scalar.divsi (Scalar.subi (BitVec.ofNat 32 (i 2).val) 0#32) 1#32) 1#32)) 1#32 = (i 2).val := by
  have h : ∀ n : Fin 11, Scf.trips 0#32 (Scalar.addi 0#32 (Scalar.muli (Scalar.divsi (Scalar.subi (BitVec.ofNat 32 n.val) 0#32) 1#32) 1#32)) 1#32 = n.val := by decide
  exact h (i 2)

/-- The row numbers of a key block's scores. -/
abbrev rows : IVec S384x384 32 := iota .tc S384x384 32 [0] iota_S384x384_d0_w32

/-- The output block: for each head the masked last block taken into the loop's final state, the weighted sum over the weight sum. -/
def blockOut (i : grid0.Coords) (xq : Vec F S384x256 .f32) (kb vb : Vec F S4224x256 .bf16) (cb : Vec F S1x1x2x4224 .f32) : Vec F S384x256 .bf16 :=
  let v3 : Vec F S384x128 .f32 := View.ld xq (Rect.unit (s := S384x256) ![0, 0] S384x128.size inb_S384x256_S384x128_0_0)
  let v7 : Vec F S384x128 .f32 := View.ld xq (Rect.unit (s := S384x256) ![0, 128] S384x128.size inb_S384x256_S384x128_0_128)
  let st : St F := state i v3 v7 kb vb cb (i 2).val
  let s0 : FVec F S384x384 .f32 := k0_pay34 v3 (View.ld kb (Rect.unit (k0_off9 i) S384x128.size (k0_off9_inb i))) (View.ld cb (Rect.unit (k0_off10 i) S1x1x1x384.size (k0_off10_inb i)))
  let kB : Vec F S384x128 .bf16 := View.ld kb (Rect.unit (k0_off11 i) S384x128.size (k0_off11_inb i))
  let cB : Vec F S1x1x1x384 .f32 := View.ld cb (Rect.unit (k0_off12 i) S1x1x1x384.size (k0_off12_inb i))
  View.canon [⟨Rect.unit ![0, 128] ![384, 128] inb_S384x256_S384x128_0_128,
      k0_pay2 st.2.2.2.2.2 (k0_pay43 (k0_pay20 v7) st.2.2.2.1 kB cB) (k0_pay44 (k0_pay20 v7) st.2.2.2.1 kB cB) (k0_pay45 (k0_pay20 v7) st.2.2.2.1 st.2.2.2.2.1 kB cB) (View.ld vb (Rect.unit (k0_off11 i) S384x128.size (k0_off11_inb i)))⟩,
    ⟨Rect.unit ![0, 0] ![384, 128] inb_S384x256_S384x128_0_0,
      k0_pay1 (k0_pay39 st.1 st.2.1 s0 rows) (k0_pay40 st.1 st.2.2.1 s0 rows (View.ld vb (Rect.unit (k0_off9 i) S384x128.size (k0_off9_inb i))))⟩]

/-- At the first of a head pair's points the carried keys are the point's block. -/
theorem sout_A_0 (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : cond0_0 i)
    (x0 : Vec F S384x256 .f32) (x1 : Vec F S4224x256 .f32) (x2 : Vec F S4224x256 .f32) (x3 : Vec F S1x1x2x4224 .f32) :
    sout0_A_0 c i arg3 harg3 arg4 harg4 arg5 harg5 arg6 harg6 arg7 harg7 arg8 harg8 arg9 harg9 hc0 x0 x1 x2 x3 = (k0_pay17 x1) := by
  unfold sout0_A_0
  rw [View.read_writes_eq_canon _ _ _ (scover0_A_0 c i arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, harg5.read_unread, View.ld_unit_zero (S := S4224x256) hz2]

/-- At the first of a head pair's points the carried values are the point's block. -/
theorem sout_A_1 (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : cond0_0 i)
    (x0 : Vec F S384x256 .f32) (x1 : Vec F S4224x256 .f32) (x2 : Vec F S4224x256 .f32) (x3 : Vec F S1x1x2x4224 .f32) :
    sout0_A_1 c i arg3 harg3 arg4 harg4 arg5 harg5 arg6 harg6 arg7 harg7 arg8 harg8 arg9 harg9 hc0 x0 x1 x2 x3 = (k0_pay18 x2) := by
  unfold sout0_A_1
  rw [View.read_writes_eq_canon _ _ _ (scover0_A_1 c i arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, harg5.read_unread, View.ld_unit_zero (S := S4224x256) hz2]

/-- At the first of a head pair's points the output block is the attention over the block it just stored. -/
theorem out_A (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : cond0_0 i)
    (x0 : Vec F S384x256 .f32) (x1 : Vec F S4224x256 .f32) (x2 : Vec F S4224x256 .f32) (x3 : Vec F S1x1x2x4224 .f32) :
    out0_A_4 c i arg3 harg3 arg4 harg4 arg5 harg5 arg6 harg6 arg7 harg7 arg8 harg8 arg9 harg9 hc0 x0 x1 x2 x3 = blockOut i x0 (k0_pay17 x1) (k0_pay18 x2) x3 := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  sl_unfold_words
  simp only [trips2, trips1, st_k0_t2, View.readAt_eq_ld, View.read_writes_eq_canon]
  simp only [st_eq _ _ _ _ _ _ _ _ _ _ _ _ _ _ _ _ _ _ _ _ _ _ _ _ (le_of_eq (trips1 i).symm), View.readAt_eq_ld, View.read_writes_eq_canon, harg3.read_unread, harg4.read_unread, harg5.read_unread, harg6.read_unread, harg8.read_unread, harg9.read_unread]
  simp only [read_whole, View.ld_unit_zero (S := S4224x256) hz2]
  rfl

/-- At a later point the carried keys stay. -/
theorem sout_B_0 (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : ¬cond0_0 i)
    (x0 : Vec F S384x256 .f32) (x1 : Vec F S4224x256 .f32) (x2 : Vec F S4224x256 .f32) (x3 : Vec F S1x1x2x4224 .f32) (xs0 : Vec F S4224x256 .bf16) (xs1 : Vec F S4224x256 .bf16) :
    sout0_B_0 c i arg3 harg3 arg4 harg4 arg5 harg5 arg6 harg6 arg7 harg7 arg8 harg8 arg9 harg9 hc0 x0 x1 x2 x3 xs0 xs1 = xs0 := by
  unfold sout0_B_0
  rfl

/-- At a later point the carried values stay. -/
theorem sout_B_1 (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : ¬cond0_0 i)
    (x0 : Vec F S384x256 .f32) (x1 : Vec F S4224x256 .f32) (x2 : Vec F S4224x256 .f32) (x3 : Vec F S1x1x2x4224 .f32) (xs0 : Vec F S4224x256 .bf16) (xs1 : Vec F S4224x256 .bf16) :
    sout0_B_1 c i arg3 harg3 arg4 harg4 arg5 harg5 arg6 harg6 arg7 harg7 arg8 harg8 arg9 harg9 hc0 x0 x1 x2 x3 xs0 xs1 = xs1 := by
  unfold sout0_B_1
  rfl

/-- At a later point the output block is the attention over the carried keys and values. -/
theorem out_B (c : Dev nD) (i : grid0.Coords) (arg3 : Memref sig .tc .vmem S384x256 .f32) (harg3 : arg3.IsWhole) (arg4 : Memref sig .tc .vmem S4224x256 .f32) (harg4 : arg4.IsWhole) (arg5 : Memref sig .tc .vmem S4224x256 .f32) (harg5 : arg5.IsWhole) (arg6 : Memref sig .tc .vmem S1x1x2x4224 .f32) (harg6 : arg6.IsWhole) (arg7 : Memref sig .tc .vmem S384x256 .bf16) (harg7 : arg7.IsWhole) (arg8 : Memref sig .tc .vmem S4224x256 .bf16) (harg8 : arg8.IsWhole) (arg9 : Memref sig .tc .vmem S4224x256 .bf16) (harg9 : arg9.IsWhole) (hc0 : ¬cond0_0 i)
    (x0 : Vec F S384x256 .f32) (x1 : Vec F S4224x256 .f32) (x2 : Vec F S4224x256 .f32) (x3 : Vec F S1x1x2x4224 .f32) (xs0 : Vec F S4224x256 .bf16) (xs1 : Vec F S4224x256 .bf16) :
    out0_B_4 c i arg3 harg3 arg4 harg4 arg5 harg5 arg6 harg6 arg7 harg7 arg8 harg8 arg9 harg9 hc0 x0 x1 x2 x3 xs0 xs1 = blockOut i x0 xs0 xs1 x3 := by
  unfold out0_B_4
  rw [View.read_writes_eq_canon _ _ _ (cover0_B_4 c i arg3 harg3 arg4 harg4 arg5 harg5 arg6 harg6 arg7 harg7 arg8 harg8 arg9 harg9 hc0 x0 x1 x2 x3 xs0 xs1)]
  unfold kernelRun0_B
  dsimp only
  sl_unfold_words
  simp only [trips2, trips1, st_k0_t2, View.readAt_eq_ld, View.read_writes_eq_canon]
  simp only [st_eq _ _ _ _ _ _ _ _ _ _ _ _ _ _ _ _ _ _ _ _ _ _ _ _ (le_of_eq (trips1 i).symm), View.readAt_eq_ld, View.read_writes_eq_canon, harg3.read_unread, harg4.read_unread, harg5.read_unread, harg6.read_unread, harg8.read_unread, harg9.read_unread]
  unfold blockOut
  rfl

end Cert.KernelIdeal.Fox

end
-- ==== Proof.FoxMath.lean ====
/-
  The online softmax over the extended reals: one key block taken into a running maximum, weight sum and weighted sum of
  values keeps them the weight sums over all keys so far; and the quotient of the two sums does not depend on the shift.
-/
module

public import Idealize.ShloMosaic.PureOps.Ideal
public import Mathlib.Algebra.BigOperators.Fin
public import Mathlib.Data.EReal.Inv
public import Mathlib.Analysis.SpecialFunctions.Pow.Real

@[expose] public section

noncomputable section

namespace Cert.Proof.Softmax

open Idealize.ShloMosaic

/-- A nonnegative real factor goes into a finite sum of extended reals. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- Base-two exponential of a real. -/
theorem exp2_coe (r : ℝ) : Ideal.exp2 (r : EReal) = (((2 : ℝ) ^ r : ℝ) : EReal) := rfl

/-- Base-two exponential of minus infinity. -/
theorem exp2_bot : Ideal.exp2 ⊥ = 0 := rfl

/-- A score: a real, or minus infinity. -/
def Score (x : EReal) : Prop := x = ⊥ ∨ ∃ r : ℝ, x = (r : EReal)

/-- A score is below plus infinity. -/
theorem Score.lt_top {x : EReal} (h : Score x) : x < ⊤ := by
  rcases h with rfl | ⟨r, rfl⟩
  · exact bot_lt_top
  · exact EReal.coe_lt_top r

/-- The larger of a score and the largest of scores, one of them real, is real. -/
theorem max_real {n : ℕ} (m : EReal) (s : Fin n → EReal) (hm : Score m) (hs : ∀ c, Score (s c)) (h : ∃ (c : Fin n) (r : ℝ), s c = (r : EReal)) :
    ∃ M : ℝ, max m (Finset.fold max ⊥ s Finset.univ) = (M : EReal) := by
  have e : Finset.fold max ⊥ s Finset.univ = Finset.univ.sup s := rfl
  rw [e]
  obtain ⟨c, r, hc⟩ := h
  have hlt : max m (Finset.univ.sup s) < ⊤ := max_lt hm.lt_top ((Finset.sup_lt_iff (bot_lt_top)).mpr fun c _ => (hs c).lt_top)
  have hge : ((r : ℝ) : EReal) ≤ max m (Finset.univ.sup s) := le_max_of_le_right (hc ▸ Finset.le_sup (f := s) (Finset.mem_univ c))
  refine ⟨(max m (Finset.univ.sup s)).toReal, (EReal.coe_toReal hlt.ne ?_).symm⟩
  intro hb
  rw [hb] at hge
  exact absurd (le_bot_iff.mp hge) (EReal.coe_ne_bot r)

/-- A score's weight under a real shift is a nonnegative real. -/
theorem weight_real {x : EReal} (h : Score x) (M : ℝ) : ∃ w : ℝ, 0 ≤ w ∧ Ideal.exp2 (x - (M : EReal)) = (w : EReal) := by
  rcases h with rfl | ⟨r, rfl⟩
  · exact ⟨0, le_refl _, rfl⟩
  · refine ⟨(2 : ℝ) ^ (r - M), (Real.rpow_pos_of_pos (by norm_num) _).le, ?_⟩
    rw [← EReal.coe_sub, exp2_coe]

/-- Changing the shift multiplies a score's weight by the base-two exponential of the difference. -/
theorem weight_shift {x : EReal} (h : Score x) (M M' : ℝ) :
    Ideal.exp2 ((M : EReal) - (M' : EReal)) * Ideal.exp2 (x - (M : EReal)) = Ideal.exp2 (x - (M' : EReal)) := by
  rw [← EReal.coe_sub, exp2_coe]
  rcases h with rfl | ⟨r, rfl⟩
  · show _ * (0 : EReal) = 0
    rw [mul_zero]
  · rw [← EReal.coe_sub, ← EReal.coe_sub, exp2_coe, exp2_coe, ← EReal.coe_mul, ← Real.rpow_add (by norm_num)]
    congr 2
    ring

/-- What the running maximum, weight sum and weighted sum of values are after the first `n` keys of scores `σ` and values `v`. -/
def Inv {D : Type} (σ : ℕ → EReal) (v : ℕ → D → EReal) (n : ℕ) (m l : EReal) (acc : D → EReal) : Prop :=
  (n = 0 ∧ m = ⊥ ∧ l = 0 ∧ ∀ d, acc d = 0) ∨
    ∃ M : ℝ, m = (M : EReal) ∧ l = ∑ s ∈ Finset.range n, Ideal.exp2 (σ s - (M : EReal)) ∧
      ∀ d, acc d = ∑ s ∈ Finset.range n, Ideal.exp2 (σ s - (M : EReal)) * v s d

/-- One key block of `k` keys, one of them of real score, taken into the running values. -/
theorem Inv.block {D : Type} {σ : ℕ → EReal} {v : ℕ → D → EReal} {n k : ℕ} {m l : EReal} {acc : D → EReal} (h : Inv σ v n m l acc)
    (s : Fin k → EReal) (vb : Fin k → D → EReal) (hσ : ∀ j, j < n + k → Score (σ j)) (hs : ∀ c : Fin k, s c = σ (n + c.val)) (hv : ∀ (c : Fin k) d, vb c d = v (n + c.val) d)
    (hr : ∃ (c : Fin k) (r : ℝ), s c = (r : EReal)) :
    ∃ M : ℝ, max m (Finset.fold max ⊥ s Finset.univ) = (M : EReal) ∧
      Ideal.exp2 (m - (M : EReal)) * l + ∑ c, Ideal.exp2 (s c - (M : EReal)) = ∑ j ∈ Finset.range (n + k), Ideal.exp2 (σ j - (M : EReal)) ∧
      ∀ d, Ideal.exp2 (m - (M : EReal)) * acc d + ∑ c, Ideal.exp2 (s c - (M : EReal)) * vb c d = ∑ j ∈ Finset.range (n + k), Ideal.exp2 (σ j - (M : EReal)) * v j d := by
  have hsc : ∀ c, Score (s c) := fun c => by rw [hs]; exact hσ _ (by omega)
  have hm : Score m := by
    rcases h with ⟨-, rfl, -, -⟩ | ⟨M, rfl, -, -⟩
    · exact .inl rfl
    · exact .inr ⟨M, rfl⟩
  obtain ⟨M', hM'⟩ := max_real m s hm hsc hr
  refine ⟨M', hM', ?_, fun d => ?_⟩
  · rw [Finset.sum_range_add, ← Fin.sum_univ_eq_sum_range (fun x => Ideal.exp2 (σ (n + x) - (M' : EReal)))]
    simp only [hs]
    congr 1
    rcases h with ⟨rfl, rfl, rfl, -⟩ | ⟨M, rfl, rfl, -⟩
    · simp
    · obtain ⟨w, hw, e⟩ := weight_real (.inr ⟨M, rfl⟩ : Score (M : EReal)) M'
      rw [e, coe_mul_sum w hw, ← e]
      exact Finset.sum_congr rfl fun j hj => weight_shift (hσ j (by have := Finset.mem_range.mp hj; omega)) M M'
  · rw [Finset.sum_range_add, ← Fin.sum_univ_eq_sum_range (fun x => Ideal.exp2 (σ (n + x) - (M' : EReal)) * v (n + x) d)]
    simp only [hs, hv]
    congr 1
    rcases h with ⟨rfl, rfl, -, ha⟩ | ⟨M, rfl, -, ha⟩
    · simp [ha]
    · obtain ⟨w, hw, e⟩ := weight_real (.inr ⟨M, rfl⟩ : Score (M : EReal)) M'
      rw [ha, e, coe_mul_sum w hw, ← e]
      refine Finset.sum_congr rfl fun j hj => ?_
      rw [← mul_assoc, weight_shift (hσ j (by have := Finset.mem_range.mp hj; omega)) M M']

/-- A quotient by a positive real is the product with its inverse. -/
theorem div_pos_coe (x : EReal) (r : ℝ) (hr : 0 < r) : Ideal.div x (r : EReal) = ((r⁻¹ : ℝ) : EReal) * x := by
  unfold Ideal.div
  rw [if_neg (by exact_mod_cast hr.ne'), EReal.coe_inv, mul_comm]

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The weighted mean of values under nonnegative real weights `ω`: each weight over the weights' sum, times its value. -/
def mean (N : ℕ) (ω : ℕ → ℝ) (v : ℕ → EReal) : EReal :=
  ∑ s ∈ Finset.range N, ((ω s / ∑ j ∈ Finset.range N, ω j : ℝ) : EReal) * v s

/-- The quotient of the weighted sum by the weight sum, the weights scaled by a positive real, is the weighted mean. -/
theorem quot_eq_mean (N : ℕ) (ω : ℕ → ℝ) (hω : ∀ s, 0 ≤ ω s) (hpos : 0 < ∑ j ∈ Finset.range N, ω j) (a : ℝ) (ha : 0 < a) (w : ℕ → EReal) (hw : ∀ s, s < N → w s = ((a * ω s : ℝ) : EReal)) (v : ℕ → EReal) :
    Ideal.div (∑ s ∈ Finset.range N, w s * v s) (∑ s ∈ Finset.range N, w s) = mean N ω v := by
  have e : ∑ s ∈ Finset.range N, w s = ((a * ∑ s ∈ Finset.range N, ω s : ℝ) : EReal) := by
    rw [Finset.mul_sum, ← coe_sum]
    exact Finset.sum_congr rfl fun s hs => hw s (Finset.mem_range.mp hs)
  have hp : 0 < a * ∑ s ∈ Finset.range N, ω s := mul_pos ha hpos
  rw [e, div_pos_coe _ _ hp, coe_mul_sum _ (inv_nonneg.mpr hp.le)]
  refine Finset.sum_congr rfl fun s hs => ?_
  rw [hw s (Finset.mem_range.mp hs), ← mul_assoc, ← EReal.coe_mul]
  congr 2
  field_simp

/-- The sum of the values, each times its weight over the weight sum, the weights scaled by a positive real, is the weighted mean. -/
theorem sum_div_eq_mean (N : ℕ) (ω : ℕ → ℝ) (hpos : 0 < ∑ j ∈ Finset.range N, ω j) (b : ℝ) (hb : 0 < b) (u : ℕ → EReal) (hu : ∀ s, s < N → u s = ((b * ω s : ℝ) : EReal)) (v : ℕ → EReal) :
    ∑ s ∈ Finset.range N, Ideal.div (u s) (∑ j ∈ Finset.range N, u j) * v s = mean N ω v := by
  have e : ∑ s ∈ Finset.range N, u s = ((b * ∑ s ∈ Finset.range N, ω s : ℝ) : EReal) := by
    rw [Finset.mul_sum, ← coe_sum]
    exact Finset.sum_congr rfl fun s hs => hu s (Finset.mem_range.mp hs)
  have hp : 0 < b * ∑ s ∈ Finset.range N, ω s := mul_pos hb hpos
  rw [e]
  refine Finset.sum_congr rfl fun s hs => ?_
  rw [div_pos_coe _ _ hp, hu s (Finset.mem_range.mp hs), ← EReal.coe_mul]
  congr 2
  field_simp

/-- Keys of weight zero at the end do not change the weighted mean. -/
theorem mean_extend (N K : ℕ) (ω : ℕ → ℝ) (h : ∀ s, N ≤ s → ω s = 0) (v : ℕ → EReal) : mean (N + K) ω v = mean N ω v := by
  have e : ∑ j ∈ Finset.range (N + K), ω j = ∑ j ∈ Finset.range N, ω j := by
    rw [Finset.sum_range_add, Finset.sum_eq_zero (s := Finset.range K) fun x _ => h _ (by omega), add_zero]
  unfold mean
  rw [e, Finset.sum_range_add, Finset.sum_eq_zero (s := Finset.range K) (fun x _ => by rw [h _ (by omega), zero_div, EReal.coe_zero, zero_mul]), add_zero]

/-- The same mean over the keys as a finite type, the values to the left. -/
theorem sum_fin_eq_mean (N : ℕ) (ω : ℕ → ℝ) (hpos : 0 < ∑ j ∈ Finset.range N, ω j) (b : ℝ) (hb : 0 < b) (u x : Fin N → EReal) (hu : ∀ s, u s = ((b * ω s.val : ℝ) : EReal)) (v : ℕ → EReal) (hv : ∀ s, x s = v s.val) :
    ∑ s, x s * Ideal.div (u s) (∑ j, u j) = mean N ω v := by
  rw [← sum_div_eq_mean N ω hpos b hb (fun s => ((b * ω s : ℝ) : EReal)) (fun _ _ => rfl) v, ← Fin.sum_univ_eq_sum_range (fun s => ((b * ω s : ℝ) : EReal)),
    ← Fin.sum_univ_eq_sum_range (fun s => Ideal.div ((b * ω s : ℝ) : EReal) (∑ j : Fin N, ((b * ω j.val : ℝ) : EReal)) * v s)]
  refine Finset.sum_congr rfl fun s _ => ?_
  rw [hv, hu, mul_comm, Finset.sum_congr rfl fun j _ => hu j]

/-- The larger of a score and the largest of scores of a finite set, one of them real, is real. -/
theorem max_real_set {ι : Type} (S : Finset ι) (s : ι → EReal) (hs : ∀ c, Score (s c)) (h : ∃ c ∈ S, ∃ r : ℝ, s c = (r : EReal)) :
    ∃ M : ℝ, max ⊥ (S.fold max ⊥ s) = (M : EReal) := by
  have e : S.fold max ⊥ s = S.sup s := rfl
  rw [e, max_eq_right bot_le]
  obtain ⟨c, hcS, r, hc⟩ := h
  have hlt : S.sup s < ⊤ := (Finset.sup_lt_iff (bot_lt_top)).mpr fun c _ => (hs c).lt_top
  have hge : ((r : ℝ) : EReal) ≤ S.sup s := hc ▸ Finset.le_sup (f := s) hcS
  refine ⟨(S.sup s).toReal, (EReal.coe_toReal hlt.ne ?_).symm⟩
  intro hb
  rw [hb] at hge
  exact absurd (le_bot_iff.mp hge) (EReal.coe_ne_bot r)

end Cert.Proof.Softmax

end
-- ==== Proof.FoxRow.lean ====
/-
  One row of one head of the attention kernel's output block, at the reals: the weighted mean of the values under the
  base-two exponentials of the scores of the keys at or before the row.
-/
module

public import proofs.«01_k».proof.Proof.FoxBlock
public import proofs.«01_k».proof.Proof.FoxMath
public import Idealize.ShloMosaic.Lib.Pointwise
public import Idealize.ShloMosaic.Lib.Pipeline.ValueKit

@[expose] public section

set_option maxRecDepth 16384

noncomputable section

namespace Cert.KernelIdeal.Fox

open Cert.KernelIdeal Cert.KernelIdeal.Gen Cert.Proof.Softmax Idealize.ShloMosaic Idealize.ShloMosaic.TcCoe Idealize.SL.Sem

/-- The factor a query is scaled with: the score scale times log2 e. -/
abbrev qscale : EReal := Named.named (F := Ideal) (φ := .f32) κ "scale_log2e" 1040356334#32

/-- The factor a cumulated log decay is scaled with: log2 e. -/
abbrev cscale : EReal := Named.named (F := Ideal) (φ := .f32) κ "log2e" 1069066811#32

/-- The word the running maximum starts from is minus infinity. -/
theorem neg_inf : Ideal.ofBits FTy.f32 4286578688#32 = (⊥ : EReal) := by
  simp [Ideal.ofBits, Ideal.ieee]

/-- A score of one key block: the scaled query against the key, less the scaled cumulated log decay of the key. -/
theorem score_apply (q : Vec Ideal S384x128 .f32) (k : Vec Ideal S384x128 .bf16) (cc : Vec Ideal S1x1x1x384 .f32) (r s : Fin 384) :
    k0_pay9 (k0_pay19 q) k cc (ix2 r s) = (∑ x : Fin 128, q (ix2 r x) * qscale * k (ix2 s x)) - cc (ix4 0 0 0 s) * cscale := by
  pointwise [k0_pay9, k0_pay19]

/-- The running maximum after a key block. -/
theorem max_apply (m : FVec Ideal S384x1 .f32) (s : FVec Ideal S384x384 .f32) (r : Fin 384) :
    k0_pay24 m s (ix2 r 0) = max (m (ix2 r 0)) (Finset.fold max ⊥ (fun x => s (ix2 r x)) Finset.univ) := by
  rw [← neg_inf]
  pointwise [k0_pay24]

/-- The running weight sum after a key block. -/
theorem sum_apply (m l : FVec Ideal S384x1 .f32) (s : FVec Ideal S384x384 .f32) (r : Fin 384) :
    k0_pay27 m l s (ix2 r 0) = Ideal.exp2 (m (ix2 r 0) - k0_pay24 m s (ix2 r 0)) * l (ix2 r 0) + ∑ x, Ideal.exp2 (s (ix2 r x) - k0_pay24 m s (ix2 r 0)) := by
  pointwise [k0_pay27, k0_pay25, k0_pay26]
  rfl

/-- The running weighted sum of values after a key block. -/
theorem acc_apply (m : FVec Ideal S384x1 .f32) (a : FVec Ideal S384x128 .f32) (s : FVec Ideal S384x384 .f32) (v : Vec Ideal S384x128 .bf16) (r : Fin 384) (d : Fin 128) :
    k0_pay28 m a s v (ix2 r d) = Ideal.exp2 (m (ix2 r 0) - k0_pay24 m s (ix2 r 0)) * a (ix2 r d) + ∑ x, Ideal.exp2 (s (ix2 r x) - k0_pay24 m s (ix2 r 0)) * v (ix2 x d) := by
  pointwise [k0_pay28, k0_pay25, k0_pay26]
  rfl

/-- The last block's scores: those of the keys at or before the row, minus infinity otherwise. -/
theorem mask_apply (s : FVec Ideal S384x384 .f32) (r c : Fin 384) :
    k0_pay35 s rows (ix2 r c) = if c.val ≤ r.val then s (ix2 r c) else ⊥ := by
  have e : k0_pay35 s rows (ix2 r c) = Scalar.select (IntOp.cmpi CmpIPredicate.sge (BitVec.ofNat 32 r.val) (BitVec.ofNat 32 c.val)) (s (ix2 r c)) (Ideal.ofBits FTy.f32 4286578688#32) := by
    pointwise [k0_pay35]
  have hr := r.isLt
  have hc := c.isLt
  rw [e, WordCmp.cmpi_sge_ofNat (by omega) (by omega), neg_inf]
  unfold Scalar.select
  by_cases h : c.val ≤ r.val
  · simp [h]
  · simp [h]

/-- The output of a row: its weighted sum of values over its weight sum. -/
theorem quot_apply (l : FVec Ideal S384x1 .f32) (a : FVec Ideal S384x128 .f32) (r : Fin 384) (c : Fin 128) :
    k0_pay1 l a (ix2 r c) = Ideal.div (a (ix2 r c)) (l (ix2 r 0)) := by
  pointwise [k0_pay1]

/-- The state before the first key block: maximum minus infinity, sums zero. -/
theorem init_apply (r : Fin 384) (c : Fin 128) :
    (k0_pay21 (F := Ideal)) (ix2 r 0) = (⊥ : EReal) ∧ (k0_pay22 (F := Ideal)) (ix2 r 0) = (0 : EReal) ∧ (k0_pay23 (F := Ideal)) (ix2 r c) = (0 : EReal) := by
  pointwise [k0_pay21, k0_pay22, k0_pay23]
  exact neg_inf

/-- The invariant of one row: the running values are those of the first `n` keys. -/
def RowInv (σ : ℕ → EReal) (v : ℕ → Fin 128 → EReal) (n : ℕ) (m l : FVec Ideal S384x1 .f32) (a : FVec Ideal S384x128 .f32) (r : Fin 384) : Prop :=
  Inv σ v n (m (ix2 r 0)) (l (ix2 r 0)) (fun d => a (ix2 r d))

/-- One key block takes a row's running values from the first `n` keys to the first `n + 384`. -/
theorem row_step {σ : ℕ → EReal} {v : ℕ → Fin 128 → EReal} {n : ℕ} {m l : FVec Ideal S384x1 .f32} {a : FVec Ideal S384x128 .f32} {r : Fin 384} (h : RowInv σ v n m l a r)
    (s : FVec Ideal S384x384 .f32) (vb : Vec Ideal S384x128 .bf16) (hσ : ∀ j, j < n + 384 → Score (σ j)) (hs : ∀ c : Fin 384, s (ix2 r c) = σ (n + c.val))
    (hv : ∀ (c : Fin 384) d, vb (ix2 c d) = v (n + c.val) d) (hr : ∃ x : ℝ, σ n = (x : EReal)) :
    RowInv σ v (n + 384) (k0_pay24 m s) (k0_pay27 m l s) (k0_pay28 m a s vb) r := by
  obtain ⟨M, hM, hl, ha⟩ := Inv.block h (fun c => s (ix2 r c)) (fun c d => vb (ix2 c d)) hσ hs hv (by obtain ⟨x, hx⟩ := hr; exact ⟨0, x, (hs 0).trans hx⟩)
  refine .inr ⟨M, (max_apply m s r).trans hM, ?_, fun d => ?_⟩
  · rw [sum_apply, max_apply, hM]; exact hl
  · dsimp only
    rw [acc_apply, max_apply, hM]; exact ha d

/-- The scores of a row of head `hh` of the pair over all keys, its columns from `o` on, are the reals `τ`. -/
def HeadScore (xq : Vec Ideal S384x256 .f32) (kb : Vec Ideal S4224x256 .bf16) (cb : Vec Ideal S1x1x2x4224 .f32) (r : Fin 384) (hh : Fin 2) (τ : ℕ → ℝ) : Prop :=
  ∀ s : Fin 4224, (∑ x : Fin 128, xq (ix2 r ⟨128 * hh.val + x.val, by omega⟩) * qscale * kb (ix2 s ⟨128 * hh.val + x.val, by omega⟩)) - cb (ix4 0 0 hh s) * cscale = (τ s.val : EReal)

/-- The values of head `hh` of the pair are `v`. -/
def HeadVal (vb : Vec Ideal S4224x256 .bf16) (hh : Fin 2) (v : ℕ → Fin 128 → EReal) : Prop :=
  ∀ (s : Fin 4224) (d : Fin 128), vb (ix2 s ⟨128 * hh.val + d.val, by omega⟩) = v s.val d

/-- The scores of a key block loaded at key `n`. -/
theorem score_tile {xq : Vec Ideal S384x256 .f32} {kb : Vec Ideal S4224x256 .bf16} {cb : Vec Ideal S1x1x2x4224 .f32} {r : Fin 384} {hh : Fin 2} {τ : ℕ → ℝ} (hτ : HeadScore xq kb cb r hh τ)
    (n : ℕ) (hn : n + 384 ≤ 4224) (oq ok : Fin 2 → ℕ) (oc : Fin 4 → ℕ) (iq : ∀ a, oq a + S384x128.size a ≤ S384x256.size a) (ik : ∀ a, ok a + S384x128.size a ≤ S4224x256.size a) (ic : ∀ a, oc a + S1x1x1x384.size a ≤ S1x1x2x4224.size a)
    (hq : oq = ![0, 128 * hh.val]) (hk : ok = ![n, 128 * hh.val]) (hc : oc = ![0, 0, hh.val, n]) (c : Fin 384) :
    k0_pay9 (k0_pay19 (View.ld xq (Rect.unit (s := S384x256) oq S384x128.size iq))) (View.ld kb (Rect.unit ok S384x128.size ik)) (View.ld cb (Rect.unit oc S1x1x1x384.size ic)) (ix2 r c) = (τ (n + c.val) : EReal) := by
  rw [score_apply, ← hτ ⟨n + c.val, by omega⟩]
  subst hq hk hc
  congr 1
  · refine Finset.sum_congr rfl fun x _ => ?_
    congr 1
    · congr 1
      exact View.ld_unit_apply_of xq _ _ _ _ _ fun a => by match a with | ⟨0, _⟩ => exact (Nat.zero_add _).symm | ⟨1, _⟩ => rfl
    · exact View.ld_unit_apply_of kb _ _ _ _ _ fun a => by match a with | ⟨0, _⟩ => rfl | ⟨1, _⟩ => rfl
  · congr 1
    exact View.ld_unit_apply_of cb _ _ _ _ _ fun a => by match a with | ⟨0, _⟩ => rfl | ⟨1, _⟩ => rfl | ⟨2, _⟩ => rfl | ⟨3, _⟩ => rfl

/-- The values of a key block loaded at key `n`. -/
theorem val_tile {vb : Vec Ideal S4224x256 .bf16} {hh : Fin 2} {v : ℕ → Fin 128 → EReal} (hv : HeadVal vb hh v) (n : ℕ) (hn : n + 384 ≤ 4224) (ok : Fin 2 → ℕ) (ik : ∀ a, ok a + S384x128.size a ≤ S4224x256.size a)
    (hk : ok = ![n, 128 * hh.val]) (c : Fin 384) (d : Fin 128) : View.ld vb (Rect.unit ok S384x128.size ik) (ix2 c d) = v (n + c.val) d := by
  rw [← hv ⟨n + c.val, by omega⟩]
  subst hk
  exact View.ld_unit_apply_of vb _ _ _ _ _ fun a => by match a with | ⟨0, _⟩ => rfl | ⟨1, _⟩ => rfl

/-- The key a trip's block starts at. -/
theorem start_trip (n : Fin 11) : (Scalar.indexCast (Scalar.muli (Scf.iv 0#32 1#32 n.val) 384#32)).toNat = 384 * n.val := by
  have h : ∀ n : Fin 11, (Scalar.indexCast (Scalar.muli (Scf.iv 0#32 1#32 n.val) 384#32)).toNat = 384 * n.val := by decide
  exact h n

/-- The key a point's last block starts at. -/
theorem start_last (n : Fin 11) : (Scalar.indexCast (Scalar.muli (BitVec.ofNat 32 n.val) 384#32)).toNat = 384 * n.val := by
  have h : ∀ n : Fin 11, (Scalar.indexCast (Scalar.muli (BitVec.ofNat 32 n.val) 384#32)).toNat = 384 * n.val := by decide
  exact h n

theorem off1_eq (i : grid0.Coords) (k : Fin (k0_t1_loop i).trips) (hk : k.val < 11) : k0_off1 i k = ![384 * k.val, 0] :=
  congrArg (fun n : ℕ => (![n, 0] : Fin 2 → ℕ)) (start_trip ⟨k.val, hk⟩)
theorem off2_eq (i : grid0.Coords) (k : Fin (k0_t1_loop i).trips) (hk : k.val < 11) : k0_off2 i k = ![0, 0, 0, 384 * k.val] :=
  congrArg (fun n : ℕ => (![0, 0, 0, n] : Fin 4 → ℕ)) (start_trip ⟨k.val, hk⟩)
theorem off3_eq (i : grid0.Coords) (k : Fin (k0_t1_loop i).trips) (hk : k.val < 11) : k0_off3 i k = ![384 * k.val, 128] :=
  congrArg (fun n : ℕ => (![n, 128] : Fin 2 → ℕ)) (start_trip ⟨k.val, hk⟩)
theorem off4_eq (i : grid0.Coords) (k : Fin (k0_t1_loop i).trips) (hk : k.val < 11) : k0_off4 i k = ![0, 0, 1, 384 * k.val] :=
  congrArg (fun n : ℕ => (![0, 0, 1, n] : Fin 4 → ℕ)) (start_trip ⟨k.val, hk⟩)
theorem off9_eq (i : grid0.Coords) : k0_off9 i = ![384 * (i 2).val, 0] :=
  congrArg (fun n : ℕ => (![n, 0] : Fin 2 → ℕ)) (start_last (i 2))
theorem off10_eq (i : grid0.Coords) : k0_off10 i = ![0, 0, 0, 384 * (i 2).val] :=
  congrArg (fun n : ℕ => (![0, 0, 0, n] : Fin 4 → ℕ)) (start_last (i 2))
theorem off11_eq (i : grid0.Coords) : k0_off11 i = ![384 * (i 2).val, 128] :=
  congrArg (fun n : ℕ => (![n, 128] : Fin 2 → ℕ)) (start_last (i 2))
theorem off12_eq (i : grid0.Coords) : k0_off12 i = ![0, 0, 1, 384 * (i 2).val] :=
  congrArg (fun n : ℕ => (![0, 0, 1, n] : Fin 4 → ℕ)) (start_last (i 2))

/-- The scores of the keys at or before row `R`, minus infinity after it. -/
def masked (τ : ℕ → ℝ) (R : ℕ) (s : ℕ) : EReal := if s ≤ R then (τ s : EReal) else ⊥

/-- Masked scores are scores. -/
theorem masked_score (τ : ℕ → ℝ) (R s : ℕ) : Score (masked τ R s) := by
  unfold masked
  split
  · exact .inr ⟨_, rfl⟩
  · exact .inl rfl

/-- The running values before any key. -/
theorem row_init (σ : ℕ → EReal) (v : ℕ → Fin 128 → EReal) (r : Fin 384) : RowInv σ v 0 (k0_pay21 (F := Ideal)) (k0_pay22 (F := Ideal)) (k0_pay23 (F := Ideal)) r :=
  .inl ⟨rfl, (init_apply r 0).1, (init_apply r 0).2.1, fun d => (init_apply r d).2.2⟩

section Block

variable (i : grid0.Coords) (xq : Vec Ideal S384x256 .f32) (kb vb : Vec Ideal S4224x256 .bf16) (cb : Vec Ideal S1x1x2x4224 .f32) (r : Fin 384)

/-- The first head's columns of the query block. -/
abbrev q0 : Vec Ideal S384x128 .f32 := View.ld xq (Rect.unit (s := S384x256) ![0, 0] S384x128.size inb_S384x256_S384x128_0_0)

/-- The second head's columns of the query block. -/
abbrev q1 : Vec Ideal S384x128 .f32 := View.ld xq (Rect.unit (s := S384x256) ![0, 128] S384x128.size inb_S384x256_S384x128_0_128)

/-- The loop's state before trip `n` of the first head: the running values of the first `384 n` keys. -/
theorem state_inv0 (τ : ℕ → ℝ) (v : ℕ → Fin 128 → EReal) (hτ : HeadScore xq kb cb r 0 τ) (hv : HeadVal vb 0 v) (n : ℕ) (hn : n ≤ (i 2).val) :
    RowInv (masked τ (384 * (i 2).val + r.val)) v (384 * n) (state i (q0 xq) (q1 xq) kb vb cb n).1 (state i (q0 xq) (q1 xq) kb vb cb n).2.1 (state i (q0 xq) (q1 xq) kb vb cb n).2.2.1 r := by
  have hi : (i 2).val < 11 := (i 2).isLt
  induction n with
  | zero => exact row_init _ _ r
  | succ n ih =>
    have hk : n < (k0_t1_loop i).trips := by rw [show (k0_t1_loop i).trips = (i 2).val from trips1 i]; omega
    have e := state_succ i (q0 xq) (q1 xq) kb vb cb ⟨n, hk⟩
    dsimp only at e
    rw [e, show 384 * (n + 1) = 384 * n + 384 by ring]
    refine row_step (ih (by omega)) _ _ (fun j _ => masked_score _ _ _) (fun c => ?_) (fun c d => ?_) ⟨τ (384 * n), ?_⟩
    · rw [masked, if_pos (by omega)]
      exact score_tile hτ (384 * n) (by omega) _ _ _ _ _ _ rfl (off1_eq i ⟨n, hk⟩ (by show n < 11; omega)) (off2_eq i ⟨n, hk⟩ (by show n < 11; omega)) c
    · exact val_tile hv (384 * n) (by omega) _ _ (off1_eq i ⟨n, hk⟩ (by show n < 11; omega)) c d
    · rw [masked, if_pos (by omega)]

/-- The loop's state before trip `n` of the second head: the running values of the first `384 n` keys. -/
theorem state_inv1 (τ : ℕ → ℝ) (v : ℕ → Fin 128 → EReal) (hτ : HeadScore xq kb cb r 1 τ) (hv : HeadVal vb 1 v) (n : ℕ) (hn : n ≤ (i 2).val) :
    RowInv (masked τ (384 * (i 2).val + r.val)) v (384 * n) (state i (q0 xq) (q1 xq) kb vb cb n).2.2.2.1 (state i (q0 xq) (q1 xq) kb vb cb n).2.2.2.2.1 (state i (q0 xq) (q1 xq) kb vb cb n).2.2.2.2.2 r := by
  have hi : (i 2).val < 11 := (i 2).isLt
  induction n with
  | zero => exact row_init _ _ r
  | succ n ih =>
    have hk : n < (k0_t1_loop i).trips := by rw [show (k0_t1_loop i).trips = (i 2).val from trips1 i]; omega
    have e := state_succ i (q0 xq) (q1 xq) kb vb cb ⟨n, hk⟩
    dsimp only at e
    rw [e, show 384 * (n + 1) = 384 * n + 384 by ring]
    refine row_step (ih (by omega)) _ _ (fun j _ => masked_score _ _ _) (fun c => ?_) (fun c d => ?_) ⟨τ (384 * n), ?_⟩
    · rw [masked, if_pos (by omega)]
      exact score_tile hτ (384 * n) (by omega) _ _ _ _ _ _ rfl (off3_eq i ⟨n, hk⟩ (by show n < 11; omega)) (off4_eq i ⟨n, hk⟩ (by show n < 11; omega)) c
    · exact val_tile hv (384 * n) (by omega) _ _ (off3_eq i ⟨n, hk⟩ (by show n < 11; omega)) c d
    · rw [masked, if_pos (by omega)]

/-- The weight of a key: the base-two exponential of its score, zero after row `R`. -/
def weight (τ : ℕ → ℝ) (R : ℕ) (s : ℕ) : ℝ := if s ≤ R then (2 : ℝ) ^ τ s else 0

/-- Weights are nonnegative. -/
theorem weight_nonneg (τ : ℕ → ℝ) (R s : ℕ) : 0 ≤ weight τ R s := by
  unfold weight
  split
  · exact (Real.rpow_pos_of_pos (by norm_num) _).le
  · exact le_refl _

/-- The weight sum is positive. -/
theorem weight_sum_pos (τ : ℕ → ℝ) (R N : ℕ) (hN : 0 < N) : 0 < ∑ j ∈ Finset.range N, weight τ R j := by
  refine Finset.sum_pos' (fun j _ => weight_nonneg τ R j) ⟨0, Finset.mem_range.mpr hN, ?_⟩
  rw [weight, if_pos (Nat.zero_le _)]
  exact Real.rpow_pos_of_pos (by norm_num) _

/-- The running values of the last key block give the weighted mean of the values. -/
theorem row_mean {τ : ℕ → ℝ} {R : ℕ} {v : ℕ → Fin 128 → EReal} {n : ℕ} (hn : 0 < n) {m l : FVec Ideal S384x1 .f32} {a : FVec Ideal S384x128 .f32} (h : RowInv (masked τ R) v n m l a r) (d : Fin 128) :
    k0_pay1 l a (ix2 r d) = mean n (weight τ R) fun s => v s d := by
  rw [quot_apply]
  rcases h with ⟨h0, -⟩ | ⟨M, -, hl, ha⟩
  · omega
  · rw [hl, show a (ix2 r d) = _ from ha d]
    refine quot_eq_mean n (weight τ R) (weight_nonneg τ R) (weight_sum_pos τ R n hn) ((2 : ℝ) ^ (-M)) (Real.rpow_pos_of_pos (by norm_num) _) _ (fun s _ => ?_) _
    unfold masked weight
    split
    · rw [← EReal.coe_sub, exp2_coe, ← Real.rpow_add (by norm_num)]
      congr 2
      ring
    · rw [mul_zero]; rfl

/-- The first head's rows of the output block. -/
theorem block_row0 (τ : ℕ → ℝ) (v : ℕ → Fin 128 → EReal) (hτ : HeadScore xq kb cb r 0 τ) (hv : HeadVal vb 0 v) (d : Fin 128) :
    k0_pay1 (k0_pay39 (state i (q0 xq) (q1 xq) kb vb cb (i 2).val).1 (state i (q0 xq) (q1 xq) kb vb cb (i 2).val).2.1 (k0_pay34 (q0 xq) (View.ld kb (Rect.unit (k0_off9 i) S384x128.size (k0_off9_inb i))) (View.ld cb (Rect.unit (k0_off10 i) S1x1x1x384.size (k0_off10_inb i)))) rows)
        (k0_pay40 (state i (q0 xq) (q1 xq) kb vb cb (i 2).val).1 (state i (q0 xq) (q1 xq) kb vb cb (i 2).val).2.2.1 (k0_pay34 (q0 xq) (View.ld kb (Rect.unit (k0_off9 i) S384x128.size (k0_off9_inb i))) (View.ld cb (Rect.unit (k0_off10 i) S1x1x1x384.size (k0_off10_inb i)))) rows (View.ld vb (Rect.unit (k0_off9 i) S384x128.size (k0_off9_inb i)))) (ix2 r d)
      = mean (384 * (i 2).val + 384) (weight τ (384 * (i 2).val + r.val)) fun s => v s d := by
  have hi : (i 2).val < 11 := (i 2).isLt
  have h := row_step (state_inv0 i xq kb vb cb r τ v hτ hv (i 2).val le_rfl) (k0_pay35 (k0_pay9 (k0_pay19 (q0 xq)) (View.ld kb (Rect.unit (k0_off9 i) S384x128.size (k0_off9_inb i))) (View.ld cb (Rect.unit (k0_off10 i) S1x1x1x384.size (k0_off10_inb i)))) rows) (View.ld vb (Rect.unit (k0_off9 i) S384x128.size (k0_off9_inb i)))
    (fun j _ => masked_score _ _ _) (fun c => by
      refine (mask_apply _ r c).trans ?_
      unfold masked
      exact if_congr (by omega) (score_tile hτ (384 * (i 2).val) (by omega) _ _ _ _ _ _ rfl (off9_eq i) (off10_eq i) c) rfl) (fun c d => val_tile hv (384 * (i 2).val) (by omega) _ _ (off9_eq i) c d) ⟨τ (384 * (i 2).val), by rw [masked, if_pos (by omega)]⟩
  exact row_mean r (by omega) h d

/-- The second head's rows of the output block. -/
theorem block_row1 (τ : ℕ → ℝ) (v : ℕ → Fin 128 → EReal) (hτ : HeadScore xq kb cb r 1 τ) (hv : HeadVal vb 1 v) (d : Fin 128) :
    k0_pay2 (state i (q0 xq) (q1 xq) kb vb cb (i 2).val).2.2.2.2.2 (k0_pay43 (k0_pay20 (q1 xq)) (state i (q0 xq) (q1 xq) kb vb cb (i 2).val).2.2.2.1 (View.ld kb (Rect.unit (k0_off11 i) S384x128.size (k0_off11_inb i))) (View.ld cb (Rect.unit (k0_off12 i) S1x1x1x384.size (k0_off12_inb i)))) (k0_pay44 (k0_pay20 (q1 xq)) (state i (q0 xq) (q1 xq) kb vb cb (i 2).val).2.2.2.1 (View.ld kb (Rect.unit (k0_off11 i) S384x128.size (k0_off11_inb i))) (View.ld cb (Rect.unit (k0_off12 i) S1x1x1x384.size (k0_off12_inb i)))) (k0_pay45 (k0_pay20 (q1 xq)) (state i (q0 xq) (q1 xq) kb vb cb (i 2).val).2.2.2.1 (state i (q0 xq) (q1 xq) kb vb cb (i 2).val).2.2.2.2.1 (View.ld kb (Rect.unit (k0_off11 i) S384x128.size (k0_off11_inb i))) (View.ld cb (Rect.unit (k0_off12 i) S1x1x1x384.size (k0_off12_inb i)))) (View.ld vb (Rect.unit (k0_off11 i) S384x128.size (k0_off11_inb i))) (ix2 r d)
      = mean (384 * (i 2).val + 384) (weight τ (384 * (i 2).val + r.val)) fun s => v s d := by
  have hi : (i 2).val < 11 := (i 2).isLt
  have h := row_step (state_inv1 i xq kb vb cb r τ v hτ hv (i 2).val le_rfl) (k0_pay35 (k0_pay9 (k0_pay19 (q1 xq)) (View.ld kb (Rect.unit (k0_off11 i) S384x128.size (k0_off11_inb i))) (View.ld cb (Rect.unit (k0_off12 i) S1x1x1x384.size (k0_off12_inb i)))) rows) (View.ld vb (Rect.unit (k0_off11 i) S384x128.size (k0_off11_inb i)))
    (fun j _ => masked_score _ _ _) (fun c => by
      refine (mask_apply _ r c).trans ?_
      unfold masked
      exact if_congr (by omega) (score_tile hτ (384 * (i 2).val) (by omega) _ _ _ _ _ _ rfl (off11_eq i) (off12_eq i) c) rfl) (fun c d => val_tile hv (384 * (i 2).val) (by omega) _ _ (off11_eq i) c d) ⟨τ (384 * (i 2).val), by rw [masked, if_pos (by omega)]⟩
  exact row_mean r (by omega) h d

omit i xq kb vb cb in
/-- A column of the first head is not in the second head's columns. -/
theorem second_not_mem (y : Fin 256) (hy : y.val < 128) : (ix2 r y : S384x256.Idx) ∉ (Rect.unit (s := S384x256) ![0, 128] ![384, 128] inb_S384x256_S384x128_0_128).set := by
  intro hm
  have h1 := (Rect.mem_set_unit.mp hm ⟨1, by decide⟩).1
  have h2 : 128 ≤ y.val := h1
  omega

omit i xq kb vb cb in
/-- Two stored column halves read back in the first half. -/
theorem halves_fst (w1 : (Rect.unit (s := S384x256) ![0, 128] ![384, 128] inb_S384x256_S384x128_0_128).shape.Idx → Elt Ideal .bf16) (w0 : (Rect.unit (s := S384x256) ![0, 0] ![384, 128] inb_S384x256_S384x128_0_0).shape.Idx → Elt Ideal .bf16) (d : Fin 128) (y : Fin 256) (hy : y.val = d.val) :
    View.canon (Val := Elt Ideal) (s := S384x256) (e := .bf16) [⟨Rect.unit (s := S384x256) ![0, 128] ![384, 128] inb_S384x256_S384x128_0_128, w1⟩, ⟨Rect.unit (s := S384x256) ![0, 0] ![384, 128] inb_S384x256_S384x128_0_0, w0⟩] (ix2 r y) = w0 (ix2 r d) := by
  have e : (ix2 r y : S384x256.Idx) = (Rect.unit (s := S384x256) ![0, 0] ![384, 128] inb_S384x256_S384x128_0_0).emb (ix2 r d) := by
    funext a
    refine Fin.ext (Eq.trans ?_ (Rect.idx_unit_val _ _ _ _ a).symm)
    match a with
    | ⟨0, _⟩ => exact (Nat.zero_add _).symm
    | ⟨1, _⟩ => exact hy.trans (Nat.zero_add _).symm
  have hn := second_not_mem r y (by have := d.isLt; omega)
  rw [View.canon_cons_of_not_mem ⟨_, w1⟩ _ hn, e]
  exact View.canon_cons_emb _ _ _ _

omit i xq kb vb cb in
/-- Two stored column halves read back in the second half. -/
theorem halves_snd (w1 : (Rect.unit (s := S384x256) ![0, 128] ![384, 128] inb_S384x256_S384x128_0_128).shape.Idx → Elt Ideal .bf16) (w0 : (Rect.unit (s := S384x256) ![0, 0] ![384, 128] inb_S384x256_S384x128_0_0).shape.Idx → Elt Ideal .bf16) (d : Fin 128) (y : Fin 256) (hy : y.val = 128 + d.val) :
    View.canon (Val := Elt Ideal) (s := S384x256) (e := .bf16) [⟨Rect.unit (s := S384x256) ![0, 128] ![384, 128] inb_S384x256_S384x128_0_128, w1⟩, ⟨Rect.unit (s := S384x256) ![0, 0] ![384, 128] inb_S384x256_S384x128_0_0, w0⟩] (ix2 r y) = w1 (ix2 r d) := by
  have e : (ix2 r y : S384x256.Idx) = (Rect.unit (s := S384x256) ![0, 128] ![384, 128] inb_S384x256_S384x128_0_128).emb (ix2 r d) := by
    funext a
    refine Fin.ext (Eq.trans ?_ (Rect.idx_unit_val _ _ _ _ a).symm)
    match a with
    | ⟨0, _⟩ => exact (Nat.zero_add _).symm
    | ⟨1, _⟩ => exact hy
  rw [e]
  exact View.canon_cons_emb _ _ _ _

/-- The output block at a row and a column of head `hh`: the weighted mean of the head's values over all keys. -/
theorem block_row (hh : Fin 2) (τ : ℕ → ℝ) (v : ℕ → Fin 128 → EReal) (hτ : HeadScore xq kb cb r hh τ) (hv : HeadVal vb hh v) (d : Fin 128) (y : Fin 256) (hy : y.val = 128 * hh.val + d.val) :
    blockOut i xq kb vb cb (ix2 r y) = mean 4224 (weight τ (384 * (i 2).val + r.val)) fun s => v s d := by
  have hi : (i 2).val < 11 := (i 2).isLt
  have hN : mean 4224 (weight τ (384 * (i 2).val + r.val)) (fun s => v s d) = mean (384 * (i 2).val + 384) (weight τ (384 * (i 2).val + r.val)) fun s => v s d := by
    have h := mean_extend (384 * (i 2).val + 384) (4224 - (384 * (i 2).val + 384)) (weight τ (384 * (i 2).val + r.val)) (fun s hs => by rw [weight, if_neg (by omega)]) (fun s => v s d)
    rwa [show 384 * (i 2).val + 384 + (4224 - (384 * (i 2).val + 384)) = 4224 by omega] at h
  rw [hN]
  match hh, hτ, hv, hy with
  | 0, hτ, hv, hy => exact (halves_fst r _ _ d y (by simpa using hy)).trans (block_row0 i xq kb vb cb r τ v hτ hv d)
  | 1, hτ, hv, hy => exact (halves_snd r _ _ d y (by simpa using hy)).trans (block_row1 i xq kb vb cb r τ v hτ hv d)

end Block

end Cert.KernelIdeal.Fox

end
-- ==== Proof.FoxArray.lean ====
/-
  The attention kernel's result array at an index, at the ideal instance: the weighted mean of the head's values over all
  keys of the sequence, under the base-two exponentials of the scores.
-/
module

public import proofs.«01_k».proof.Proof.FoxRow
public import Idealize.ShloMosaic.Lib.StableHlo.ReadAt

@[expose] public section

set_option maxRecDepth 16384

noncomputable section

namespace Cert.KernelIdeal.Fox

open Cert.KernelIdeal Cert.KernelIdeal.Gen Cert.Proof.Softmax Idealize.ShloMosaic Idealize.ShloMosaic.TcCoe Idealize.SL.Sem

variable (m : (ℓ : Loc nD τ sig) → Buf (Elt Ideal) ℓ)

/-- The projections' element. -/
abbrev projAt (c : Dev nD) (r : Fin 8704) (k : Fin 5632) : EReal := m ((c : Thread nD τ).loc main_arg0) (ix2 r k)
/-- The cumulated log decay's element. -/
abbrev decayAt (c : Dev nD) (b : Fin 2) (n : Fin 8) (s : Fin 4224) : EReal := m ((c : Thread nD τ).loc main_arg1) (ix3 b n s)

/-- The block indices at a point: sequence `t / 44`, head pair `t / 11 % 4`, query block `t % 11`. -/
theorem idx_facts : ∀ t : Fin cfg0.N,
    (win0_0.index t 0 = t.val / 44 * 11 + t.val % 11 ∧ win0_0.index t 1 = 8 + t.val / 11 % 4) ∧ (win0_1.index t 0 = t.val / 44 ∧ win0_1.index t 1 = 12 + t.val / 11 % 4)
    ∧ (win0_2.index t 0 = t.val / 44 ∧ win0_2.index t 1 = 16 + t.val / 11 % 4)
    ∧ (win0_3.index t 0 = t.val / 44 ∧ win0_3.index t 1 = t.val / 11 % 4 ∧ win0_3.index t 2 = 0 ∧ win0_3.index t 3 = 0)
    ∧ (win0_4.index t 0 = t.val / 44 * 11 + t.val % 11 ∧ win0_4.index t 1 = t.val / 11 % 4) ∧ (grid0.coords t 2).val = t.val % 11 :=
  (by decide +kernel : ∀ t : Fin grid0.N, _)

/-- Every point writes its block back. -/
theorem flush4 : ∀ t : Fin cfg0.N, (cfg0.win 4).flush t = true := (by decide +kernel : ∀ t : Fin grid0.N, _)

/-- The decays the region finds are the argument's, two heads to a pair. -/
theorem V_decay (c : Dev nD) (b : Fin 2) (p : Fin 4) (hh : Fin 2) (s : Fin 4224) :
    (V m c main_v0 : Vec Ideal S2x4x2x4224 .f32) (ix4 b p hh s) = decayAt m c b ⟨2 * p.val + hh.val, by omega⟩ s := by
  unfold V
  after_reads_at
  exact congrArg (fun k => decayAt m c b k s) (Fin.ext (by show p.val * 2 + hh.val = 2 * p.val + hh.val; omega))

/-- A point's number is below the grid's. -/
theorem pt_lt (t : Fin cfg0.N) : t.val < 88 := lt_of_lt_of_eq t.isLt (show cfg0.N = 88 from N_0)

/-- The query block at an index. -/
theorem blk0 (c : Dev nD) (t : Fin cfg0.N) (r : Fin 384) (k : Fin 256) (R : Fin 8704) (K : Fin 5632)
    (hR : R.val = (t.val / 44 * 11 + t.val % 11) * 384 + r.val) (hK : K.val = (8 + t.val / 11 % 4) * 256 + k.val) :
    (X0_0 m c t : Vec Ideal S384x256 .f32) (ix2 r k) = projAt m c R K := by
  obtain ⟨⟨h0, h1⟩, -⟩ := idx_facts t
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 384 + 1 * r.val = R.val; rw [h0, hR]; omega
  | ⟨1, _⟩ => show win0_0.index t 1 * 256 + 1 * k.val = K.val; rw [h1, hK]; omega

/-- The key block at an index. -/
theorem blk1 (c : Dev nD) (t : Fin cfg0.N) (s : Fin 4224) (k : Fin 256) (R : Fin 8704) (K : Fin 5632)
    (hR : R.val = t.val / 44 * 4224 + s.val) (hK : K.val = (12 + t.val / 11 % 4) * 256 + k.val) :
    (X0_1 m c t : Vec Ideal S4224x256 .f32) (ix2 s k) = projAt m c R K := by
  obtain ⟨-, ⟨h0, h1⟩, -⟩ := idx_facts t
  unfold X0_1 Pipeline.Window.fill
  rw [dif_pos (moved0_1 t _)]
  unfold iblk
  rw [View.read_apply]
  show V m c main_arg0 _ = _
  rw [V_main_arg0]
  congr 1
  funext a
  apply Fin.ext
  match a with
  | ⟨0, _⟩ => show win0_1.index t 0 * 4224 + 1 * s.val = R.val; rw [h0, hR]; omega
  | ⟨1, _⟩ => show win0_1.index t 1 * 256 + 1 * k.val = K.val; rw [h1, hK]; omega

/-- The value block at an index. -/
theorem blk2 (c : Dev nD) (t : Fin cfg0.N) (s : Fin 4224) (k : Fin 256) (R : Fin 8704) (K : Fin 5632)
    (hR : R.val = t.val / 44 * 4224 + s.val) (hK : K.val = (16 + t.val / 11 % 4) * 256 + k.val) :
    (X0_2 m c t : Vec Ideal S4224x256 .f32) (ix2 s k) = projAt m c R K := by
  obtain ⟨-, -, ⟨h0, h1⟩, -⟩ := idx_facts t
  unfold X0_2 Pipeline.Window.fill
  rw [dif_pos (moved0_2 t _)]
  unfold iblk
  rw [View.read_apply]
  show V m c main_arg0 _ = _
  rw [V_main_arg0]
  congr 1
  funext a
  apply Fin.ext
  match a with
  | ⟨0, _⟩ => show win0_2.index t 0 * 4224 + 1 * s.val = R.val; rw [h0, hR]; omega
  | ⟨1, _⟩ => show win0_2.index t 1 * 256 + 1 * k.val = K.val; rw [h1, hK]; omega

/-- The decay block at an index. -/
theorem blk3 (c : Dev nD) (t : Fin cfg0.N) (hh : Fin 2) (s : Fin 4224) (b : Fin 2) (n : Fin 8) (hb : b.val = t.val / 44) (hn : n.val = 2 * (t.val / 11 % 4) + hh.val) :
    (iblk m c 3 t : Vec Ideal S1x1x2x4224 .f32) (ix4 0 0 hh s) = decayAt m c b n s := by
  obtain ⟨-, -, -, ⟨h0, h1, h2, h3⟩, -⟩ := idx_facts t
  have e : n = ⟨2 * (⟨t.val / 11 % 4, Nat.mod_lt _ (by decide)⟩ : Fin 4).val + hh.val, by dsimp only; omega⟩ := Fin.ext hn
  rw [e]
  unfold iblk
  rw [View.read_apply]
  refine Eq.trans ?_ (V_decay m c b ⟨t.val / 11 % 4, Nat.mod_lt _ (by decide)⟩ hh s)
  show V m c main_v0 _ = _
  congr 1
  funext a
  apply Fin.ext
  match a with
  | ⟨0, _⟩ => show win0_3.index t 0 * 1 + 1 * 0 = b.val; rw [h0, hb]; omega
  | ⟨1, _⟩ => show win0_3.index t 1 * 1 + 1 * 0 = t.val / 11 % 4; rw [h1]; omega
  | ⟨2, _⟩ => show win0_3.index t 2 * 2 + 1 * hh.val = hh.val; rw [h2]; omega
  | ⟨3, _⟩ => show win0_3.index t 3 * 4224 + 1 * s.val = s.val; rw [h3]; omega

/-- Storing the keys rounds them to the narrower format, which changes no ideal value. -/
theorem keys_apply (x : Vec Ideal S4224x256 .f32) (s : Fin 4224) (k : Fin 256) : k0_pay17 x (ix2 s k) = x (ix2 s k) := by
  pointwise [k0_pay17]

/-- Storing the values rounds them to the narrower format, which changes no ideal value. -/
theorem vals_apply (x : Vec Ideal S4224x256 .f32) (s : Fin 4224) (k : Fin 256) : k0_pay18 x (ix2 s k) = x (ix2 s k) := by
  pointwise [k0_pay18]

/-- The carried blocks at a point are the keys and the values of the point's sequence and head pair. -/
def Carried (c : Dev nD) (n : ℕ) (kb vb : Vec Ideal S4224x256 .bf16) : Prop :=
  ∀ (s : Fin 4224) (k : Fin 256) (R : Fin 8704) (K K' : Fin 5632), R.val = n / 44 * 4224 + s.val → K.val = (12 + n / 11 % 4) * 256 + k.val → K'.val = (16 + n / 11 % 4) * 256 + k.val →
    kb (ix2 s k) = projAt m c R K ∧ vb (ix2 s k) = projAt m c R K'

/-- The blocks a pair's first point stores. -/
theorem carried_first (c : Dev nD) (t : Fin cfg0.N) : Carried m c t.val (k0_pay17 (X0_1 m c t)) (k0_pay18 (X0_2 m c t)) :=
  fun s k R K K' hR hK hK' => ⟨(keys_apply _ s k).trans (blk1 m c t s k R K hR hK), (vals_apply _ s k).trans (blk2 m c t s k R K' hR hK')⟩

/-- What every point leaves carried is the keys and the values of its sequence and head pair. -/
theorem carried (c : Dev nD) (n : ℕ) : ∀ h : n < cfg0.N, Carried m c n (outsAt0 m c n h).2.1 (outsAt0 m c n h).2.2 := by
  induction n with
  | zero =>
    intro h
    rw [outsAt0_A m c ⟨0, h⟩ rfl]
    dsimp only
    rw [sout_A_0, sout_A_1]
    exact carried_first m c ⟨0, h⟩
  | succ n ih =>
    intro h
    by_cases h0 : (n + 1) % 11 = 0
    · rw [outsAt0_A m c ⟨n + 1, h⟩ h0]
      dsimp only
      rw [sout_A_0, sout_A_1]
      exact carried_first m c ⟨n + 1, h⟩
    · rw [outsAt0_B m c ⟨n + 1, h⟩ h0]
      dsimp only
      rw [sout_B_0, sout_B_1]
      simp only [Nat.add_sub_cancel]
      intro s k R K K' hR hK hK'
      exact ih (Nat.lt_of_succ_lt h) s k R K K' (by omega) (by omega) (by omega)

/-- The block a point leaves is the attention over keys and values of its sequence and head pair. -/
theorem block_at (c : Dev nD) (t : Fin cfg0.N) : ∃ kb vb, Carried m c t.val kb vb ∧ (outsAt0 m c t.val t.isLt).1 = blockOut (grid0.coords t) (X0_0 m c t) kb vb (iblk m c 3 t) := by
  by_cases h0 : t.val % 11 = 0
  · refine ⟨_, _, carried_first m c t, ?_⟩
    rw [outsAt0_A m c t h0]
    dsimp only
    rw [out_A]
  · have hc := carried m c (t.val - 1) (Nat.lt_of_le_of_lt (Nat.sub_le _ _) t.isLt)
    refine ⟨_, _, fun s k R K K' hR hK hK' => hc s k R K K' (by omega) (by omega) (by omega), ?_⟩
    rw [outsAt0_B m c t h0]
    dsimp only
    rw [out_B]

/-- The row of the projections that key `s` of sequence `b` is. -/
def rowOf (b : Fin 2) (s : Fin 4224) : Fin 8704 := ⟨4224 * b.val + s.val, by omega⟩
/-- Column `x` of head `n` in the queries, the keys, the values of the projections. -/
def colQ (n : Fin 8) (x : Fin 128) : Fin 5632 := ⟨2048 + 128 * n.val + x.val, by omega⟩
def colK (n : Fin 8) (x : Fin 128) : Fin 5632 := ⟨3072 + 128 * n.val + x.val, by omega⟩
def colV (n : Fin 8) (x : Fin 128) : Fin 5632 := ⟨4096 + 128 * n.val + x.val, by omega⟩

/-- The base-two score of query `t` and key `s` of head `n` in sequence `b`. -/
def score2 (c : Dev nD) (b : Fin 2) (n : Fin 8) (t s : Fin 4224) : EReal :=
  (∑ x : Fin 128, projAt m c (rowOf b t) (colQ n x) * qscale * projAt m c (rowOf b s) (colK n x)) - decayAt m c b n s * cscale

/-- The values of head `n` in sequence `b`, by the key's number. -/
def valN (c : Dev nD) (b : Fin 2) (n : Fin 8) (s : ℕ) (d : Fin 128) : EReal := if h : s < 4224 then projAt m c (rowOf b ⟨s, h⟩) (colV n d) else 0

/-- The result array after the run, at the row of query `t` of sequence `b` and column `d` of head `n`, when that row's scores are real. -/
theorem array_apply (c : Dev nD) (b : Fin 2) (n : Fin 8) (t : Fin 4224) (d : Fin 128) (R : Fin 8448) (C : Fin 1024) (hR : R.val = 4224 * b.val + t.val) (hC : C.val = 128 * n.val + d.val)
    (τ : ℕ → ℝ) (hτ : ∀ s : Fin 4224, score2 m c b n t s = (τ s.val : EReal)) :
    ((dats m 0 c).arrAt 4 cfg0.N : Vec Ideal S8448x1024 .bf16) (ix2 R C) = mean 4224 (weight τ t.val) fun s => valN m c b n s d := by
  have hb := b.isLt
  have hn := n.isLt
  have ht := t.isLt
  have hd := d.isLt
  obtain ⟨p, hp⟩ : ∃ p : Fin cfg0.N, p.val = (b.val * 4 + n.val / 2) * 11 + t.val / 384 := ⟨⟨(b.val * 4 + n.val / 2) * 11 + t.val / 384, by rw [show cfg0.N = 88 from N_0]; omega⟩, rfl⟩
  have e1 : p.val / 44 = b.val := by omega
  have e2 : p.val / 11 % 4 = n.val / 2 := by omega
  have e3 : p.val % 11 = t.val / 384 := by omega
  obtain ⟨-, -, -, -, ⟨h40, h41⟩, hi⟩ := idx_facts p
  have hblk := Value.blocks4 m c p (flush4 p)
  obtain ⟨kb, vb, hcar, hout⟩ := block_at m c p
  have hfl : (dats m 0 c).flushed 4 p = (cfg0.win 4).cut (grid0.coords p) (blockOut (grid0.coords p) (X0_0 m c p) kb vb (iblk m c 3 p)) := by
    rw [Value.flushed4, hout]
  rw [hfl] at hblk
  obtain ⟨r, hr⟩ : ∃ r : Fin 384, r.val = t.val % 384 := ⟨⟨t.val % 384, Nat.mod_lt _ (by decide)⟩, rfl⟩
  obtain ⟨hh, hhh⟩ : ∃ hh : Fin 2, hh.val = n.val % 2 := ⟨⟨n.val % 2, Nat.mod_lt _ (by decide)⟩, rfl⟩
  obtain ⟨y, hy⟩ : ∃ y : Fin 256, y.val = 128 * hh.val + d.val := ⟨⟨128 * hh.val + d.val, by omega⟩, rfl⟩
  have hrow := block_row (grid0.coords p) (X0_0 m c p) kb vb (iblk m c 3 p) r hh τ (valN m c b n)
    (fun s => by
      rw [← hτ s, score2, blk3 m c p hh s b n (by omega) (by omega)]
      congr 1
      refine Finset.sum_congr rfl fun x _ => ?_
      have hx := x.isLt
      rw [blk0 m c p r _ (rowOf b t) (colQ n x) (by simp only [rowOf]; omega) (by simp only [colQ]; omega)]
      congr 1
      exact (hcar s _ (rowOf b s) (colK n x) (colV n x) (by simp only [rowOf]; omega) (by simp only [colK]; omega) (by simp only [colV]; omega)).1)
    (fun s x => by
      have hx := x.isLt
      rw [valN, dif_pos s.isLt]
      exact (hcar s _ (rowOf b s) (colK n x) (colV n x) (by simp only [rowOf]; omega) (by simp only [colK]; omega) (by simp only [colV]; omega)).2)
    d y hy
  rw [show 384 * (grid0.coords p 2).val + r.val = t.val by rw [hi]; omega] at hrow
  rw [← hrow]
  have hat := congrFun hblk (ix2 r y)
  rw [View.read_apply] at hat
  refine Eq.trans ?_ hat
  congr 1
  funext a
  apply Fin.ext
  match a with
  | ⟨0, _⟩ => show R.val = win0_4.index p 0 * 384 + 1 * r.val; rw [h40]; omega
  | ⟨1, _⟩ => show C.val = win0_4.index p 1 * 256 + 1 * y.val; rw [h41]; omega

end Cert.KernelIdeal.Fox

end
-- ==== Proof.FoxRef.lean ====
/-
  The attention reference's result at an index, at the ideal instance: its scores, their maximum over the keys, and the
  sum of the values weighted by the softmax.
-/
module

public import proofs.«01_k».proof.Proof.Gen.ReferenceIdeal.Run
public import proofs.«01_k».proof.Proof.FoxMath
public import Idealize.ShloMosaic.Lib.Pointwise
public import Idealize.ShloMosaic.Lib.WordCmp
public import Idealize.ShloMosaic.PureOps.Reduce

@[expose] public section

set_option maxRecDepth 16384

noncomputable section

namespace Cert.ReferenceIdeal.Fox

open Cert.ReferenceIdeal Cert.ReferenceIdeal.Gen Cert.Proof.Softmax Idealize.ShloMosaic Idealize.ShloMosaic.TcCoe Idealize.SL.Sem

variable (P : FVec Ideal S8704x5632 .f32) (L : FVec Ideal S2x8x4224 .f32)

/-- The masked scores of all queries and keys. -/
def scores : FVec Ideal S2x8x4224x4224 .f32 :=
  select (broadcastInDim S2x8x4224x4224 ![2, 3] bcast_S4224x4224_S2x8x4224x4224_2_3 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))))
    (subf (addf (Host.divf (Host.dotGeneral dot_S2x4224x8x128_S2x4224x8x128_S2x8x4224x4224_3_3_1_1_02_02 none
        (shapeCast _ (extractStridedSlice S8448x1024 ![0, 2048] (extractStridedSlice S8448x5632 ![0, 0] P slices_S8704x5632_S8448x5632_0_0) slices_S8448x5632_S8448x1024_0_2048) shapeCasts_S8448x1024_S2x4224x8x128)
        (shapeCast _ (extractStridedSlice S8448x1024 ![0, 3072] (extractStridedSlice S8448x5632 ![0, 0] P slices_S8704x5632_S8448x5632_0_0) slices_S8448x5632_S8448x1024_0_3072) shapeCasts_S8448x1024_S2x4224x8x128))
      (broadcastInDim S2x8x4224x4224 ![] bcast_S_S2x8x4224x4224 (Host.sqrt (constant S_ .f32 0x43000000#32))))
      (broadcastInDim S2x8x4224x4224 ![0, 1, 2, 3] bcast_S2x8x4224x1_S2x8x4224x4224_0_1_2_3 (broadcastInDim S2x8x4224x1 ![0, 1, 2] bcast_S2x8x4224_S2x8x4224x1_0_1_2 L)))
      (broadcastInDim S2x8x4224x4224 ![0, 1, 2, 3] bcast_S2x8x1x4224_S2x8x4224x4224_0_1_2_3 (broadcastInDim S2x8x1x4224 ![0, 1, 3] bcast_S2x8x4224_S2x8x1x4224_0_1_3 L)))
    (broadcastInDim S2x8x4224x4224 ![] bcast_S_S2x8x4224x4224 (id (constant S_ .f32 0xFF800000#32)))

/-- The largest score of every query. -/
def peak (s : FVec Ideal S2x8x4224x4224 .f32) : FVec Ideal S2x8x4224 .f32 :=
  maximumf (broadcastInDim S2x8x4224 ![] bcast_S_S2x8x4224 (constant S_ .f32 0xFF800000#32)) (Host.reduce FloatOps.maximumf s (constant S_ .f32 0xFF800000#32) reducesTo_S2x8x4224x4224_S2x8x4224_d3 h_S_)

/-- The weights under the largest score. -/
def weights (s : FVec Ideal S2x8x4224x4224 .f32) (x : FVec Ideal S2x8x4224 .f32) : FVec Ideal S2x8x4224x4224 .f32 :=
  Host.exp (subf s (broadcastInDim S2x8x4224x4224 ![0, 1, 2, 3] bcast_S2x8x4224x1_S2x8x4224x4224_0_1_2_3 (broadcastInDim S2x8x4224x1 ![0, 1, 2] bcast_S2x8x4224_S2x8x4224x1_0_1_2 x)))

/-- The result: the values' sum under the weights over their sum. -/
def outv (w : FVec Ideal S2x8x4224x4224 .f32) : FVec Ideal S8448x1024 .bf16 :=
  truncf .bf16 (shapeCast _ (transpose S2x4224x8x128 [0, 3, 1, 2] (Host.dotGeneral dot_S2x4224x8x128_S2x8x4224x4224_S2x8x128x4224_1_3_3_2_02_01 none
    (shapeCast _ (extractStridedSlice S8448x1024 ![0, 4096] (extractStridedSlice S8448x5632 ![0, 0] P slices_S8704x5632_S8448x5632_0_0) slices_S8448x5632_S8448x1024_0_4096) shapeCasts_S8448x1024_S2x4224x8x128)
    (Host.divf w (broadcastInDim S2x8x4224x4224 ![0, 1, 2, 3] bcast_S2x8x4224x1_S2x8x4224x4224_0_1_2_3 (broadcastInDim S2x8x4224x1 ![0, 1, 2] bcast_S2x8x4224_S2x8x4224x1_0_1_2 (Host.reduceAdd w (constant S_ .f32 0x00000000#32) reducesTo_S2x8x4224x4224_S2x8x4224_d3 h_S_)))))
    transposes_S2x8x128x4224_S2x4224x8x128_0_3_1_2) shapeCasts_S2x4224x8x128_S8448x1024) bitsLt_bf16_f32

/-- The run's result is that composition. -/
theorem res_eq (m : (ℓ : Loc nD τ sig) → Buf (Elt Ideal) ℓ) (c : Dev nD) :
    Value.res_main_v40 m c = outv (m ((c.tc : Thread nD τ).loc main_arg0)) (weights (scores (m ((c.tc : Thread nD τ).loc main_arg0)) (m ((c.tc : Thread nD τ).loc main_arg1))) (peak (scores (m ((c.tc : Thread nD τ).loc main_arg0)) (m ((c.tc : Thread nD τ).loc main_arg1))))) := rfl

/-- The row of the projections that key `s` of sequence `b` is. -/
def rowOf (b : Fin 2) (s : Fin 4224) : Fin 8704 := ⟨b.val * 4224 + s.val, by omega⟩
/-- Column `x` of head `n` in the queries. -/
def colQ (n : Fin 8) (x : Fin 128) : Fin 5632 := ⟨2048 + (n.val * 128 + x.val), by omega⟩
/-- Column `x` of head `n` in the keys. -/
def colK (n : Fin 8) (x : Fin 128) : Fin 5632 := ⟨3072 + (n.val * 128 + x.val), by omega⟩

/-- The word of the mask is minus infinity. -/
theorem neg_inf : Ideal.ofBits FTy.f32 4286578688#32 = (⊥ : EReal) := by
  simp [Ideal.ofBits, Ideal.ieee]

/-- The word of the score scale is 128. -/
theorem head_dim : Ideal.ofBits FTy.f32 1124073472#32 = ((128 : ℝ) : EReal) := by
  simp [Ideal.ofBits, Ideal.ieee, -EReal.coe_mul]
  norm_num

/-- A score: for a key at or before the query the scaled product plus the difference of the cumulated log decays, minus infinity otherwise. -/
theorem scores_apply (b : Fin 2) (n : Fin 8) (t s : Fin 4224) :
    scores P L (ix4 b n t s) = if s.val ≤ t.val then Ideal.div (∑ x : Fin 128, P (ix2 (rowOf b t) (colQ n x)) * P (ix2 (rowOf b s) (colK n x))) (Ideal.sqrt ((128 : ℝ) : EReal)) + L (ix3 b n t) - L (ix3 b n s) else ⊥ := by
  have e : scores P L (ix4 b n t s) = Scalar.select (IntOp.cmpi CmpIPredicate.sle (BitVec.ofNat 32 s.val) (BitVec.ofNat 32 t.val)) (Ideal.div (∑ x : Fin 128, P (ix2 (rowOf b t) (colQ n x)) * P (ix2 (rowOf b s) (colK n x))) (Ideal.sqrt (Ideal.ofBits FTy.f32 1124073472#32)) + L (ix3 b n t) - L (ix3 b n s)) (Ideal.ofBits FTy.f32 4286578688#32) := by
    pointwise [scores]
    rfl
  have hs := s.isLt
  have ht := t.isLt
  rw [e, WordCmp.cmpi_sle_ofNat (by omega) (by omega), neg_inf, head_dim]
  unfold Scalar.select
  by_cases h : s.val ≤ t.val
  · simp [h]
  · simp [h]

/-- A weight: the exponential of the score less the query's shift. -/
theorem weights_apply (w : FVec Ideal S2x8x4224x4224 .f32) (x : FVec Ideal S2x8x4224 .f32) (b : Fin 2) (n : Fin 8) (t s : Fin 4224) : weights w x (ix4 b n t s) = Ideal.exp (w (ix4 b n t s) - x (ix3 b n t)) := by
  pointwise [weights]

/-- The result at an index. -/
theorem outv_apply (w : FVec Ideal S2x8x4224x4224 .f32) (b : Fin 2) (n : Fin 8) (t : Fin 4224) (R : Fin 8448) (C : Fin 1024) (hb : R.val / 4224 = b.val) (hn : C.val / 128 = n.val) (ht : R.val % 4224 = t.val) :
    outv P w (ix2 R C) = ∑ s : Fin 4224, P (ix2 (rowOf b s) ⟨4096 + C.val, by omega⟩) * Ideal.div (w (ix4 b n t s)) (∑ j : Fin 4224, w (ix4 b n t j)) := by
  have h2 : R.val / 4224 < 2 := by have := R.isLt; clear hb hn ht; omega
  have h8 : C.val / 128 < 8 := by have := C.isLt; clear hb hn ht; omega
  obtain rfl : (⟨R.val / 4224, h2⟩ : Fin 2) = b := Fin.ext hb
  obtain rfl : (⟨C.val / 128, h8⟩ : Fin 8) = n := Fin.ext hn
  obtain rfl : (⟨R.val % 4224, Nat.mod_lt _ (by decide)⟩ : Fin 4224) = t := Fin.ext ht
  pointwise [outv]
  rfl

/-- A reduction by maximum from minus infinity, over reals and minus infinities one of which, in the reduced fibre, is real, is real. -/
theorem reduce_max_real {s t u : Shape} {axes : List (Fin s.rank)} (f : EReal → EReal → EReal) (hf : f = max) (w : s.Idx → EReal) (init : u.Idx → EReal) (h : s.ReducesTo axes t) (hu : 0 < u.numel) (j : t.Idx)
    (h0 : ∀ k, init k = ⊥) (hs : ∀ i, Score (w i)) (i : s.Idx) (hi : h.drop i = j) (hr : ∃ r : ℝ, w i = (r : EReal)) : ∃ M : ℝ, max ⊥ (Host.reduce f w init h hu j) = (M : EReal) := by
  subst hf
  rw [Host.reduce_eq_fold, h0]
  exact max_real_set _ w hs ⟨i, Finset.mem_filter.mpr ⟨Finset.mem_univ _, hi⟩, hr⟩

/-- The reference's maximum is that of the extended reals. -/
theorem maximumf_eq : (FloatOps.maximumf : Ideal .f32 → Ideal .f32 → Ideal .f32) = (max : EReal → EReal → EReal) := rfl

/-- The reduced fibre of a query holds its first key. -/
theorem drop_first (b : Fin 2) (n : Fin 8) (t : Fin 4224) : reducesTo_S2x8x4224x4224_S2x8x4224_d3.drop (ix4 b n t 0) = ix3 b n t := by
  funext a
  apply Fin.ext
  match a with
  | ⟨0, _⟩ => exact reducesTo_S2x8x4224x4224_S2x8x4224_d3.drop_apply_val_of_eq (ix4 b n t 0) (⟨0, by decide⟩ : Fin S2x8x4224.rank) (0 : Fin S2x8x4224x4224.rank)
  | ⟨1, _⟩ => exact reducesTo_S2x8x4224x4224_S2x8x4224_d3.drop_apply_val_of_eq (ix4 b n t 0) (⟨1, by decide⟩ : Fin S2x8x4224.rank) (1 : Fin S2x8x4224x4224.rank)
  | ⟨2, _⟩ => exact reducesTo_S2x8x4224x4224_S2x8x4224_d3.drop_apply_val_of_eq (ix4 b n t 0) (⟨2, by decide⟩ : Fin S2x8x4224.rank) (2 : Fin S2x8x4224x4224.rank)

/-- The largest score at an index is the reduction's, from minus infinity. -/
theorem peak_apply (w : FVec Ideal S2x8x4224x4224 .f32) (j : S2x8x4224.Idx) (y : FVec Ideal S2x8x4224 .f32) (hy : Host.reduce FloatOps.maximumf w (constant S_ .f32 0xFF800000#32) reducesTo_S2x8x4224x4224_S2x8x4224_d3 h_S_ = y) :
    peak w j = max ⊥ (y j) := by
  unfold peak
  rw [hy, ← neg_inf]
  rfl

/-- The largest score of a query is real when all scores are reals or minus infinity and the query's first is real. -/
theorem peak_real (w : FVec Ideal S2x8x4224x4224 .f32) (b : Fin 2) (n : Fin 8) (t : Fin 4224) (hs : ∀ i, Score (w i)) (h : ∃ r : ℝ, w (ix4 b n t 0) = (r : EReal)) : ∃ M : ℝ, peak w (ix3 b n t) = (M : EReal) := by
  rw [peak_apply w _ _ rfl]
  exact reduce_max_real _ maximumf_eq w _ _ _ _ (fun _ => neg_inf) hs _ (drop_first b n t) h

end Cert.ReferenceIdeal.Fox

end
-- ==== Proof.FoxClaim.lean ====
/-
  The attention's claims: under finite queries, keys and cumulated log decays, kernel and reference leave equal arrays.
-/
module

public import proofs.«01_k».proof.Proof.FoxArray
public import proofs.«01_k».proof.Proof.FoxRef
public import proofs.«01_k».proof.Proof.Gen.Pre_finite
public import proofs.«01_k».proof.Defs
public import Idealize.ShloMosaic.Lib.Claim
public import Idealize.ShloMosaic.Lib.ReduceAll

@[expose] public section

set_option maxRecDepth 16384

noncomputable section

namespace Cert.Proof.Fox

open Idealize.ShloMosaic Idealize.SL.Sem Cert.Proof.Softmax

/-- The word of the bound is plus infinity. -/
theorem pos_inf : Ideal.ofBits FTy.f32 2139095040#32 = (⊤ : EReal) := by
  simp [Ideal.ofBits, Ideal.ieee]

/-- An extended real whose absolute value is below plus infinity is real. -/
theorem real_of_abs_lt (x : EReal) (h : Ideal.cmp .olt (max x (-x)) (Ideal.ofBits FTy.f32 2139095040#32) = 1#1) : ∃ r : ℝ, x = (r : EReal) := by
  rw [pos_inf] at h
  have h1 : max x (-x) < ⊤ := by
    by_contra hn
    rw [show Ideal.cmp .olt (max x (-x)) ⊤ = BitVec.ofBool (decide (max x (-x) < ⊤)) from rfl, decide_eq_false hn] at h
    exact absurd h (by decide)
  have h2 : x < ⊤ := lt_of_le_of_lt (le_max_left _ _) h1
  have h3 : -x < ⊤ := lt_of_le_of_lt (le_max_right _ _) h1
  refine ⟨x.toReal, (EReal.coe_toReal h2.ne ?_).symm⟩
  rintro rfl
  simp at h3

/-- Both bits of a conjunction that is one are one. -/
theorem and_one (a b : BitVec 1) (h : IntOp.andi a b = 1#1) : a = 1#1 ∧ b = 1#1 := by
  revert a b
  decide

section Pre

open Cert.Pre_finite Cert.Pre_finite.Gen

variable (P : FVec Ideal S8704x5632 .f32) (L : FVec Ideal S2x8x4224 .f32)

/-- Under the precondition the queries and keys are real. -/
theorem pre_proj (h : Cert.Pre_finite.fn (F := Ideal) P L = fun _ => 1#1) (r : Fin 8704) (k : Fin 5632) (hr : r.val < 8448) (hk : 2048 ≤ k.val) (hk' : k.val < 4096) : ∃ x : ℝ, P (ix2 r k) = (x : EReal) := by
  have h1 := (and_one _ _ (congrFun h ix0)).1
  have h2 := Host.reduce_andi_all _ _ _ _ _ h1 (ix2 ⟨r.val, hr⟩ ⟨k.val - 2048, by omega⟩)
  have e : (extractStridedSlice S8448x2048 ![0, 2048] P slices_S8704x5632_S8448x2048_0_2048) (ix2 ⟨r.val, hr⟩ ⟨k.val - 2048, by omega⟩) = P (ix2 r k) := by
    pointwise
    exact congrArg (fun y => P (ix2 r y)) (Fin.ext (by show 2048 + (k.val - 2048) = k.val; omega))
  rw [← e]
  exact real_of_abs_lt _ h2

/-- Under the precondition the cumulated log decays are real. -/
theorem pre_decay (h : Cert.Pre_finite.fn (F := Ideal) P L = fun _ => 1#1) (b : Fin 2) (n : Fin 8) (s : Fin 4224) : ∃ x : ℝ, L (ix3 b n s) = (x : EReal) := by
  have h1 := (and_one _ _ (congrFun h ix0)).2
  exact real_of_abs_lt _ (Host.reduce_andi_all _ _ _ _ _ h1 (ix3 b n s))

end Pre

/-- The score scale times log2 e is the real its name stands for. -/
theorem qscale_eq : Cert.KernelIdeal.Fox.qscale = (((Real.sqrt 128)⁻¹ * (Real.log 2)⁻¹ : ℝ) : EReal) :=
  IdealRules.named_const.ideal_named_scalar _ _ _ _ rfl

/-- Log2 e is the real its name stands for. -/
theorem cscale_eq : Cert.KernelIdeal.Fox.cscale = (((Real.log 2)⁻¹ : ℝ) : EReal) :=
  IdealRules.named_const.ideal_named_scalar _ _ _ _ rfl

/-- A sum of products of reals is the real sum. -/
theorem sum_mul_coe {ι : Type} (S : Finset ι) (f g : ι → ℝ) : ∑ x ∈ S, ((f x : ℝ) : EReal) * ((g x : ℝ) : EReal) = ((∑ x ∈ S, f x * g x : ℝ) : EReal) := by
  rw [← coe_sum]
  exact Finset.sum_congr rfl fun x _ => (EReal.coe_mul _ _).symm

section Value

variable (m : (ℓ : Loc Cert.KernelIdeal.nD Cert.KernelIdeal.τ Cert.KernelIdeal.sig) → Buf (Elt Ideal) ℓ) (c : Dev Cert.KernelIdeal.nD)

/-- The projections. -/
abbrev P : FVec Ideal Cert.ReferenceIdeal.S8704x5632 .f32 := m ((c.tc : Thread Cert.KernelIdeal.nD Cert.KernelIdeal.τ).loc Cert.KernelIdeal.main_arg0)
/-- The cumulated log decays. -/
abbrev L : FVec Ideal Cert.ReferenceIdeal.S2x8x4224 .f32 := m ((c.tc : Thread Cert.KernelIdeal.nD Cert.KernelIdeal.τ).loc Cert.KernelIdeal.main_arg1)

open Cert.ReferenceIdeal.Fox in
/-- Under the precondition the product of a query and a key, and the decays, are real; the kernel's and the reference's scores are these reals' combinations. -/
theorem score_reals (h : Cert.Pre_finite.fn (F := Ideal) (P m c) (L m c) = fun _ => 1#1) (b : Fin 2) (n : Fin 8) (t : Fin 4224) :
    ∃ (g l : ℕ → ℝ), (∀ s : Fin 4224, Cert.KernelIdeal.Fox.score2 m c b n t s = ((g s.val * ((Real.sqrt 128)⁻¹ * (Real.log 2)⁻¹) - l s.val * (Real.log 2)⁻¹ : ℝ) : EReal))
      ∧ ∀ s : Fin 4224, scores (P m c) (L m c) (ix4 b n t s) = if s.val ≤ t.val then ((g s.val * (Real.sqrt 128)⁻¹ + l t.val - l s.val : ℝ) : EReal) else ⊥ := by
  have hq : ∀ (s : Fin 4224) (x : Fin 128), ∃ r : ℝ, P m c (ix2 (rowOf b s) (colQ n x)) = (r : EReal) := fun s x =>
    pre_proj _ _ h _ _ (by simp only [rowOf]; omega) (by simp only [colQ]; omega) (by simp only [colQ]; omega)
  have hk : ∀ (s : Fin 4224) (x : Fin 128), ∃ r : ℝ, P m c (ix2 (rowOf b s) (colK n x)) = (r : EReal) := fun s x =>
    pre_proj _ _ h _ _ (by simp only [rowOf]; omega) (by simp only [colK]; omega) (by simp only [colK]; omega)
  choose q hq using hq
  choose k hk using hk
  choose l hl using pre_decay (P m c) (L m c) h b n
  have er : ∀ s, Cert.KernelIdeal.Fox.rowOf b s = rowOf b s := fun s => Fin.ext (by simp only [Cert.KernelIdeal.Fox.rowOf, rowOf]; omega)
  have eq : ∀ x, Cert.KernelIdeal.Fox.colQ n x = colQ n x := fun x => Fin.ext (by simp only [Cert.KernelIdeal.Fox.colQ, colQ]; omega)
  have ek : ∀ x, Cert.KernelIdeal.Fox.colK n x = colK n x := fun x => Fin.ext (by simp only [Cert.KernelIdeal.Fox.colK, colK]; omega)
  refine ⟨fun s => if hs : s < 4224 then ∑ x, q t x * k ⟨s, hs⟩ x else 0, fun s => if hs : s < 4224 then l ⟨s, hs⟩ else 0, fun s => ?_, fun s => ?_⟩
  · have e : ∀ x, Cert.KernelIdeal.Fox.projAt m c (Cert.KernelIdeal.Fox.rowOf b t) (Cert.KernelIdeal.Fox.colQ n x) * Cert.KernelIdeal.Fox.qscale * Cert.KernelIdeal.Fox.projAt m c (Cert.KernelIdeal.Fox.rowOf b s) (Cert.KernelIdeal.Fox.colK n x)
        = ((q t x * ((Real.sqrt 128)⁻¹ * (Real.log 2)⁻¹) * k s x : ℝ) : EReal) := fun x => by
      rw [er, er, eq, ek, qscale_eq, EReal.coe_mul, EReal.coe_mul]
      exact congrArg₂ (fun y z => y * _ * z) (hq t x) (hk s x)
    have e' : Cert.KernelIdeal.Fox.decayAt m c b n s = ((l s : ℝ) : EReal) := hl s
    simp only [dif_pos s.isLt]
    rw [Cert.KernelIdeal.Fox.score2, Finset.sum_congr rfl fun x _ => e x, coe_sum, e', cscale_eq, ← EReal.coe_mul, ← EReal.coe_sub, Finset.sum_mul]
    congr 2
    exact Finset.sum_congr rfl fun x _ => by ring
  · simp only [dif_pos s.isLt, dif_pos t.isLt]
    rw [scores_apply, Finset.sum_congr rfl fun x _ => congrArg₂ (· * ·) (hq t x) (hk s x), sum_mul_coe, hl, hl]
    have e128 : Ideal.sqrt ((128 : ℝ) : EReal) = ((Real.sqrt 128 : ℝ) : EReal) := if_neg (by norm_num)
    rw [e128, div_pos_coe _ _ (Real.sqrt_pos.mpr (by norm_num)), ← EReal.coe_mul, ← EReal.coe_add, ← EReal.coe_sub, mul_comm]

open Cert.ReferenceIdeal.Fox in
/-- Kernel and reference of the attention leave equal elements. -/
theorem value_at (h : Cert.Pre_finite.fn (F := Ideal) (P m c) (L m c) = fun _ => 1#1) (R : Fin 8448) (C : Fin 1024) :
    outv (P m c) (weights (scores (P m c) (L m c)) (peak (scores (P m c) (L m c)))) (ix2 R C) = ((Cert.KernelIdeal.Gen.dats m 0 c).arrAt 4 Cert.KernelIdeal.cfg0.N : FVec Ideal Cert.ReferenceIdeal.S8448x1024 .bf16) (ix2 R C) := by
  obtain ⟨b, hb⟩ : ∃ b : Fin 2, R.val / 4224 = b.val := ⟨⟨R.val / 4224, by omega⟩, rfl⟩
  obtain ⟨t, ht⟩ : ∃ t : Fin 4224, R.val % 4224 = t.val := ⟨⟨R.val % 4224, by omega⟩, rfl⟩
  obtain ⟨n, hn⟩ : ∃ n : Fin 8, C.val / 128 = n.val := ⟨⟨C.val / 128, by omega⟩, rfl⟩
  obtain ⟨d, hd⟩ : ∃ d : Fin 128, C.val % 128 = d.val := ⟨⟨C.val % 128, by omega⟩, rfl⟩
  obtain ⟨g, l, hker, href⟩ := score_reals m c h b n t
  have hall : ∀ i, Score (scores (P m c) (L m c) i) := fun i => by
    rw [eq_ix4 i]
    obtain ⟨g', l', -, h'⟩ := score_reals m c h (i 0) (i 1) (i 2)
    rw [h' (i 3)]
    split
    · exact .inr ⟨_, rfl⟩
    · exact .inl rfl
  obtain ⟨M, hM⟩ := peak_real (scores (P m c) (L m c)) b n t hall ⟨_, (href 0).trans (if_pos (Nat.zero_le _))⟩
  rw [outv_apply (P m c) _ b n t R C hb hn ht]
  refine Eq.trans ?_ (Cert.KernelIdeal.Fox.array_apply m c b n t d R C (by omega) (by omega) (fun s => g s * ((Real.sqrt 128)⁻¹ * (Real.log 2)⁻¹) - l s * (Real.log 2)⁻¹) hker).symm
  refine sum_fin_eq_mean 4224 (Cert.KernelIdeal.Fox.weight _ t.val) (Cert.KernelIdeal.Fox.weight_sum_pos _ _ _ (by decide)) (Real.exp (l t.val - M)) (Real.exp_pos _) _ _ (fun s => ?_) _ fun s => ?_
  · rw [weights_apply, hM, href s, Cert.KernelIdeal.Fox.weight]
    split
    · rw [← EReal.coe_sub]
      show ((Real.exp _ : ℝ) : EReal) = _
      rw [Real.rpow_def_of_pos (by norm_num), ← Real.exp_add]
      refine congrArg (fun y : ℝ => ((Real.exp y : ℝ) : EReal)) ?_
      have h2 : Real.log 2 ≠ 0 := (Real.log_pos (by norm_num)).ne'
      field_simp
      ring
    · rw [mul_zero]; rfl
  · rw [Cert.KernelIdeal.Fox.valN, dif_pos s.isLt]
    have er : rowOf b s = Cert.KernelIdeal.Fox.rowOf b ⟨s.val, s.isLt⟩ := Fin.ext (by simp only [Cert.KernelIdeal.Fox.rowOf, rowOf]; omega)
    have ec : (⟨4096 + C.val, by omega⟩ : Fin 5632) = Cert.KernelIdeal.Fox.colV n d := Fin.ext (by simp only [Cert.KernelIdeal.Fox.colV]; omega)
    rw [er, ec]

end Value

/-- The algebraic claim of the attention. -/
theorem algebraic : @Cert.algebraic_KernelIdeal_ReferenceIdeal_pre_finite Cert.KernelIdeal.Gen.facts Cert.ReferenceIdeal.Gen.facts Cert.Pre_finite.Gen.facts := by
  intro m g m' g' hpre hag
  refine ⟨fun c => (Cert.KernelIdeal.Gen.dats m 0 c).arrAt 4 Cert.KernelIdeal.cfg0.N, Cert.KernelIdeal.Value.run_blocks m g, ?_⟩
  refine (θ_run _ _ _).mono (fun r h c => ?_) (Cert.ReferenceIdeal.Value.run m' g')
  obtain ⟨hv, h0⟩ := h c
  refine ⟨hv.trans ?_, h0⟩
  obtain ⟨e0, e1⟩ := hag c
  refine (Cert.ReferenceIdeal.Fox.res_eq m' c).trans ?_
  rw [e0, e1]
  funext j
  rw [eq_ix2 j]
  exact value_at m c (hpre c) (j 0) (j 1)

end Cert.Proof.Fox

end
-- ==== Proof.InBlock.lean ====
/-
  What one grid point of the input projection leaves behind: the terms the run found for the output block and for the
  carried normalised rows, with the loads and stores read away.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.In

open Cert.Kernel3Ideal Cert.Kernel3Ideal.Gen Idealize.ShloMosaic Idealize.ShloMosaic.TcCoe Idealize.SL.Sem

variable {F : FTy → Type} [FloatOps F]

/-- The zero offsets of a rank-2 access are the constant zero function. -/
theorem hz2 : (![0, 0] : Fin 2 → Nat) = fun _ => 0 := funext fun a => by fin_cases a <;> rfl

/-- The zero offsets of a rank-3 access are the constant zero function. -/
theorem hz3 : (![0, 0, 0] : Fin 3 → Nat) = fun _ => 0 := funext fun a => by fin_cases a <;> rfl

/-- At the first of a row block's points the carried scratch is left at the normalised rows of the block. -/
theorem sout_A (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512 .f32) (harg6 : arg6.IsWhole) (arg7 : Memref sig .tc .vmem S1088x512 .f32) (harg7 : arg7.IsWhole) (arg8 : Memref sig .tc .vmem S1088x2048 .bf16) (harg8 : arg8.IsWhole) (hc0 : cond0_0 i) (hc1 : cond0_1 i) (hc2 : ¬cond0_2 i) (hc3 : ¬cond0_3 i)
    (x0 : Vec F S1088x2048 .f32) (x1 : Vec F S1x2048 .f32) (x2 : Vec F S1x2048x512 .bf16) (x3 : Vec F S1x1x512 .f32) (x4 : Vec F S1x512 .f32) :
    sout0_A_0 c i arg2 harg2 arg3 harg3 arg4 harg4 arg5 harg5 arg6 harg6 arg7 harg7 arg8 harg8 hc0 hc1 hc2 hc3 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 hc2 hc3 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg8.read_unread, View.ld_unit_zero (S := S1088x2048) hz2, View.ld_unit_zero (S := S1x2048) hz2, View.ld_unit_zero (S := S1x2048x512) hz3]

/-- At the first of a row block's points the output block is the product of the normalised rows and the weights. -/
theorem out_A (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512 .f32) (harg6 : arg6.IsWhole) (arg7 : Memref sig .tc .vmem S1088x512 .f32) (harg7 : arg7.IsWhole) (arg8 : Memref sig .tc .vmem S1088x2048 .bf16) (harg8 : arg8.IsWhole) (hc0 : cond0_0 i) (hc1 : cond0_1 i) (hc2 : ¬cond0_2 i) (hc3 : ¬cond0_3 i)
    (x0 : Vec F S1088x2048 .f32) (x1 : Vec F S1x2048 .f32) (x2 : Vec F S1x2048x512 .bf16) (x3 : Vec F S1x1x512 .f32) (x4 : Vec F S1x512 .f32) :
    out0_A_5 c i arg2 harg2 arg3 harg3 arg4 harg4 arg5 harg5 arg6 harg6 arg7 harg7 arg8 harg8 hc0 hc1 hc2 hc3 x0 x1 x2 x3 x4 = k0_pay2 (k0_pay1 x0 x1) x2 := by
  unfold out0_A_5
  rw [View.read_writes_eq_canon _ _ _ (cover0_A_5 c i arg2 harg2 arg3 harg3 arg4 harg4 arg5 harg5 arg6 harg6 arg7 harg7 arg8 harg8 hc0 hc1 hc2 hc3 x0 x1 x2 x3 x4)]
  unfold kernelRun0_A
  dsimp only
  sl_unfold_words
  rw [View.canon_unit_zero hz2]
  simp only [View.readCov_unit_zero (S := S1088x2048) _ hz2, View.readAt_eq_ld, harg2.read_unread, harg3.read_unread, harg4.read_unread, harg5.read_unread, harg6.read_unread, harg8.read_unread, View.ld_unit_zero (S := S1088x2048) hz2, View.ld_unit_zero (S := S1x2048) hz2, View.ld_unit_zero (S := S1x2048x512) hz3]

/-- At a plain point the output block is the product of the carried rows and the weights. -/
theorem out_B (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512 .f32) (harg6 : arg6.IsWhole) (arg7 : Memref sig .tc .vmem S1088x512 .f32) (harg7 : arg7.IsWhole) (arg8 : Memref sig .tc .vmem S1088x2048 .bf16) (harg8 : arg8.IsWhole) (hc0 : ¬cond0_0 i) (hc1 : cond0_1 i) (hc2 : ¬cond0_2 i) (hc3 : ¬cond0_3 i)
    (x0 : Vec F S1088x2048 .f32) (x1 : Vec F S1x2048 .f32) (x2 : Vec F S1x2048x512 .bf16) (x3 : Vec F S1x1x512 .f32) (x4 : Vec F S1x512 .f32) (xs0 : Vec F S1088x2048 .bf16) :
    out0_B_5 c i arg2 harg2 arg3 harg3 arg4 harg4 arg5 harg5 arg6 harg6 arg7 harg7 arg8 harg8 hc0 hc1 hc2 hc3 x0 x1 x2 x3 x4 xs0 = k0_pay2 xs0 x2 := by
  unfold out0_B_5
  rw [View.read_writes_eq_canon _ _ _ (cover0_B_5 c i arg2 harg2 arg3 harg3 arg4 harg4 arg5 harg5 arg6 harg6 arg7 harg7 arg8 harg8 hc0 hc1 hc2 hc3 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S1088x2048) hz2, View.ld_unit_zero (S := S1x2048) hz2, View.ld_unit_zero (S := S1x2048x512) hz3]

/-- What a query or key point stores: each of the block's four heads, normalised and scaled by its gain. -/
def headsOut (xs : Vec F S1088x2048 .bf16) (x2 : Vec F S1x2048x512 .bf16) (x3 : Vec F S1x1x512 .f32) : Vec F S1088x512 .f32 :=
  View.canon (Val := Elt F) (s := S1088x512) (e := .f32) [⟨Rect.unit ![0, 384] ![1088, 128] inb_S1088x512_S1088x128_0_384,
          k0_pay4 xs x2 (View.ld x3 (Rect.unit ![0, 0, 384] ![1, 1, 128] inb_S1x1x512_S1x1x128_0_0_384))⟩,
        ⟨Rect.unit ![0, 256] ![1088, 128] inb_S1088x512_S1088x128_0_256,
          k0_pay3 (k0_pay9 (k0_pay2 xs x2))
            (k0_pay10 (View.ld x3 (Rect.unit ![0, 0, 256] ![1, 1, 128] inb_S1x1x512_S1x1x128_0_0_256)))
            (k0_pay11 (k0_pay2 xs x2))⟩,
        ⟨Rect.unit ![0, 128] ![1088, 128] inb_S1088x512_S1088x128_0_128,
          k0_pay8 (k0_pay2 xs x2) (View.ld x3 (Rect.unit ![0, 0, 128] ![1, 1, 128] inb_S1x1x512_S1x1x128_0_0_128))⟩,
        ⟨Rect.unit ![0, 0] ![1088, 128] inb_S1088x512_S1088x128_0_0,
          k0_pay7 (k0_pay2 xs x2) (View.ld x3 (Rect.unit ![0, 0, 0] ![1, 1, 128] inb_S1x1x512_S1x1x128_0_0_0))⟩]

/-- What a row block's last point stores: the step sizes and forget gates in the first 128 columns, zero beyond. -/
def gatesOut (xs : Vec F S1088x2048 .bf16) (x2 : Vec F S1x2048x512 .bf16) (x4 : Vec F S1x512 .f32) : Vec F S1088x512 .f32 :=
  View.canon (Val := Elt F) (s := S1088x512) (e := .f32) [⟨Rect.unit ![0, 128] ![1088, 384] inb_S1088x512_S1088x384_0_128, k0_pay6⟩,
        ⟨Rect.unit ![0, 0] ![1088, 128] inb_S1088x512_S1088x128_0_0,
          k0_pay5 xs x2 (View.ld x4 (Rect.unit ![0, 0] ![1, 128] inb_S1x512_S1x128_0_0))⟩]

/-- At a query or key point the output block is the four normalised heads. -/
theorem out_C (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512 .f32) (harg6 : arg6.IsWhole) (arg7 : Memref sig .tc .vmem S1088x512 .f32) (harg7 : arg7.IsWhole) (arg8 : Memref sig .tc .vmem S1088x2048 .bf16) (harg8 : arg8.IsWhole) (hc0 : ¬cond0_0 i) (hc1 : ¬cond0_1 i) (hc2 : cond0_2 i) (hc3 : ¬cond0_3 i)
    (x0 : Vec F S1088x2048 .f32) (x1 : Vec F S1x2048 .f32) (x2 : Vec F S1x2048x512 .bf16) (x3 : Vec F S1x1x512 .f32) (x4 : Vec F S1x512 .f32) (xs0 : Vec F S1088x2048 .bf16) :
    out0_C_5 c i arg2 harg2 arg3 harg3 arg4 harg4 arg5 harg5 arg6 harg6 arg7 harg7 arg8 harg8 hc0 hc1 hc2 hc3 x0 x1 x2 x3 x4 xs0 = headsOut xs0 x2 x3 := by
  unfold out0_C_5
  rw [View.read_writes_eq_canon _ _ _ (cover0_C_5 c i arg2 harg2 arg3 harg3 arg4 harg4 arg5 harg5 arg6 harg6 arg7 harg7 arg8 harg8 hc0 hc1 hc2 hc3 x0 x1 x2 x3 x4 xs0)]
  unfold kernelRun0_C
  dsimp only
  sl_unfold_words
  simp only [View.readAt_eq_ld, harg2.read_unread, harg3.read_unread, harg4.read_unread, harg5.read_unread, harg6.read_unread, harg8.read_unread, View.ld_unit_zero (S := S1088x2048) hz2, View.ld_unit_zero (S := S1x2048) hz2, View.ld_unit_zero (S := S1x2048x512) hz3]
  rfl

/-- At a row block's last point the output block is the step sizes, the forget gates and the zero padding. -/
theorem out_D (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512 .f32) (harg6 : arg6.IsWhole) (arg7 : Memref sig .tc .vmem S1088x512 .f32) (harg7 : arg7.IsWhole) (arg8 : Memref sig .tc .vmem S1088x2048 .bf16) (harg8 : arg8.IsWhole) (hc0 : ¬cond0_0 i) (hc1 : ¬cond0_1 i) (hc2 : ¬cond0_2 i) (hc3 : cond0_3 i)
    (x0 : Vec F S1088x2048 .f32) (x1 : Vec F S1x2048 .f32) (x2 : Vec F S1x2048x512 .bf16) (x3 : Vec F S1x1x512 .f32) (x4 : Vec F S1x512 .f32) (xs0 : Vec F S1088x2048 .bf16) :
    out0_D_5 c i arg2 harg2 arg3 harg3 arg4 harg4 arg5 harg5 arg6 harg6 arg7 harg7 arg8 harg8 hc0 hc1 hc2 hc3 x0 x1 x2 x3 x4 xs0 = gatesOut xs0 x2 x4 := by
  unfold out0_D_5
  rw [View.read_writes_eq_canon _ _ _ (cover0_D_5 c i arg2 harg2 arg3 harg3 arg4 harg4 arg5 harg5 arg6 harg6 arg7 harg7 arg8 harg8 hc0 hc1 hc2 hc3 x0 x1 x2 x3 x4 xs0)]
  unfold kernelRun0_D
  dsimp only
  sl_unfold_words
  simp only [View.readAt_eq_ld, harg2.read_unread, harg3.read_unread, harg4.read_unread, harg5.read_unread, harg6.read_unread, harg8.read_unread, View.ld_unit_zero (S := S1088x2048) hz2, View.ld_unit_zero (S := S1x2048) hz2, View.ld_unit_zero (S := S1x2048x512) hz3]
  rfl

/-- A stored strip of columns reads back inside the strip. -/
theorem strip_hit (o n : ℕ) (inb : ∀ a : Fin S1088x512.rank, (![0, o] : Fin 2 → ℕ) a + (![1088, n] : Fin 2 → ℕ) a ≤ S1088x512.size a) (w : (Rect.unit (s := S1088x512) ![0, o] ![1088, n] inb).shape.Idx → Elt Ideal .f32)
    (L : List (View.Piece (Elt Ideal) S1088x512 .f32)) (r : Fin 1088) (y : Fin 512) (d : Fin n) (hy : y.val = o + d.val) :
    View.canon (Val := Elt Ideal) (s := S1088x512) (e := .f32) (⟨Rect.unit (s := S1088x512) ![0, o] ![1088, n] inb, w⟩ :: L) (ix2 r y) = w (ix2 r d) := by
  have e : (ix2 r y : S1088x512.Idx) = (Rect.unit (s := S1088x512) ![0, o] ![1088, n] inb).emb (ix2 r d) := by
    funext a
    refine Fin.ext (Eq.trans ?_ (Rect.idx_unit_val _ _ _ _ a).symm)
    match a with
    | ⟨0, _⟩ => exact (Nat.zero_add _).symm
    | ⟨1, _⟩ => exact hy
  rw [e]
  exact View.canon_cons_emb _ _ _ _

/-- A stored strip of columns does not matter outside the strip. -/
theorem strip_miss (o n : ℕ) (inb : ∀ a : Fin S1088x512.rank, (![0, o] : Fin 2 → ℕ) a + (![1088, n] : Fin 2 → ℕ) a ≤ S1088x512.size a) (w : (Rect.unit (s := S1088x512) ![0, o] ![1088, n] inb).shape.Idx → Elt Ideal .f32)
    (L : List (View.Piece (Elt Ideal) S1088x512 .f32)) (r : Fin 1088) (y : Fin 512) (hy : y.val < o) :
    View.canon (Val := Elt Ideal) (s := S1088x512) (e := .f32) (⟨Rect.unit (s := S1088x512) ![0, o] ![1088, n] inb, w⟩ :: L) (ix2 r y) = View.canon (Val := Elt Ideal) (s := S1088x512) (e := .f32) L (ix2 r y) := by
  refine View.canon_cons_of_not_mem ⟨_, w⟩ _ fun hm => ?_
  have h1 := (Rect.mem_set_unit (s := S1088x512) (inb := inb).mp hm (1 : Fin 2)).1
  have h2 : o ≤ y.val := h1
  omega

end Cert.Kernel3Ideal.In

end
-- ==== Proof.InHeads.lean ====
/-
  The strips the input projection's query, key and gate points store, read at an index.
-/
module

public import proofs.«01_k».proof.Proof.InBlock
public import Idealize.ShloMosaic.Lib.WordCmp

@[expose] public section

set_option maxRecDepth 16384

noncomputable section

namespace Cert.Kernel3Ideal.In

open Cert.Kernel3Ideal Cert.Kernel3Ideal.Gen Idealize.ShloMosaic Idealize.ShloMosaic.TcCoe Idealize.SL.Sem

/-- One element of a normalised head: the element over the root mean square of its head, times the gain. -/
def headNorm (A : Fin 128 → EReal) (g : EReal) (d : Fin 128) : EReal :=
  A d * Ideal.rsqrt (Ideal.div (∑ j, A j * A j) (Ideal.ofBits FTy.f32 0x43000000#32) + Ideal.ofBits FTy.f32 0x358637BD#32) * g

/-- The logarithm of one plus the exponential, in the kernel's stable form. -/
def splus (x : EReal) : EReal :=
  max x 0 + Ideal.log1p (Ideal.exp (0 - FloatOps.absf (F := Ideal) (φ := .f32) x))

variable (xs : Vec Ideal S1088x2048 .bf16) (x2 : Vec Ideal S1x2048x512 .bf16) (x3 : Vec Ideal S1x1x512 .f32) (x4 : Vec Ideal S1x512 .f32)

/-- The first head's strip at an element. -/
theorem head0 (r : Fin 1088) (y : Fin 512) (d : Fin 128) (hy : y.val = 0 + d.val) :
    headsOut xs x2 x3 (ix2 r y) = headNorm (fun j => k0_pay2 xs x2 (ix2 r ⟨j.val, by omega⟩)) (x3 (ix3 0 0 y)) d := by
  unfold headsOut
  rw [strip_miss 384 128 _ _ _ r y (by omega), strip_miss 256 128 _ _ _ r y (by omega), strip_miss 128 128 _ _ _ r y (by omega), strip_hit 0 128 _ _ _ r y d hy]
  obtain rfl : y = ⟨d.val, Nat.lt_of_lt_of_le d.isLt (by decide)⟩ := Fin.ext (by simpa using hy)
  pointwise [k0_pay7]
  rfl

/-- The second head's strip at an element. -/
theorem head1 (r : Fin 1088) (y : Fin 512) (d : Fin 128) (hy : y.val = 128 + d.val) :
    headsOut xs x2 x3 (ix2 r y) = headNorm (fun j => k0_pay2 xs x2 (ix2 r ⟨128 + j.val, by omega⟩)) (x3 (ix3 0 0 y)) d := by
  unfold headsOut
  rw [strip_miss 384 128 _ _ _ r y (by omega), strip_miss 256 128 _ _ _ r y (by omega), strip_hit 128 128 _ _ _ r y d hy]
  obtain rfl : y = ⟨128 + d.val, Nat.lt_of_lt_of_le (Nat.add_lt_add_left d.isLt 128) (by decide)⟩ := Fin.ext (by exact hy)
  pointwise [k0_pay8]
  rfl

/-- The third head's strip at an element. -/
theorem head2 (r : Fin 1088) (y : Fin 512) (d : Fin 128) (hy : y.val = 256 + d.val) :
    headsOut xs x2 x3 (ix2 r y) = headNorm (fun j => k0_pay2 xs x2 (ix2 r ⟨256 + j.val, by omega⟩)) (x3 (ix3 0 0 y)) d := by
  unfold headsOut
  rw [strip_miss 384 128 _ _ _ r y (by omega), strip_hit 256 128 _ _ _ r y d hy]
  obtain rfl : y = ⟨256 + d.val, Nat.lt_of_lt_of_le (Nat.add_lt_add_left d.isLt 256) (by decide)⟩ := Fin.ext (by exact hy)
  pointwise [k0_pay3, k0_pay9, k0_pay10, k0_pay11]
  rfl

/-- The fourth head's strip at an element. -/
theorem head3 (r : Fin 1088) (y : Fin 512) (d : Fin 128) (hy : y.val = 384 + d.val) :
    headsOut xs x2 x3 (ix2 r y) = headNorm (fun j => k0_pay2 xs x2 (ix2 r ⟨384 + j.val, by omega⟩)) (x3 (ix3 0 0 y)) d := by
  unfold headsOut
  rw [strip_hit 384 128 _ _ _ r y d hy]
  obtain rfl : y = ⟨384 + d.val, Nat.lt_of_lt_of_le (Nat.add_lt_add_left d.isLt 384) (by decide)⟩ := Fin.ext (by exact hy)
  pointwise [k0_pay4]
  rfl

/-- A query or key point's block at an element: its head normalised, times the gain. -/
theorem headsOut_apply (r : Fin 1088) (h : Fin 4) (d : Fin 128) (y : Fin 512) (hy : y.val = 128 * h.val + d.val) :
    headsOut xs x2 x3 (ix2 r y) = headNorm (fun j => k0_pay2 xs x2 (ix2 r ⟨128 * h.val + j.val, by omega⟩)) (x3 (ix3 0 0 y)) d := by
  match h, hy with
  | 0, hy =>
    rw [head0 xs x2 x3 r y d (by simpa using hy)]
    congr 1
    funext j
    exact congrArg (fun q => k0_pay2 xs x2 (ix2 r q)) (Fin.ext (by show j.val = 128 * 0 + j.val; omega))
  | 1, hy => exact head1 xs x2 x3 r y d (by simpa using hy)
  | 2, hy => exact head2 xs x2 x3 r y d (by simpa using hy)
  | 3, hy => exact head3 xs x2 x3 r y d (by simpa using hy)

/-- A gate point's column below 8: the step size, the softplus of the biased product. -/
theorem gates_step (r : Fin 1088) (y : Fin 512) (hy : y.val < 8) :
    gatesOut xs x2 x4 (ix2 r y) = splus (k0_pay2 xs x2 (ix2 r y) + x4 (ix2 0 y)) := by
  unfold gatesOut
  rw [strip_miss 128 384 _ _ _ r y (by omega), strip_hit 0 128 _ _ _ r y ⟨y.val, by omega⟩ (Nat.zero_add _).symm]
  have hc : IntOp.cmpi .slt (BitVec.ofNat 32 y.val) 8#32 = 1#1 := by
    rw [show (8#32 : BitVec 32) = BitVec.ofNat 32 8 from rfl, WordCmp.cmpi_slt_ofNat (by omega) (by omega), decide_eq_true hy]
    rfl
  pointwise [k0_pay5]
  simp only [hc, WordCmp.select_one]
  rfl

/-- A gate point's column from 8 to 127: the forget gate, minus the softplus of minus the biased product. -/
theorem gates_forget (r : Fin 1088) (y : Fin 512) (hy : 8 ≤ y.val) (hy' : y.val < 128) :
    gatesOut xs x2 x4 (ix2 r y) = 0 - splus (0 - (k0_pay2 xs x2 (ix2 r y) + x4 (ix2 0 y))) := by
  unfold gatesOut
  rw [strip_miss 128 384 _ _ _ r y (by omega), strip_hit 0 128 _ _ _ r y ⟨y.val, hy'⟩ (Nat.zero_add _).symm]
  have hc : IntOp.cmpi .slt (BitVec.ofNat 32 y.val) 8#32 = 0#1 := by
    rw [show (8#32 : BitVec 32) = BitVec.ofNat 32 8 from rfl, WordCmp.cmpi_slt_ofNat (by omega) (by omega), decide_eq_false (by omega)]
    rfl
  pointwise [k0_pay5]
  simp only [hc, WordCmp.select_zero]
  rfl

/-- A gate point's columns from 128 on are zero. -/
theorem gates_pad (r : Fin 1088) (y : Fin 512) (hy : 128 ≤ y.val) : gatesOut xs x2 x4 (ix2 r y) = 0 := by
  unfold gatesOut
  rw [strip_hit 128 384 _ _ _ r y ⟨y.val - 128, by omega⟩ (by show y.val = 128 + (y.val - 128); omega)]
  pointwise [k0_pay6]

end Cert.Kernel3Ideal.In

end
-- ==== Proof.InReads.lean ====
/-
  The input projection's input blocks and payloads read at an index, over the argument arrays, at the ideal instance.
-/
module

public import proofs.«01_k».proof.Proof.InHeads
public import Idealize.ShloMosaic.Lib.StableHlo.ReadAt

@[expose] public section

set_option maxRecDepth 16384

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

/-- The block indices of the five input windows at a point: the row block is the point's quotient by 11, the column tile its remainder. -/
theorem idx_facts : ∀ t : Fin cfg0.N,
    (win0_0.index t 0 = t.val / 11 ∧ win0_0.index t 1 = 0) ∧ (win0_1.index t 0 = 0 ∧ win0_1.index t 1 = 0)
    ∧ (win0_2.index t 0 = 1 ∧ win0_2.index t 1 = 0 ∧ win0_2.index t 2 = t.val % 11)
    ∧ (win0_3.index t 0 = t.val % 11 ∧ win0_3.index t 1 = 0 ∧ win0_3.index t 2 = 0)
    ∧ (win0_4.index t 0 = 0 ∧ win0_4.index t 1 = 0) :=
  (by decide +kernel : ∀ t : Fin grid0.N, _)

/-- The residual stream's element. -/
abbrev hAt (c : Dev nD) (r : Fin 8704) (k : Fin 2048) : EReal := m ((c : Thread nD τ).loc main_arg0) (ix2 r k)
/-- The mixing gain's element of the last layer. -/
abbrev mixAt (c : Dev nD) (k : Fin 2048) : EReal := m ((c : Thread nD τ).loc main_arg1) (ix2 1 k)
/-- The projection weight's element of the last layer, zero past the last column. -/
def wcol (c : Dev nD) (k : Fin 2048) (n : ℕ) : EReal := if h : n < 5136 then m ((c : Thread nD τ).loc main_arg2) (ix3 1 k ⟨n, h⟩) else 0
/-- The step size's bias of the last layer. -/
abbrev dtAt (c : Dev nD) (n : Fin 8) : EReal := m ((c : Thread nD τ).loc main_arg3) (ix2 1 n)
/-- The query gain's element of the last layer. -/
abbrev gqAt (c : Dev nD) (n : Fin 128) : EReal := m ((c : Thread nD τ).loc main_arg4) (ix2 1 n)
/-- The key gain's element of the last layer. -/
abbrev gkAt (c : Dev nD) (n : Fin 128) : EReal := m ((c : Thread nD τ).loc main_arg5) (ix2 1 n)
/-- The forget gate's bias of the last layer. -/
abbrev fAt (c : Dev nD) (n : Fin 8) : EReal := m ((c : Thread nD τ).loc main_arg6) (ix2 1 n)

/-- The projection's column that the kernel's column `j` is: its columns are laid out with the step sizes after the values. -/
def kcol (j : ℕ) : ℕ := if j < 1536 then j else if j < 5120 then j + 8 else if j < 5128 then j - 3584 else j

/-- A column of the weights inside the array. -/
theorem wcol_of_lt (c : Dev nD) (k : Fin 2048) (n : ℕ) (q : Fin 5136) (h : q.val = n) : m ((c : Thread nD τ).loc main_arg2) (ix3 1 k q) = wcol m c k n := by
  subst h
  unfold wcol
  rw [dif_pos q.isLt]

/-- The mixing gain the region finds is the last row of the argument. -/
theorem V_mix (c : Dev nD) (k : Fin 2048) : (V m c main_v36 : Vec Ideal S1x2048 .f32) (ix2 0 k) = mixAt m c k := by
  unfold V
  after_reads_at

set_option maxHeartbeats 1600000 in
/-- The weights the region finds: the argument's columns in the kernel's order, zero in the padding. -/
theorem V_w (c : Dev nD) (k : Fin 2048) (n : Fin 5632) : (V m c main_v10 : Vec Ideal S2x2048x5632 .bf16) (ix3 1 k n) = wcol m c k (kcol n.val) := by
  unfold V
  after_reads_at
  split_ifs
  all_goals after_reads_at
  all_goals first
    | exact wcol_of_lt m c k _ _ (by dsimp only; unfold kcol; split_ifs <;> omega)
    | rw [wcol, dif_neg (by unfold kcol; split_ifs <;> omega)]

/-- The gains the region finds at the query tiles. -/
theorem V_gq (c : Dev nD) (l : Fin 11) (n : Fin 512) (h : 4 ≤ l.val) (h' : l.val < 6) : (V m c main_v26 : Vec Ideal S11x1x512 .f32) (ix3 l 0 n) = gqAt m c ⟨n.val % 128, Nat.mod_lt _ (by decide)⟩ := by
  unfold V
  after_reads_at
  split_ifs
  all_goals first | omega | after_reads_at

/-- The gains the region finds at the key tiles. -/
theorem V_gk (c : Dev nD) (l : Fin 11) (n : Fin 512) (h : 6 ≤ l.val) (h' : l.val < 8) : (V m c main_v26 : Vec Ideal S11x1x512 .f32) (ix3 l 0 n) = gkAt m c ⟨n.val % 128, Nat.mod_lt _ (by decide)⟩ := by
  unfold V
  after_reads_at
  split_ifs
  all_goals first | omega | after_reads_at

/-- The biases the region finds: the step sizes', the forget gates', and zero. -/
theorem V_bias (c : Dev nD) (n : Fin 512) : (V m c main_v33 : Vec Ideal S1x512 .f32) (ix2 0 n) = if h : n.val < 8 then dtAt m c ⟨n.val, h⟩ else if h : n.val - 8 < 8 then fAt m c ⟨n.val - 8, h⟩ else 0 := by
  unfold V
  after_reads_at
  split_ifs
  all_goals after_reads_at

/-- The row of the residual stream that block row `r` of point `t` is. -/
def row (t : Fin cfg0.N) (r : Fin 1088) : Fin 8704 := ⟨1088 * (t.val / 11) + r.val, by have := lt_of_lt_of_eq t.isLt (show cfg0.N = 88 from N_0); omega⟩
/-- The kernel's column that block column `n` of point `t` is. -/
def col (t : Fin cfg0.N) (n : Fin 512) : Fin 5632 := ⟨512 * (t.val % 11) + n.val, by omega⟩

/-- The block of the residual stream at an index. -/
theorem blk0 (c : Dev nD) (t : Fin cfg0.N) (r : Fin 1088) (k : Fin 2048) :
    (iblk m c 0 t : Vec Ideal S1088x2048 .f32) (ix2 r k) = hAt m c (row t r) k := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 1088 + 1 * r.val = 1088 * (t.val / 11) + r.val; rw [h0]; omega
  | ⟨1, _⟩ => show win0_0.index t 1 * 2048 + 1 * k.val = k.val; rw [h1]; omega

/-- The block of the mixing gain at an index. -/
theorem blk1 (c : Dev nD) (t : Fin cfg0.N) (k : Fin 2048) :
    (iblk m c 1 t : Vec Ideal S1x2048 .f32) (ix2 0 k) = mixAt m c k := by
  obtain ⟨-, ⟨h0, h1⟩, -⟩ := idx_facts t
  unfold iblk
  rw [View.read_apply]
  refine Eq.trans ?_ (V_mix m c k)
  show V m c main_v36 _ = _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- The block of the weights at an index. -/
theorem blk2 (c : Dev nD) (t : Fin cfg0.N) (k : Fin 2048) (n : Fin 512) :
    (iblk m c 2 t : Vec Ideal S1x2048x512 .bf16) (ix3 0 k n) = wcol m c k (kcol (512 * (t.val % 11) + n.val)) := by
  obtain ⟨-, -, ⟨h0, h1, h2⟩, -⟩ := idx_facts t
  unfold iblk
  rw [View.read_apply]
  refine Eq.trans ?_ (V_w m c k (col t n))
  show V m c main_v10 _ = _
  congr 1
  funext a
  apply Fin.ext
  match a with
  | ⟨0, _⟩ => show win0_2.index t 0 * 1 + 1 * 0 = 1; rw [h0]
  | ⟨1, _⟩ => show win0_2.index t 1 * 2048 + 1 * k.val = k.val; rw [h1]; omega
  | ⟨2, _⟩ => show win0_2.index t 2 * 512 + 1 * n.val = 512 * (t.val % 11) + n.val; rw [h2]; omega

/-- The block of the gains at an index is the gains' row of the point's tile. -/
theorem blk3 (c : Dev nD) (t : Fin cfg0.N) (n : Fin 512) :
    (iblk m c 3 t : Vec Ideal S1x1x512 .f32) (ix3 0 0 n) = (V m c main_v26 : Vec Ideal S11x1x512 .f32) (ix3 (⟨t.val % 11, Nat.mod_lt _ (by decide)⟩ : Fin 11) 0 n) := by
  obtain ⟨-, -, -, ⟨h0, h1, h2⟩, -⟩ := idx_facts t
  unfold iblk
  rw [View.read_apply]
  show V m c main_v26 _ = _
  congr 1
  funext a
  apply Fin.ext
  match a with
  | ⟨0, _⟩ => show win0_3.index t 0 * 1 + 1 * 0 = t.val % 11; rw [h0]; omega
  | ⟨1, _⟩ => show win0_3.index t 1 * 1 + 1 * 0 = 0; rw [h1]
  | ⟨2, _⟩ => show win0_3.index t 2 * 512 + 1 * n.val = n.val; rw [h2]; omega

/-- The block of the biases at an index. -/
theorem blk4 (c : Dev nD) (t : Fin cfg0.N) (n : Fin 512) :
    (iblk m c 4 t : Vec Ideal S1x512 .f32) (ix2 0 n) = if h : n.val < 8 then dtAt m c ⟨n.val, h⟩ else if h : n.val - 8 < 8 then fAt m c ⟨n.val - 8, h⟩ else 0 := by
  obtain ⟨-, -, -, -, ⟨h0, h1⟩⟩ := idx_facts t
  unfold iblk
  rw [View.read_apply]
  refine Eq.trans ?_ (V_bias m c n)
  show V m c main_v33 _ = _
  congr 1
  funext a
  apply Fin.ext
  match a with
  | ⟨0, _⟩ => show win0_4.index t 0 * 1 + 1 * 0 = 0; rw [h0]
  | ⟨1, _⟩ => show win0_4.index t 1 * 512 + 1 * n.val = n.val; rw [h1]; omega

/-- The normalised residual stream's element. -/
def xn (c : Dev nD) (r : Fin 8704) (k : Fin 2048) : EReal :=
  hAt m c r k * Ideal.rsqrt (Ideal.div (∑ j, hAt m c r j * hAt m c r j) (Ideal.ofBits FTy.f32 0x45000000#32) + Ideal.ofBits FTy.f32 0x358637BD#32) * mixAt m c k
/-- The projection of a row onto the weights' column `n`. -/
def proj (c : Dev nD) (r : Fin 8704) (n : ℕ) : EReal := ∑ k, xn m c r k * wcol m c k n

/-- The kernel's normalised rows at an index. -/
theorem pay1_apply (c : Dev nD) (t : Fin cfg0.N) (r : Fin 1088) (k : Fin 2048) :
    k0_pay1 (iblk m c 0 t : Vec Ideal S1088x2048 .f32) (iblk m c 1 t : Vec Ideal S1x2048 .f32) (ix2 r k) = xn m c (row t r) k := by
  pointwise [k0_pay1]
  simp only [blk0, blk1, xn]

/-- The point's product at an index. -/
theorem pay2_apply (c : Dev nD) (t : Fin cfg0.N) (xs : Vec Ideal S1088x2048 .bf16)
    (hx : ∀ r k, xs (ix2 r k) = xn m c (row t r) k) (r : Fin 1088) (n : Fin 512) :
    k0_pay2 xs (iblk m c 2 t : Vec Ideal S1x2048x512 .bf16) (ix2 r n) = proj m c (row t r) (kcol (512 * (t.val % 11) + n.val)) := by
  pointwise [k0_pay2]
  simp only [blk2, hx, proj]

end Cert.Kernel3Ideal.In

end
-- ==== Proof.InArray.lean ====
/-
  The input projection's result array: each column tile of a row block holds the products of the block's normalised rows,
  the query and key tiles each head normalised, the last tile the step sizes, the forget gates and the padding; by
  induction over the eleven tiles of a row block, which all use the rows the first one normalised.
-/
module

public import proofs.«01_k».proof.Proof.InReads

@[expose] public section

set_option maxRecDepth 16384

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

/-- The lane of a column within its head. -/
def lane (j : ℕ) : Fin 128 := ⟨j % 128, Nat.mod_lt _ (by decide)⟩

/-- What the input projection's result holds at row `r` and column `j`. -/
def val (c : Dev nD) (r : Fin 8704) (j : ℕ) : EReal :=
  if j < 2048 then proj m c r (kcol j)
  else if j < 3072 then headNorm (fun d => proj m c r (128 * (j / 128) + d.val + 8)) (gqAt m c (lane j)) (lane j)
  else if j < 4096 then headNorm (fun d => proj m c r (128 * (j / 128) + d.val + 8)) (gkAt m c (lane j)) (lane j)
  else if j < 5120 then proj m c r (j + 8)
  else if h : j - 5120 < 8 then splus (proj m c r (j - 3584) + dtAt m c ⟨j - 5120, h⟩)
  else if h : j - 5128 < 8 then 0 - splus (0 - (proj m c r j + fAt m c ⟨j - 5128, h⟩))
  else if j < 5248 then 0 - splus 0
  else 0

/-- A plain tile's products are the result's. -/
theorem plain (c : Dev nD) (t : Fin cfg0.N) (h : ¬(t.val % 11 = 4 ∨ t.val % 11 = 5 ∨ t.val % 11 = 6 ∨ t.val % 11 = 7 ∨ t.val % 11 = 10)) (r : Fin 8704) (y : Fin 512) :
    proj m c r (kcol (512 * (t.val % 11) + y.val)) = val m c r (512 * (t.val % 11) + y.val) := by
  unfold val
  by_cases h1 : 512 * (t.val % 11) + y.val < 2048
  · rw [if_pos h1]
  · rw [if_neg h1, if_neg (by omega), if_neg (by omega), if_pos (by omega)]
    congr 1
    unfold kcol
    rw [if_neg (by omega), if_pos (by omega)]

/-- A query or key tile's normalised heads are the result's. -/
theorem heads (c : Dev nD) (t : Fin cfg0.N) (h : 4 ≤ t.val % 11 ∧ t.val % 11 ≤ 7) (xs : Vec Ideal S1088x2048 .bf16)
    (hx : ∀ r k, xs (ix2 r k) = xn m c (row t r) k) (r : Fin 1088) (y : Fin 512) :
    headsOut xs (iblk m c 2 t : Vec Ideal S1x2048x512 .bf16) (iblk m c 3 t : Vec Ideal S1x1x512 .f32) (ix2 r y) = val m c (row t r) (512 * (t.val % 11) + y.val) := by
  rw [headsOut_apply _ _ _ r ⟨y.val / 128, by omega⟩ ⟨y.val % 128, by omega⟩ y (by dsimp only; omega), blk3]
  simp only [pay2_apply m c t xs hx]
  have hA : ∀ d : Fin 128, kcol (512 * (t.val % 11) + (128 * (y.val / 128) + d.val)) = 128 * ((512 * (t.val % 11) + y.val) / 128) + d.val + 8 := fun d => by
    unfold kcol
    rw [if_neg (by omega), if_pos (by omega)]
    omega
  have hl : (⟨y.val % 128, by omega⟩ : Fin 128) = lane (512 * (t.val % 11) + y.val) := Fin.ext (by
    show y.val % 128 = (512 * (t.val % 11) + y.val) % 128
    omega)
  simp only [hA]
  unfold val
  rw [if_neg (by omega)]
  by_cases hq : 512 * (t.val % 11) + y.val < 3072
  · rw [if_pos hq, V_gq m c _ y (by dsimp only; omega) (by dsimp only; omega), hl]
  · rw [if_neg hq, if_pos (by omega), V_gk m c _ y (by dsimp only; omega) (by dsimp only; omega), hl]

/-- The projection onto a column past the last is zero. -/
theorem proj_pad (c : Dev nD) (r : Fin 8704) (j : ℕ) (h : 5136 ≤ j) : proj m c r j = 0 := by
  unfold proj wcol
  simp only [dif_neg (show ¬ j < 5136 by omega), mul_zero, Finset.sum_const_zero]

/-- The last tile's step sizes, forget gates and padding are the result's. -/
theorem gates (c : Dev nD) (t : Fin cfg0.N) (h : t.val % 11 = 10) (xs : Vec Ideal S1088x2048 .bf16)
    (hx : ∀ r k, xs (ix2 r k) = xn m c (row t r) k) (r : Fin 1088) (y : Fin 512) :
    gatesOut xs (iblk m c 2 t : Vec Ideal S1x2048x512 .bf16) (iblk m c 4 t : Vec Ideal S1x512 .f32) (ix2 r y) = val m c (row t r) (512 * (t.val % 11) + y.val) := by
  unfold val
  rw [if_neg (by omega), if_neg (by omega), if_neg (by omega), if_neg (by omega)]
  by_cases h1 : y.val < 8
  · rw [gates_step _ _ _ r y h1, pay2_apply m c t xs hx, blk4, dif_pos h1, dif_pos (by omega)]
    have hk : kcol (512 * (t.val % 11) + y.val) = 512 * (t.val % 11) + y.val - 3584 := by
      unfold kcol
      rw [if_neg (by omega), if_neg (by omega), if_pos (by omega)]
    rw [hk]
    exact congrArg (fun q => splus (proj m c (row t r) (512 * (t.val % 11) + y.val - 3584) + dtAt m c q)) (Fin.ext (by dsimp only; omega))
  · rw [dif_neg (by omega)]
    by_cases h2 : y.val < 128
    · rw [gates_forget _ _ _ r y (by omega) h2, pay2_apply m c t xs hx, blk4, dif_neg h1]
      have hk : kcol (512 * (t.val % 11) + y.val) = 512 * (t.val % 11) + y.val := by
        unfold kcol
        rw [if_neg (by omega), if_neg (by omega), if_neg (by omega)]
      rw [hk]
      by_cases h3 : y.val - 8 < 8
      · rw [dif_pos h3, dif_pos (by omega)]
        exact congrArg (fun q => 0 - splus (0 - (proj m c (row t r) (512 * (t.val % 11) + y.val) + fAt m c q))) (Fin.ext (by dsimp only; omega))
      · rw [dif_neg h3, dif_neg (by omega), if_pos (by omega), proj_pad m c _ _ (by omega)]
        simp
    · rw [gates_pad _ _ _ r y (by omega), dif_neg (by omega), if_neg (by omega)]

/-- After point `t` the carried rows are the normalised rows of the point's block, and the output block is the result's. -/
theorem outs_eq (c : Dev nD) : ∀ (n : ℕ) (h : n < cfg0.N),
    (∀ r k, (outsAt0 m c n h).2 (ix2 r k) = xn m c (row ⟨n, h⟩ r) k)
    ∧ (∀ r y, (outsAt0 m c n h).1 (ix2 r y) = val m c (row ⟨n, h⟩ r) (512 * (n % 11) + y.val)) := by
  have first : ∀ (n : ℕ) (h : n < cfg0.N), n % 11 = 0 →
      (∀ r k, (outsAt0 m c n h).2 (ix2 r k) = xn m c (row ⟨n, h⟩ r) k)
      ∧ (∀ r y, (outsAt0 m c n h).1 (ix2 r y) = val m c (row ⟨n, h⟩ r) (512 * (n % 11) + y.val)) := by
    intro n h h0
    rw [outsAt0_A m c ⟨n, h⟩ h0 (by dsimp only; omega) (by dsimp only; omega) (by dsimp only; omega)]
    dsimp only
    rw [sout_A, out_A]
    refine ⟨fun r k => pay1_apply m c ⟨n, h⟩ r k, fun r y => ?_⟩
    rw [pay2_apply m c ⟨n, h⟩ _ (fun r k => pay1_apply m c ⟨n, h⟩ r k)]
    exact plain m c ⟨n, h⟩ (by dsimp only; omega) _ y
  intro n
  induction n with
  | zero => exact fun h => first 0 h rfl
  | succ n ih =>
    intro h
    by_cases h0 : (n + 1) % 11 = 0
    · exact first (n + 1) h h0
    · obtain ⟨ih2, -⟩ := ih (Nat.lt_of_succ_lt h)
      have hrow : ∀ r, row ⟨n, Nat.lt_of_succ_lt h⟩ r = row ⟨n + 1, h⟩ r := fun r => Fin.ext (by
        show 1088 * (n / 11) + r.val = 1088 * ((n + 1) / 11) + r.val
        omega)
      by_cases h3 : (n + 1) % 11 = 10
      · rw [outsAt0_D m c ⟨n + 1, h⟩ h0 (by dsimp only; omega) (by dsimp only; omega) h3]
        dsimp only
        rw [out_D]
        unfold sout0_D_0
        simp only [Nat.add_sub_cancel]
        exact ⟨fun r k => by rw [ih2, hrow], fun r y => gates m c ⟨n + 1, h⟩ h3 _ (fun r k => by rw [ih2, hrow]) r y⟩
      · by_cases h2 : 4 ≤ (n + 1) % 11 ∧ (n + 1) % 11 ≤ 7
        · rw [outsAt0_C m c ⟨n + 1, h⟩ h0 (by dsimp only; omega) h2 h3]
          dsimp only
          rw [out_C]
          unfold sout0_C_0
          simp only [Nat.add_sub_cancel]
          exact ⟨fun r k => by rw [ih2, hrow], fun r y => heads m c ⟨n + 1, h⟩ h2 _ (fun r k => by rw [ih2, hrow]) r y⟩
        · rw [outsAt0_B m c ⟨n + 1, h⟩ h0 (by dsimp only; omega) h2 h3]
          dsimp only
          rw [out_B]
          unfold sout0_B_0
          simp only [Nat.add_sub_cancel]
          refine ⟨fun r k => by rw [ih2, hrow], fun r y => ?_⟩
          rw [pay2_apply m c ⟨n + 1, h⟩ _ (fun r k => by rw [ih2, hrow])]
          exact plain m c ⟨n + 1, h⟩ (by dsimp only; omega) _ y

/-- The result array after the run, at an index. -/
theorem G5_apply (c : Dev nD) (r : Fin 8704) (j : Fin 5632) : Value.G5 m c (ix2 r j) = val m c r j.val := by
  have hv : Value.pt5Of (ix2 r j) = 11 * (r.val / 1088 - 0) + 1 * (j.val / 512 - 0) := rfl
  have hp : Value.pt5Of (ix2 r j) < cfg0.N := by
    rw [show cfg0.N = 88 from N_0, hv]; omega
  unfold Value.G5
  rw [dif_pos hp, ← Value.outsAt0_sweep m c _ hp]
  have hl : Value.loc5Of (ix2 r j) = ix2 ⟨r.val % 1088, Nat.mod_lt _ (by decide)⟩ ⟨j.val % 512, Nat.mod_lt _ (by decide)⟩ := by
    funext a
    apply Fin.ext
    match a with
    | ⟨0, _⟩ => rfl
    | ⟨1, _⟩ => rfl
  rw [hl, (outs_eq m c _ hp).2]
  have hr : row ⟨_, hp⟩ ⟨r.val % 1088, Nat.mod_lt _ (by decide)⟩ = r := Fin.ext (by
    show 1088 * (Value.pt5Of (ix2 r j) / 11) + r.val % 1088 = r.val
    rw [hv]
    omega)
  have he : 512 * (Value.pt5Of (ix2 r j) % 11) + j.val % 512 = j.val := by rw [hv]; omega
  rw [hr]
  exact congrArg (val m c r) he

end Cert.Kernel3Ideal.In

end
-- ==== Proof.InRef.lean ====
/-
  The input projection's reference read at an index, piece by piece: the same element as the kernel's.
-/
module

public import proofs.«01_k».proof.Proof.InArray
public import proofs.«01_k».proof.Proof.Gen.Reference3Ideal.Run

@[expose] public section

set_option maxRecDepth 16384

noncomputable section

namespace Cert.Reference3Ideal.In

open Cert.Reference3Ideal Cert.Reference3Ideal.Gen Idealize.ShloMosaic Idealize.ShloMosaic.TcCoe Idealize.SL.Sem

/-- The reference's projection of the normalised rows. -/
def projA (h : FVec Ideal S8704x2048 .f32) (mn : FVec Ideal S2x2048 .f32) (w : FVec Ideal S2x2048x5136 .f32) : FVec Ideal S8704x5136 .f32 :=
  (Host.dotGeneral dot_S8704x2048_S2048x5136_S8704x5136_1_0_0_1_n_n none (mulf (mulf h (broadcastInDim S8704x2048 ![0, 1] bcast_S8704x1_S8704x2048_0_1 (Host.rsqrt (addf (Host.divf (broadcastInDim S8704x1 ![0] bcast_S8704_S8704x1_0 (Host.reduceAdd (mulf h h) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast S2048 (extractStridedSlice S1x2048 ![1, 0] mn slices_S2x2048_S1x2048_1_0) shapeCasts_S1x2048_S2048)))) (shapeCast S2048x5136 (extractStridedSlice S1x2048x5136 ![1, 0, 0] w slices_S2x2048x5136_S1x2048x5136_1_0_0) shapeCasts_S1x2048x5136_S2048x5136))

/-- The reference's heads, each normalised and scaled by its gain. -/
def headA (x : FVec Ideal S8704x8x128 .f32) (g : FVec Ideal S2x128 .f32) : FVec Ideal S8704x1024 .f32 :=
  (shapeCast S8704x1024 (mulf (mulf x (broadcastInDim S8704x8x128 ![0, 1, 2] bcast_S8704x8x1_S8704x8x128_0_1_2 (Host.rsqrt (addf (Host.divf (broadcastInDim S8704x8x1 ![0, 1] bcast_S8704x8_S8704x8x1_0_1 (Host.reduceAdd (mulf x x) (constant S_ .f32 0x00000000#32) reducesTo_S8704x8x128_S8704x8_d2 h_S_)) (broadcastInDim S8704x8x1 ![] bcast_S_S8704x8x1 (constant S_ .f32 0x43000000#32))) (broadcastInDim S8704x8x1 ![] bcast_S_S8704x8x1 (constant S_ .f32 0x358637BD#32)))))) (broadcastInDim S8704x8x128 ![0, 1, 2] bcast_S1x1x128_S8704x8x128_0_1_2 (broadcastInDim S1x1x128 ![2] bcast_S128_S1x1x128_2 (shapeCast S128 (extractStridedSlice S1x128 ![1, 0] g slices_S2x128_S1x128_1_0) shapeCasts_S1x128_S128)))) shapeCasts_S8704x8x128_S8704x1024)

/-- The reference's step sizes from their biased projections. -/
def stepA (x : FVec Ideal S8704x8 .f32) : FVec Ideal S8704x8 .f32 :=
  (select (cmpf .une (subf x (broadcastInDim S8704x8 ![] bcast_S_S8704x8 (constant S_ .f32 0x00000000#32))) (subf x (broadcastInDim S8704x8 ![] bcast_S_S8704x8 (constant S_ .f32 0x00000000#32)))) (addf x (broadcastInDim S8704x8 ![] bcast_S_S8704x8 (constant S_ .f32 0x00000000#32))) (addf (maximumf x (broadcastInDim S8704x8 ![] bcast_S_S8704x8 (constant S_ .f32 0x00000000#32))) (Host.log1p (Host.exp (Host.negf (Host.absf (subf x (broadcastInDim S8704x8 ![] bcast_S_S8704x8 (constant S_ .f32 0x00000000#32)))))))))

/-- The reference's forget gates from their negated biased projections. -/
def forgetA (x : FVec Ideal S8704x120 .f32) : FVec Ideal S8704x120 .f32 :=
  (Host.negf (select (cmpf .une (subf x (broadcastInDim S8704x120 ![] bcast_S_S8704x120 (constant S_ .f32 0x00000000#32))) (subf x (broadcastInDim S8704x120 ![] bcast_S_S8704x120 (constant S_ .f32 0x00000000#32)))) (addf x (broadcastInDim S8704x120 ![] bcast_S_S8704x120 (constant S_ .f32 0x00000000#32))) (addf (maximumf x (broadcastInDim S8704x120 ![] bcast_S_S8704x120 (constant S_ .f32 0x00000000#32))) (Host.log1p (Host.exp (Host.negf (Host.absf (subf x (broadcastInDim S8704x120 ![] bcast_S_S8704x120 (constant S_ .f32 0x00000000#32))))))))))

/-- The step sizes' biased projections. -/
def stepIn (P : FVec Ideal S8704x5136 .f32) (bd : FVec Ideal S2x8 .f32) : FVec Ideal S8704x8 .f32 :=
  (addf (extractStridedSlice S8704x8 ![0, 1536] P slices_S8704x5136_S8704x8_0_1536) (broadcastInDim S8704x8 ![0, 1] bcast_S1x8_S8704x8_0_1 (broadcastInDim S1x8 ![1] bcast_S8_S1x8_1 (shapeCast S8 (extractStridedSlice S1x8 ![1, 0] bd slices_S2x8_S1x8_1_0) shapeCasts_S1x8_S8))))

/-- The forget gates' biased projections, padded with zeros and negated. -/
def forgetIn (P : FVec Ideal S8704x5136 .f32) (bf : FVec Ideal S2x8 .f32) : FVec Ideal S8704x120 .f32 :=
  (Host.negf (pad S8704x120 ![0, 0] ![0, 112] ![0, 0] (addf (extractStridedSlice S8704x8 ![0, 5128] P slices_S8704x5136_S8704x8_0_5128) (broadcastInDim S8704x8 ![0, 1] bcast_S1x8_S8704x8_0_1 (broadcastInDim S1x8 ![1] bcast_S8_S1x8_1 (shapeCast S8 (extractStridedSlice S1x8 ![1, 0] bf slices_S2x8_S1x8_1_0) shapeCasts_S1x8_S8)))) (sitofp .f32 (constantI S_ 32 0#32)) pads_S8704x8_S8704x120_000_01120 h_S_))

/-- The composed term of the reference, from its projection. -/
def outOf (P : FVec Ideal S8704x5136 .f32) (bd : FVec Ideal S2x8 .f32) (gq gk : FVec Ideal S2x128 .f32) (bf : FVec Ideal S2x8 .f32) : FVec Ideal S8704x5632 .f32 :=
  concatenate S8704x5632 1 [⟨S8704x1536, extractStridedSlice S8704x1536 ![0, 0] P slices_S8704x5136_S8704x1536_0_0⟩, ⟨S8704x512, extractStridedSlice S8704x512 ![0, 1544] P slices_S8704x5136_S8704x512_0_1544⟩,
    ⟨S8704x1024, headA (shapeCast S8704x8x128 (extractStridedSlice S8704x1024 ![0, 2056] P slices_S8704x5136_S8704x1024_0_2056) shapeCasts_S8704x1024_S8704x8x128) gq⟩,
    ⟨S8704x1024, headA (shapeCast S8704x8x128 (extractStridedSlice S8704x1024 ![0, 3080] P slices_S8704x5136_S8704x1024_0_3080) shapeCasts_S8704x1024_S8704x8x128) gk⟩,
    ⟨S8704x1024, extractStridedSlice S8704x1024 ![0, 4104] P slices_S8704x5136_S8704x1024_0_4104⟩, ⟨S8704x8, stepA (stepIn P bd)⟩, ⟨S8704x120, forgetA (forgetIn P bf)⟩,
    ⟨S8704x384, broadcastInDim S8704x384 ![] bcast_S_S8704x384 (constant S_ .f32 0x00000000#32)⟩] concatenates_S8704x1536_S8704x512_S8704x1024_S8704x1024_S8704x1024_S8704x8_S8704x120_S8704x384_S8704x5632_d1

/-- The composed term of the reference, over its seven arguments. -/
abbrev out (h : FVec Ideal S8704x2048 .f32) (mn : FVec Ideal S2x2048 .f32) (w : FVec Ideal S2x2048x5136 .f32) (bd : FVec Ideal S2x8 .f32) (gq gk : FVec Ideal S2x128 .f32) (bf : FVec Ideal S2x8 .f32) : FVec Ideal S8704x5632 .f32 :=
  outOf (projA h mn w) bd gq gk bf

/-- The run's result is the composed term. -/
theorem res_eq (m : (ℓ : Loc nD τ sig) → Buf (Elt Ideal) ℓ) (c : Dev nD) :
    Value.res_main_v73 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

open Cert.Kernel3Ideal.In (headNorm splus)

/-- A normalised head of the reference at an element. -/
theorem head_apply (x : FVec Ideal S8704x8x128 .f32) (g : FVec Ideal S2x128 .f32) (r : Fin 8704) (j : Fin 1024) :
    headA x g (ix2 r j) = headNorm (fun d => x (ix3 r ⟨j.val / 128, by omega⟩ d)) (g (ix2 1 ⟨j.val % 128, by omega⟩)) ⟨j.val % 128, by omega⟩ := by
  pointwise [headA]
  rfl

/-- A step size of the reference is the softplus. -/
theorem step_apply (x : FVec Ideal S8704x8 .f32) (r : Fin 8704) (j : Fin 8) : stepA x (ix2 r j) = splus (x (ix2 r j)) := by
  pointwise [stepA]
  rw [if_neg (by simp), splus, zero_sub]

/-- A forget gate of the reference is minus the softplus. -/
theorem forget_apply (x : FVec Ideal S8704x120 .f32) (r : Fin 8704) (j : Fin 120) : forgetA x (ix2 r j) = 0 - splus (x (ix2 r j)) := by
  pointwise [forgetA]
  rw [if_neg (by simp), splus, zero_sub, zero_sub]

/-- A step size's biased projection. -/
theorem stepIn_apply (P : FVec Ideal S8704x5136 .f32) (bd : FVec Ideal S2x8 .f32) (r : Fin 8704) (j : Fin 8) : stepIn P bd (ix2 r j) = P (ix2 r ⟨1536 + j.val, by omega⟩) + bd (ix2 1 j) := by
  pointwise [stepIn]

/-- A forget gate's biased projection, negated; zero in the padding. -/
theorem forgetIn_apply (P : FVec Ideal S8704x5136 .f32) (bf : FVec Ideal S2x8 .f32) (r : Fin 8704) (j : Fin 120) : forgetIn P bf (ix2 r j) = 0 - (if h : j.val < 8 then P (ix2 r ⟨5128 + j.val, by omega⟩) + bf (ix2 1 ⟨j.val, h⟩) else 0) := by
  have h0 : (FloatOps.sitofp (F := Ideal) FTy.f32 0#32 : EReal) = 0 := by
    show ((((0#32 : BitVec 32).toInt : ℝ)) : EReal) = 0
    simp
  pointwise [forgetIn]
  rw [h0, zero_sub]

/-- The composed term at an index: the piece the column lies in. -/
theorem outOf_ladder (P : FVec Ideal S8704x5136 .f32) (bd : FVec Ideal S2x8 .f32) (gq gk : FVec Ideal S2x128 .f32) (bf : FVec Ideal S2x8 .f32) (r : Fin 8704) (j : Fin 5632) :
    outOf P bd gq gk bf (ix2 r j) =
      if h : j.val < 1536 then P (ix2 r ⟨j.val, by omega⟩)
      else if h : j.val - 1536 < 512 then P (ix2 r ⟨1544 + (j.val - 1536), by omega⟩)
      else if h : j.val - 1536 - 512 < 1024 then headA (shapeCast S8704x8x128 (extractStridedSlice S8704x1024 ![0, 2056] P slices_S8704x5136_S8704x1024_0_2056) shapeCasts_S8704x1024_S8704x8x128) gq (ix2 r ⟨j.val - 1536 - 512, h⟩)
      else if h : j.val - 1536 - 512 - 1024 < 1024 then headA (shapeCast S8704x8x128 (extractStridedSlice S8704x1024 ![0, 3080] P slices_S8704x5136_S8704x1024_0_3080) shapeCasts_S8704x1024_S8704x8x128) gk (ix2 r ⟨j.val - 1536 - 512 - 1024, h⟩)
      else if h : j.val - 1536 - 512 - 1024 - 1024 < 1024 then P (ix2 r ⟨4104 + (j.val - 1536 - 512 - 1024 - 1024), by omega⟩)
      else if h : j.val - 1536 - 512 - 1024 - 1024 - 1024 < 8 then stepA (stepIn P bd) (ix2 r ⟨j.val - 1536 - 512 - 1024 - 1024 - 1024, h⟩)
      else if h : j.val - 1536 - 512 - 1024 - 1024 - 1024 - 8 < 120 then forgetA (forgetIn P bf) (ix2 r ⟨j.val - 1536 - 512 - 1024 - 1024 - 1024 - 8, h⟩)
      else 0 := by
  pointwise [outOf]

open Cert.Kernel3Ideal.In (kcol lane proj val)

/-- The composed term at an index, its projection known: the kernel's element. -/
theorem outOf_apply (m : (ℓ : Loc Cert.Kernel3Ideal.nD Cert.Kernel3Ideal.τ Cert.Kernel3Ideal.sig) → Buf (Elt Ideal) ℓ) (c : Dev Cert.Kernel3Ideal.nD)
    (P : FVec Ideal S8704x5136 .f32) (hP : ∀ r q, P (ix2 r q) = proj m c r q.val) (r : Fin 8704) (j : Fin 5632) :
    outOf P (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (ix2 r j) = val m c r j.val := by
  have hQ : ∀ (q : Fin 5136) (n : ℕ), q.val = n → P (ix2 r q) = proj m c r n := fun q n h => h ▸ hP r q
  have hstep : ∀ (q : Fin 8) (n : ℕ), 1536 + q.val = n → stepA (stepIn P (m ((c.tc : Thread Cert.Kernel3Ideal.nD Cert.Kernel3Ideal.τ).loc Cert.Kernel3Ideal.main_arg3))) (ix2 r q) = splus (proj m c r n + Cert.Kernel3Ideal.In.dtAt m c q) := fun q n h => by
    rw [step_apply, stepIn_apply, hQ _ n h]
  have hforget : ∀ q : Fin 120, forgetA (forgetIn P (m ((c.tc : Thread Cert.Kernel3Ideal.nD Cert.Kernel3Ideal.τ).loc Cert.Kernel3Ideal.main_arg6))) (ix2 r q) = 0 - splus (0 - (if h : q.val < 8 then P (ix2 r ⟨5128 + q.val, by omega⟩) + (m ((c.tc : Thread Cert.Kernel3Ideal.nD Cert.Kernel3Ideal.τ).loc Cert.Kernel3Ideal.main_arg6)) (ix2 1 ⟨q.val, h⟩) else 0)) := fun q => by
    rw [forget_apply, forgetIn_apply]
  have hforget_lt : ∀ (q : Fin 120) (q' : Fin 8) (n : ℕ), q.val = q'.val → 5128 + q.val = n → 0 - splus (0 - (if h : q.val < 8 then P (ix2 r ⟨5128 + q.val, by omega⟩) + (m ((c.tc : Thread Cert.Kernel3Ideal.nD Cert.Kernel3Ideal.τ).loc Cert.Kernel3Ideal.main_arg6)) (ix2 1 ⟨q.val, h⟩) else 0)) = 0 - splus (0 - (proj m c r n + Cert.Kernel3Ideal.In.fAt m c q')) := fun q q' n h h' => by
    rw [dif_pos (show q.val < 8 by omega), hQ _ n h', show (⟨q.val, by omega⟩ : Fin 8) = q' from Fin.ext h]
  have hforget_ge : ∀ q : Fin 120, ¬ q.val < 8 → 0 - splus (0 - (if h : q.val < 8 then P (ix2 r ⟨5128 + q.val, by omega⟩) + (m ((c.tc : Thread Cert.Kernel3Ideal.nD Cert.Kernel3Ideal.τ).loc Cert.Kernel3Ideal.main_arg6)) (ix2 1 ⟨q.val, h⟩) else 0)) = 0 - splus 0 := fun q h => by
    rw [dif_neg h, sub_zero]
  rw [outOf_ladder]
  unfold val
  by_cases h0 : j.val < 1536
  · rw [dif_pos h0, if_pos (by omega), hP]
    dsimp only
    rw [kcol, if_pos h0]
  rw [dif_neg h0]
  by_cases h1 : j.val - 1536 < 512
  · rw [dif_pos h1, if_pos (by omega), hP]
    dsimp only
    rw [kcol, if_neg h0, if_pos (by omega)]
    exact congrArg (proj m c r) (by omega)
  rw [dif_neg h1, if_neg (by omega)]
  by_cases h2 : j.val - 1536 - 512 < 1024
  · rw [dif_pos h2, if_pos (by omega), head_apply]
    have hl : (⟨(j.val - 1536 - 512) % 128, by omega⟩ : Fin 128) = lane j.val := Fin.ext (by
      show (j.val - 1536 - 512) % 128 = j.val % 128
      omega)
    rw [hl]
    refine congrArg (fun A => headNorm A _ _) (funext fun d => ?_)
    pointwise
    rw [hP]
    exact congrArg (proj m c r) (by dsimp only; omega)
  rw [dif_neg h2, if_neg (by omega)]
  by_cases h3 : j.val - 1536 - 512 - 1024 < 1024
  · rw [dif_pos h3, if_pos (by omega), head_apply]
    have hl : (⟨(j.val - 1536 - 512 - 1024) % 128, by omega⟩ : Fin 128) = lane j.val := Fin.ext (by
      show (j.val - 1536 - 512 - 1024) % 128 = j.val % 128
      omega)
    rw [hl]
    refine congrArg (fun A => headNorm A _ _) (funext fun d => ?_)
    pointwise
    rw [hP]
    exact congrArg (proj m c r) (by dsimp only; omega)
  rw [dif_neg h3, if_neg (by omega)]
  by_cases h4 : j.val - 1536 - 512 - 1024 - 1024 < 1024
  · rw [dif_pos h4, if_pos (by omega), hP]
    dsimp only
    rw [show 4104 + (j.val - 1536 - 512 - 1024 - 1024) = j.val + 8 by omega]
  rw [dif_neg h4, if_neg (by omega)]
  by_cases h5 : j.val - 1536 - 512 - 1024 - 1024 - 1024 < 8
  · have e2 : (⟨j.val - 1536 - 512 - 1024 - 1024 - 1024, h5⟩ : Fin 8) = ⟨j.val - 5120, by omega⟩ := Fin.ext (by dsimp only; omega)
    rw [dif_pos h5, dif_pos (show j.val - 5120 < 8 by omega)]
    exact (hstep ⟨j.val - 1536 - 512 - 1024 - 1024 - 1024, h5⟩ (j.val - 3584) (by dsimp only; omega)).trans (congrArg (fun q => splus (proj m c r (j.val - 3584) + Cert.Kernel3Ideal.In.dtAt m c q)) e2)
  rw [dif_neg h5, dif_neg (show ¬ j.val - 5120 < 8 by omega)]
  by_cases h6 : j.val - 1536 - 512 - 1024 - 1024 - 1024 - 8 < 120
  · rw [dif_pos h6]
    by_cases h7 : j.val - 5128 < 8
    · rw [dif_pos h7]
      exact (hforget ⟨j.val - 1536 - 512 - 1024 - 1024 - 1024 - 8, h6⟩).trans (hforget_lt ⟨j.val - 1536 - 512 - 1024 - 1024 - 1024 - 8, h6⟩ ⟨j.val - 5128, h7⟩ j.val (by dsimp only; omega) (by dsimp only; omega))
    · rw [dif_neg h7, if_pos (show j.val < 5248 by omega)]
      exact (hforget ⟨j.val - 1536 - 512 - 1024 - 1024 - 1024 - 8, h6⟩).trans (hforget_ge ⟨j.val - 1536 - 512 - 1024 - 1024 - 1024 - 8, h6⟩ (by dsimp only; omega))
  · rw [dif_neg h6, dif_neg (show ¬ j.val - 5128 < 8 by omega), if_neg (by omega)]

/-- The reference's projection at an index is the kernel's. -/
theorem proj_apply (m : (ℓ : Loc Cert.Kernel3Ideal.nD Cert.Kernel3Ideal.τ Cert.Kernel3Ideal.sig) → Buf (Elt Ideal) ℓ) (c : Dev Cert.Kernel3Ideal.nD) (r : Fin 8704) (q : Fin 5136) :
    projA (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (ix2 r q) = proj m c r q.val := by
  pointwise [projA]
  unfold proj
  refine Finset.sum_congr rfl fun k _ => ?_
  rw [← Cert.Kernel3Ideal.In.wcol_of_lt m c k _ q rfl]
  rfl

/-- The reference's element is the kernel's. -/
theorem out_apply (m : (ℓ : Loc Cert.Kernel3Ideal.nD Cert.Kernel3Ideal.τ Cert.Kernel3Ideal.sig) → Buf (Elt Ideal) ℓ) (c : Dev Cert.Kernel3Ideal.nD) (r : Fin 8704) (j : Fin 5632) :
    out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (ix2 r j) = val m c r j.val :=
  outOf_apply m c _ (proj_apply m c) r j

end Cert.Reference3Ideal.In

end
-- ==== Proof.InClaim.lean ====
/-
  The input projection's claim: kernel and reference compute one function.
-/
module

public import proofs.«01_k».proof.Proof.InRef
public import proofs.«01_k».proof.Proof.Gen.Kernel3.Frame
public import proofs.«01_k».proof.Defs
public import Idealize.ShloMosaic.Lib.Claim

@[expose] public section

set_option maxRecDepth 16384

noncomputable section

namespace Cert.Proof.In

open Idealize.ShloMosaic Idealize.SL.Sem

/-- Kernel and reference of the input projection leave equal result arrays, for every input. -/
theorem value_eq (m : (ℓ : Loc Cert.Kernel3Ideal.nD Cert.Kernel3Ideal.τ Cert.Kernel3Ideal.sig) → Buf (Elt Ideal) ℓ) (c : Dev Cert.Kernel3Ideal.nD) :
    Cert.Reference3Ideal.In.out
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      = Cert.Kernel3Ideal.Value.G5 m c := by
  funext j
  have e : j = ix2 (j 0) (j 1) := by
    funext a
    match a with
    | ⟨0, _⟩ => rfl
    | ⟨1, _⟩ => rfl
  rw [e]
  exact (Cert.Reference3Ideal.In.out_apply m c (j 0) (j 1)).trans (Cert.Kernel3Ideal.In.G5_apply m c (j 0) (j 1)).symm

/-- The algebraic claim of the input projection. -/
theorem algebraic : @Cert.algebraic_Kernel3Ideal_Reference3Ideal Cert.Kernel3Ideal.Gen.facts Cert.Reference3Ideal.Gen.facts := by
  intro m g m' g' _ hag
  refine ⟨fun c => Cert.Kernel3Ideal.Value.G5 m c, Cert.Kernel3Ideal.Value.run m g, ?_⟩
  refine (θ_run _ _ _).mono (fun r h c => ?_) (Cert.Reference3Ideal.Value.run m' g')
  obtain ⟨hv, h0⟩ := h c
  refine ⟨(hv.trans (Cert.Reference3Ideal.In.res_eq m' c)).trans ?_, h0⟩
  obtain ⟨e0, e1, e2, e3, e4, e5, e6⟩ := hag c
  rw [e0, e1, e2, e3, e4, e5, e6]
  exact value_eq m c

end Cert.Proof.In

end
-- ==== Proof.OutBlock.lean ====
/-
  What one grid point of the output projection leaves in its output block: the terms the run found, with the loads and
  stores read away, and a stored strip of rows read back.
-/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Out

open Cert.Kernel4Ideal Cert.Kernel4Ideal.Gen Idealize.ShloMosaic Idealize.ShloMosaic.TcCoe Idealize.SL.Sem

variable {F : FTy → Type} [FloatOps F]

/-- The zero offsets of a rank-2 access are the constant zero function. -/
theorem hz2 : (![0, 0] : Fin 2 → Nat) = fun _ => 0 := funext fun a => by fin_cases a <;> rfl

/-- What a prompt tile stores: the stream's block plus the three mixers' rows, each times its rows of the weight. -/
def tileOut (x0 : Vec F S256x2048 .f32) (x1 x2 : Vec F S256x512 .bf16) (x3 : Vec F S256x1024 .bf16) (x7 : Vec F S1x2048x2048 .bf16) : Vec F S256x2048 .f32 :=
  k0_pay1 x0 x1 x2 x3 (View.ld x7 (Rect.unit ![0, 0, 0] S1x512x2048.size inb_S1x2048x2048_S1x512x2048_0_0_0)) (View.ld x7 (Rect.unit ![0, 512, 0] S1x512x2048.size inb_S1x2048x2048_S1x512x2048_0_512_0)) (View.ld x7 (Rect.unit ![0, 1024, 0] S1x1024x2048.size inb_S1x2048x2048_S1x1024x2048_0_1024_0))

/-- What the last tile stores: the samples' rows in its first half, the stream itself in its second. -/
def lastOut (x0 : Vec F S256x2048 .f32) (x4 x5 : Vec F S128x512 .bf16) (x6 : Vec F S128x1024 .bf16) (x7 : Vec F S1x2048x2048 .bf16) : Vec F S256x2048 .f32 :=
  View.canon (Val := Elt F) (s := S256x2048) (e := .f32)
    [⟨Rect.unit ![128, 0] ![128, 2048] inb_S256x2048_S128x2048_128_0, View.ld x0 (Rect.unit ![128, 0] ![128, 2048] inb_S256x2048_S128x2048_128_0)⟩,
     ⟨Rect.unit ![0, 0] ![128, 2048] inb_S256x2048_S128x2048_0_0,
       k0_pay2 (View.ld x0 (Rect.unit ![0, 0] ![128, 2048] inb_S256x2048_S128x2048_0_0)) x4 x5 x6 (View.ld x7 (Rect.unit ![0, 0, 0] S1x512x2048.size inb_S1x2048x2048_S1x512x2048_0_0_0)) (View.ld x7 (Rect.unit ![0, 512, 0] S1x512x2048.size inb_S1x2048x2048_S1x512x2048_0_512_0)) (View.ld x7 (Rect.unit ![0, 1024, 0] S1x1024x2048.size inb_S1x2048x2048_S1x1024x2048_0_1024_0))⟩]

/-- At a prompt tile the output block is the stream plus the mixers' projected rows. -/
theorem out_A (c : Dev nD) (i : grid0.Coords) (arg1 : Memref sig .tc .vmem S256x2048 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x1024 .bf16) (harg7 : arg7.IsWhole) (arg8 : Memref sig .tc .vmem S1x2048x2048 .bf16) (harg8 : arg8.IsWhole) (arg9 : Memref sig .tc .vmem S256x2048 .f32) (harg9 : arg9.IsWhole) (hc0 : cond0_0 i) (hc1 : ¬cond0_1 i)
    (x0 : Vec F S256x2048 .f32) (x1 : Vec F S256x512 .bf16) (x2 : Vec F S256x512 .bf16) (x3 : Vec F S256x1024 .bf16) (x4 : Vec F S128x512 .bf16) (x5 : Vec F S128x512 .bf16) (x6 : Vec F S128x1024 .bf16) (x7 : Vec F S1x2048x2048 .bf16) :
    out0_A_8 c i arg1 harg1 arg2 harg2 arg3 harg3 arg4 harg4 arg5 harg5 arg6 harg6 arg7 harg7 arg8 harg8 arg9 harg9 hc0 hc1 x0 x1 x2 x3 x4 x5 x6 x7 = tileOut x0 x1 x2 x3 x7 := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S256x2048) hz2, View.ld_unit_zero (S := S256x512) hz2, View.ld_unit_zero (S := S256x1024) hz2, View.ld_unit_zero (S := S128x512) hz2, View.ld_unit_zero (S := S128x1024) hz2]
  rfl

/-- At the last tile the output block is the samples' rows over the unchanged padding rows. -/
theorem out_B (c : Dev nD) (i : grid0.Coords) (arg1 : Memref sig .tc .vmem S256x2048 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x1024 .bf16) (harg7 : arg7.IsWhole) (arg8 : Memref sig .tc .vmem S1x2048x2048 .bf16) (harg8 : arg8.IsWhole) (arg9 : Memref sig .tc .vmem S256x2048 .f32) (harg9 : arg9.IsWhole) (hc0 : ¬cond0_0 i) (hc1 : cond0_1 i)
    (x0 : Vec F S256x2048 .f32) (x1 : Vec F S256x512 .bf16) (x2 : Vec F S256x512 .bf16) (x3 : Vec F S256x1024 .bf16) (x4 : Vec F S128x512 .bf16) (x5 : Vec F S128x512 .bf16) (x6 : Vec F S128x1024 .bf16) (x7 : Vec F S1x2048x2048 .bf16) :
    out0_B_8 c i arg1 harg1 arg2 harg2 arg3 harg3 arg4 harg4 arg5 harg5 arg6 harg6 arg7 harg7 arg8 harg8 arg9 harg9 hc0 hc1 x0 x1 x2 x3 x4 x5 x6 x7 = lastOut x0 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 x5 x6 x7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz2, View.ld_unit_zero (S := S256x512) hz2, View.ld_unit_zero (S := S256x1024) hz2, View.ld_unit_zero (S := S128x512) hz2, View.ld_unit_zero (S := S128x1024) hz2]
  rfl

/-- A stored strip of rows reads back inside the strip. -/
theorem strip_hit (o n : ℕ) (inb : ∀ a : Fin S256x2048.rank, (![o, 0] : Fin 2 → ℕ) a + (![n, 2048] : Fin 2 → ℕ) a ≤ S256x2048.size a) (w : (Rect.unit (s := S256x2048) ![o, 0] ![n, 2048] inb).shape.Idx → Elt Ideal .f32)
    (L : List (View.Piece (Elt Ideal) S256x2048 .f32)) (r : Fin 256) (y : Fin 2048) (d : Fin n) (hr : r.val = o + d.val) :
    View.canon (Val := Elt Ideal) (s := S256x2048) (e := .f32) (⟨Rect.unit (s := S256x2048) ![o, 0] ![n, 2048] inb, w⟩ :: L) (ix2 r y) = w (ix2 d y) := by
  have e : (ix2 r y : S256x2048.Idx) = (Rect.unit (s := S256x2048) ![o, 0] ![n, 2048] inb).emb (ix2 d y) := by
    funext a
    refine Fin.ext (Eq.trans ?_ (Rect.idx_unit_val _ _ _ _ a).symm)
    match a with
    | ⟨0, _⟩ => exact hr
    | ⟨1, _⟩ => exact (Nat.zero_add _).symm
  rw [e]
  exact View.canon_cons_emb _ _ _ _

/-- A stored strip of rows does not matter above the strip. -/
theorem strip_miss (o n : ℕ) (inb : ∀ a : Fin S256x2048.rank, (![o, 0] : Fin 2 → ℕ) a + (![n, 2048] : Fin 2 → ℕ) a ≤ S256x2048.size a) (w : (Rect.unit (s := S256x2048) ![o, 0] ![n, 2048] inb).shape.Idx → Elt Ideal .f32)
    (L : List (View.Piece (Elt Ideal) S256x2048 .f32)) (r : Fin 256) (y : Fin 2048) (hr : r.val < o) :
    View.canon (Val := Elt Ideal) (s := S256x2048) (e := .f32) (⟨Rect.unit (s := S256x2048) ![o, 0] ![n, 2048] inb, w⟩ :: L) (ix2 r y) = View.canon (Val := Elt Ideal) (s := S256x2048) (e := .f32) L (ix2 r y) := by
  refine View.canon_cons_of_not_mem ⟨_, w⟩ _ fun hm => ?_
  have h1 := (Rect.mem_set_unit (s := S256x2048) (inb := inb).mp hm (0 : Fin 2)).1
  have h2 : o ≤ r.val := h1
  omega

end Cert.Kernel4Ideal.Out

end
-- ==== Proof.OutReads.lean ====
/-
  The output projection's input blocks and payloads read at an index, over the argument arrays, at the ideal instance.
-/
module

public import proofs.«01_k».proof.Proof.OutBlock
public import Idealize.ShloMosaic.Lib.StableHlo.ReadAt

@[expose] public section

set_option maxRecDepth 16384

noncomputable section

namespace Cert.Kernel4Ideal.Out

open Cert.Kernel4Ideal Cert.Kernel4Ideal.Gen Idealize.ShloMosaic Idealize.ShloMosaic.TcCoe Idealize.SL.Sem

variable (m : (ℓ : Loc nD τ sig) → Buf (Elt Ideal) ℓ)

/-- The block indices of the windows at a point: the stream's and the result's row block is the point itself, the
    prompts' row block stays at the last one, everything else is whole. -/
theorem idx_facts : ∀ t : Fin cfg0.N,
    (win0_0.index t 0 = t.val ∧ win0_0.index t 1 = 0) ∧ (win0_1.index t 0 = min t.val 32 ∧ win0_1.index t 1 = 0)
    ∧ (win0_2.index t 0 = min t.val 32 ∧ win0_2.index t 1 = 0) ∧ (win0_3.index t 0 = min t.val 32 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 1 ∧ win0_7.index t 1 = 0 ∧ win0_7.index t 2 = 0)
    ∧ (win0_8.index t 0 = t.val ∧ win0_8.index t 1 = 0) :=
  (by decide +kernel : ∀ t : Fin grid0.N, _)

/-- Every point writes its block back. -/
theorem flush8 : ∀ t : Fin cfg0.N, (cfg0.win 8).flush t = true := (by decide +kernel : ∀ t : Fin grid0.N, _)

/-- The weight of the last layer. -/
abbrev wAt (c : Dev nD) (k n : Fin 2048) : EReal := m ((c : Thread nD τ).loc main_arg7) (ix3 1 k n)

/-- The weights the region finds are the argument's. -/
theorem V_w (c : Dev nD) (k n : Fin 2048) : (V m c main_v0 : Vec Ideal S2x2048x2048 .bf16) (ix3 1 k n) = wAt m c k n := by
  unfold V
  after_reads_at

/-- The block of the residual stream at an index. -/
theorem blk0 (c : Dev nD) (t : Fin cfg0.N) (r : Fin 256) (k : Fin 2048) (R : Fin 8704) (hR : R.val = 256 * t.val + r.val) :
    (iblk m c 0 t : Vec Ideal S256x2048 .f32) (ix2 r k) = m ((c : Thread nD τ).loc main_arg0) (ix2 R k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = R.val; rw [h0]; omega
  | ⟨1, _⟩ => show win0_0.index t 1 * 2048 + 1 * k.val = k.val; rw [h1]; omega

/-- The block of the first mixer's prompt rows at an index, at a prompt tile. -/
theorem blk1 (c : Dev nD) (t : Fin cfg0.N) (ht : t.val < 33) (r : Fin 256) (k : Fin 512) (R : Fin 8448) (hR : R.val = 256 * t.val + r.val) :
    (iblk m c 1 t : Vec Ideal S256x512 .bf16) (ix2 r k) = m ((c : Thread nD τ).loc main_arg1) (ix2 R k) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 256 + 1 * r.val = R.val; rw [h0]; omega
  | ⟨1, _⟩ => show win0_1.index t 1 * 512 + 1 * k.val = k.val; rw [h1]; omega

/-- The block of the second mixer's prompt rows at an index, at a prompt tile. -/
theorem blk2 (c : Dev nD) (t : Fin cfg0.N) (ht : t.val < 33) (r : Fin 256) (k : Fin 512) (R : Fin 8448) (hR : R.val = 256 * t.val + r.val) :
    (iblk m c 2 t : Vec Ideal S256x512 .bf16) (ix2 r k) = m ((c : Thread nD τ).loc main_arg2) (ix2 R k) := by
  obtain ⟨-, -, ⟨h0, h1⟩, -⟩ := idx_facts t
  unfold iblk
  rw [View.read_apply]
  show V m c main_arg2 _ = _
  rw [V_main_arg2]
  congr 1
  funext a
  apply Fin.ext
  match a with
  | ⟨0, _⟩ => show win0_2.index t 0 * 256 + 1 * r.val = R.val; rw [h0]; omega
  | ⟨1, _⟩ => show win0_2.index t 1 * 512 + 1 * k.val = k.val; rw [h1]; omega

/-- The block of the third mixer's prompt rows at an index, at a prompt tile. -/
theorem blk3 (c : Dev nD) (t : Fin cfg0.N) (ht : t.val < 33) (r : Fin 256) (k : Fin 1024) (R : Fin 8448) (hR : R.val = 256 * t.val + r.val) :
    (iblk m c 3 t : Vec Ideal S256x1024 .bf16) (ix2 r k) = m ((c : Thread nD τ).loc main_arg3) (ix2 R k) := by
  obtain ⟨-, -, -, ⟨h0, h1⟩, -⟩ := idx_facts t
  unfold iblk
  rw [View.read_apply]
  show V m c main_arg3 _ = _
  rw [V_main_arg3]
  congr 1
  funext a
  apply Fin.ext
  match a with
  | ⟨0, _⟩ => show win0_3.index t 0 * 256 + 1 * r.val = R.val; rw [h0]; omega
  | ⟨1, _⟩ => show win0_3.index t 1 * 1024 + 1 * k.val = k.val; rw [h1]; omega

/-- The block of the first mixer's sample rows at an index. -/
theorem blk4 (c : Dev nD) (t : Fin cfg0.N) (r : Fin 128) (k : Fin 512) :
    (iblk m c 4 t : Vec Ideal S128x512 .bf16) (ix2 r k) = m ((c : Thread nD τ).loc main_arg4) (ix2 r k) := by
  obtain ⟨-, -, -, -, ⟨h0, h1⟩, -⟩ := idx_facts t
  unfold iblk
  rw [View.read_apply]
  show V m c main_arg4 _ = _
  rw [V_main_arg4]
  congr 1
  funext a
  apply Fin.ext
  match a with
  | ⟨0, _⟩ => show win0_4.index t 0 * 128 + 1 * r.val = r.val; rw [h0]; omega
  | ⟨1, _⟩ => show win0_4.index t 1 * 512 + 1 * k.val = k.val; rw [h1]; omega

/-- The block of the second mixer's sample rows at an index. -/
theorem blk5 (c : Dev nD) (t : Fin cfg0.N) (r : Fin 128) (k : Fin 512) :
    (iblk m c 5 t : Vec Ideal S128x512 .bf16) (ix2 r k) = m ((c : Thread nD τ).loc main_arg5) (ix2 r k) := by
  obtain ⟨-, -, -, -, -, ⟨h0, h1⟩, -⟩ := idx_facts t
  unfold iblk
  rw [View.read_apply]
  show V m c main_arg5 _ = _
  rw [V_main_arg5]
  congr 1
  funext a
  apply Fin.ext
  match a with
  | ⟨0, _⟩ => show win0_5.index t 0 * 128 + 1 * r.val = r.val; rw [h0]; omega
  | ⟨1, _⟩ => show win0_5.index t 1 * 512 + 1 * k.val = k.val; rw [h1]; omega

/-- The block of the third mixer's sample rows at an index. -/
theorem blk6 (c : Dev nD) (t : Fin cfg0.N) (r : Fin 128) (k : Fin 1024) :
    (iblk m c 6 t : Vec Ideal S128x1024 .bf16) (ix2 r k) = m ((c : Thread nD τ).loc main_arg6) (ix2 r k) := by
  obtain ⟨-, -, -, -, -, -, ⟨h0, h1⟩, -⟩ := idx_facts t
  unfold iblk
  rw [View.read_apply]
  show V m c main_arg6 _ = _
  rw [V_main_arg6]
  congr 1
  funext a
  apply Fin.ext
  match a with
  | ⟨0, _⟩ => show win0_6.index t 0 * 128 + 1 * r.val = r.val; rw [h0]; omega
  | ⟨1, _⟩ => show win0_6.index t 1 * 1024 + 1 * k.val = k.val; rw [h1]; omega

/-- The block of the weights at an index. -/
theorem blk7 (c : Dev nD) (t : Fin cfg0.N) (k n : Fin 2048) :
    (iblk m c 7 t : Vec Ideal S1x2048x2048 .bf16) (ix3 0 k n) = wAt m c k n := by
  obtain ⟨-, -, -, -, -, -, -, ⟨h0, h1, h2⟩, -⟩ := idx_facts t
  unfold iblk
  rw [View.read_apply]
  refine Eq.trans ?_ (V_w m c k n)
  show V m c main_v0 _ = _
  congr 1
  funext a
  apply Fin.ext
  match a with
  | ⟨0, _⟩ => show win0_7.index t 0 * 1 + 1 * 0 = 1; rw [h0]
  | ⟨1, _⟩ => show win0_7.index t 1 * 2048 + 1 * k.val = k.val; rw [h1]; omega
  | ⟨2, _⟩ => show win0_7.index t 2 * 2048 + 1 * n.val = n.val; rw [h2]; omega

/-- The three mixers' rows times a column of the weight. -/
def mix (a b : Fin 512 → EReal) (z : Fin 1024 → EReal) (w : Fin 2048 → EReal) : EReal :=
  (∑ k : Fin 512, a k * w ⟨k.val, by omega⟩) + (∑ k : Fin 512, b k * w ⟨512 + k.val, by omega⟩) + ∑ k : Fin 1024, z k * w ⟨1024 + k.val, by omega⟩

/-- A prompt tile's payload at an element. -/
theorem pay1_apply (v6 : Vec Ideal S256x2048 .f32) (v7 v8 : Vec Ideal S256x512 .bf16) (v9 : Vec Ideal S256x1024 .bf16) (v10 v13 : Vec Ideal S1x512x2048 .bf16) (v17 : Vec Ideal S1x1024x2048 .bf16) (r : Fin 256) (j : Fin 2048) :
    k0_pay1 v6 v7 v8 v9 v10 v13 v17 (ix2 r j) = v6 (ix2 r j) + ((∑ k : Fin 512, v7 (ix2 r k) * v10 (ix3 0 k j)) + (∑ k : Fin 512, v8 (ix2 r k) * v13 (ix3 0 k j)) + ∑ k : Fin 1024, v9 (ix2 r k) * v17 (ix3 0 k j)) := by
  pointwise [k0_pay1]

/-- The last tile's payload at an element. -/
theorem pay2_apply (v6 : Vec Ideal S128x2048 .f32) (v7 v8 : Vec Ideal S128x512 .bf16) (v9 : Vec Ideal S128x1024 .bf16) (v10 v13 : Vec Ideal S1x512x2048 .bf16) (v17 : Vec Ideal S1x1024x2048 .bf16) (r : Fin 128) (j : Fin 2048) :
    k0_pay2 v6 v7 v8 v9 v10 v13 v17 (ix2 r j) = v6 (ix2 r j) + ((∑ k : Fin 512, v7 (ix2 r k) * v10 (ix3 0 k j)) + (∑ k : Fin 512, v8 (ix2 r k) * v13 (ix3 0 k j)) + ∑ k : Fin 1024, v9 (ix2 r k) * v17 (ix3 0 k j)) := by
  pointwise [k0_pay2]

/-- A strip of the weight's rows at an element. -/
theorem ld_w (X : Vec Ideal S1x2048x2048 .bf16) (o n : ℕ) (inb : ∀ a : Fin S1x2048x2048.rank, (![0, o, 0] : Fin 3 → ℕ) a + (![1, n, 2048] : Fin 3 → ℕ) a ≤ S1x2048x2048.size a)
    (k : Fin n) (j K : Fin 2048) (hK : K.val = o + k.val) :
    View.ld X (Rect.unit (s := S1x2048x2048) ![0, o, 0] ![1, n, 2048] inb) (ix3 0 k j) = X (ix3 0 K j) :=
  View.ld_unit_apply_of X _ _ _ _ _ fun a => by
    match a with
    | ⟨0, _⟩ => rfl
    | ⟨1, _⟩ => exact hK
    | ⟨2, _⟩ => exact (Nat.zero_add _).symm

/-- A strip of the stream's rows at an element. -/
theorem ld_h (X : Vec Ideal S256x2048 .f32) (o n : ℕ) (inb : ∀ a : Fin S256x2048.rank, (![o, 0] : Fin 2 → ℕ) a + (![n, 2048] : Fin 2 → ℕ) a ≤ S256x2048.size a)
    (r : Fin n) (j : Fin 2048) (R : Fin 256) (hR : R.val = o + r.val) :
    View.ld X (Rect.unit (s := S256x2048) ![o, 0] ![n, 2048] inb) (ix2 r j) = X (ix2 R j) :=
  View.ld_unit_apply_of X _ _ _ _ _ fun a => by
    match a with
    | ⟨0, _⟩ => exact hR
    | ⟨1, _⟩ => exact (Nat.zero_add _).symm

/-- What a prompt tile stores at an element. -/
theorem tile_apply (x0 : Vec Ideal S256x2048 .f32) (x1 x2 : Vec Ideal S256x512 .bf16) (x3 : Vec Ideal S256x1024 .bf16) (x7 : Vec Ideal S1x2048x2048 .bf16) (r : Fin 256) (j : Fin 2048) :
    tileOut x0 x1 x2 x3 x7 (ix2 r j) = x0 (ix2 r j) + mix (fun k => x1 (ix2 r k)) (fun k => x2 (ix2 r k)) (fun k => x3 (ix2 r k)) (fun k => x7 (ix3 0 k j)) := by
  unfold tileOut mix
  rw [pay1_apply]
  refine congrArg₂ (· + ·) rfl (congrArg₂ (· + ·) (congrArg₂ (· + ·) ?_ ?_) ?_)
  all_goals refine Finset.sum_congr rfl fun k _ => congrArg₂ (· * ·) rfl ?_
  · exact ld_w x7 0 512 _ k j _ (Nat.zero_add _).symm
  · exact ld_w x7 512 512 _ k j _ rfl
  · exact ld_w x7 1024 1024 _ k j _ rfl

/-- What the last tile stores at an element of a sample's row. -/
theorem last_mix (x0 : Vec Ideal S256x2048 .f32) (x4 x5 : Vec Ideal S128x512 .bf16) (x6 : Vec Ideal S128x1024 .bf16) (x7 : Vec Ideal S1x2048x2048 .bf16) (R : Fin 256) (r : Fin 128) (hR : R.val = r.val) (j : Fin 2048) :
    lastOut x0 x4 x5 x6 x7 (ix2 R j) = x0 (ix2 R j) + mix (fun k => x4 (ix2 r k)) (fun k => x5 (ix2 r k)) (fun k => x6 (ix2 r k)) (fun k => x7 (ix3 0 k j)) := by
  have hr := r.isLt
  unfold lastOut
  rw [strip_miss 128 128 _ _ _ R j (by omega), strip_hit 0 128 _ _ _ R j r (by omega), pay2_apply]
  unfold mix
  refine congrArg₂ (· + ·) (ld_h x0 0 128 _ r j R (by omega)) (congrArg₂ (· + ·) (congrArg₂ (· + ·) ?_ ?_) ?_)
  all_goals refine Finset.sum_congr rfl fun k _ => congrArg₂ (· * ·) rfl ?_
  · exact ld_w x7 0 512 _ k j _ (Nat.zero_add _).symm
  · exact ld_w x7 512 512 _ k j _ rfl
  · exact ld_w x7 1024 1024 _ k j _ rfl

/-- What the last tile stores at an element of a padding row: the stream. -/
theorem last_pad (x0 : Vec Ideal S256x2048 .f32) (x4 x5 : Vec Ideal S128x512 .bf16) (x6 : Vec Ideal S128x1024 .bf16) (x7 : Vec Ideal S1x2048x2048 .bf16) (R : Fin 256) (hR : 128 ≤ R.val) (j : Fin 2048) :
    lastOut x0 x4 x5 x6 x7 (ix2 R j) = x0 (ix2 R j) := by
  unfold lastOut
  rw [strip_hit 128 128 _ _ _ R j ⟨R.val - 128, by omega⟩ (by dsimp only; omega)]
  exact ld_h x0 128 128 _ _ j R (by dsimp only; omega)

end Cert.Kernel4Ideal.Out

end
-- ==== Proof.OutArray.lean ====
/-
  The output projection's result array: the stream, plus the mixers' rows times the weight at the prompts' and the
  samples' rows.
-/
module

public import proofs.«01_k».proof.Proof.OutReads

@[expose] public section

set_option maxRecDepth 16384

noncomputable section

namespace Cert.Kernel4Ideal.Out

open Cert.Kernel4Ideal Cert.Kernel4Ideal.Gen Idealize.ShloMosaic Idealize.ShloMosaic.TcCoe Idealize.SL.Sem

variable (m : (ℓ : Loc nD τ sig) → Buf (Elt Ideal) ℓ)

/-- The mixers' contribution to row `r` and column `j` of the result: the prompts' rows, then the samples', then none. -/
def mixed (c : Dev nD) (r : Fin 8704) (j : Fin 2048) : EReal :=
  if h : r.val < 8448 then
    mix (fun k => m ((c : Thread nD τ).loc main_arg1) (ix2 ⟨r.val, h⟩ k)) (fun k => m ((c : Thread nD τ).loc main_arg2) (ix2 ⟨r.val, h⟩ k))
      (fun k => m ((c : Thread nD τ).loc main_arg3) (ix2 ⟨r.val, h⟩ k)) (fun k => wAt m c k j)
  else if h : r.val - 8448 < 128 then
    mix (fun k => m ((c : Thread nD τ).loc main_arg4) (ix2 ⟨r.val - 8448, h⟩ k)) (fun k => m ((c : Thread nD τ).loc main_arg5) (ix2 ⟨r.val - 8448, h⟩ k))
      (fun k => m ((c : Thread nD τ).loc main_arg6) (ix2 ⟨r.val - 8448, h⟩ k)) (fun k => wAt m c k j)
  else 0

/-- The residual stream's element. -/
abbrev hAt (c : Dev nD) (r : Fin 8704) (j : Fin 2048) : EReal := m ((c : Thread nD τ).loc main_arg0) (ix2 r j)

/-- The block a point leaves, at an element. -/
theorem outs_eq (c : Dev nD) (t : Fin cfg0.N) (r : Fin 256) (j : Fin 2048) (R : Fin 8704) (hR : R.val = 256 * t.val + r.val) :
    outsAt0 m c t.val t.isLt (ix2 r j) = hAt m c R j + mixed m c R j := by
  have ht := lt_of_lt_of_eq t.isLt (show cfg0.N = 34 from N_0)
  have hr := r.isLt
  by_cases h0 : t.val < 33
  · rw [outsAt0_A m c t h0 (by omega), out_A, tile_apply, blk0 m c t r j R hR, mixed, dif_pos (show R.val < 8448 by omega)]
    simp only [blk7, fun k => blk1 m c t h0 r k ⟨R.val, by omega⟩ hR, fun k => blk2 m c t h0 r k ⟨R.val, by omega⟩ hR, fun k => blk3 m c t h0 r k ⟨R.val, by omega⟩ hR]
  · rw [outsAt0_B m c t h0 (by omega), out_B, mixed, dif_neg (show ¬R.val < 8448 by omega)]
    by_cases h1 : r.val < 128
    · rw [last_mix _ _ _ _ _ r ⟨R.val - 8448, by omega⟩ (by dsimp only; omega) j, blk0 m c t r j R hR, dif_pos (show R.val - 8448 < 128 by omega)]
      simp only [blk7, blk4, blk5, blk6]
    · rw [last_pad _ _ _ _ _ r (by omega) j, blk0 m c t r j R hR, dif_neg (show ¬R.val - 8448 < 128 by omega), add_zero]

/-- The result array after the run, at an index. -/
theorem arr_apply (c : Dev nD) (R : Fin 8704) (j : Fin 2048) :
    ((dats m 0 c).arrAt 8 cfg0.N : Vec Ideal S8704x2048 .f32) (ix2 R j) = hAt m c R j + mixed m c R j := by
  have hRl := R.isLt
  obtain ⟨t, ht⟩ : ∃ t : Fin cfg0.N, t.val = R.val / 256 := ⟨⟨R.val / 256, by rw [show cfg0.N = 34 from N_0]; omega⟩, rfl⟩
  obtain ⟨r, hr⟩ : ∃ r : Fin 256, r.val = R.val % 256 := ⟨⟨R.val % 256, Nat.mod_lt _ (by decide)⟩, rfl⟩
  obtain ⟨-, -, -, -, -, -, -, -, ⟨h0, h1⟩⟩ := idx_facts t
  have hblk := Value.blocks8 m c t (flush8 t)
  rw [Value.flushed8] at hblk
  have hat := congrFun hblk (ix2 r j)
  rw [View.read_apply] at hat
  refine Eq.trans ?_ (hat.trans (outs_eq m c t r j R (by omega)))
  congr 1
  funext a
  apply Fin.ext
  match a with
  | ⟨0, _⟩ => show R.val = win0_8.index t 0 * 256 + 1 * r.val; rw [h0]; omega
  | ⟨1, _⟩ => show j.val = win0_8.index t 1 * 2048 + 1 * j.val; rw [h1]; omega

end Cert.Kernel4Ideal.Out

end
-- ==== Proof.OutRef.lean ====
/-
  The output projection's reference read at an index: one product over the joined rows is the sum of the kernel's three.
-/
module

public import proofs.«01_k».proof.Proof.OutArray
public import proofs.«01_k».proof.Proof.Gen.Reference4Ideal.Run

@[expose] public section

set_option maxRecDepth 16384

noncomputable section

namespace Cert.Reference4Ideal.Out

open Cert.Reference4Ideal Cert.Reference4Ideal.Gen Idealize.ShloMosaic Idealize.ShloMosaic.TcCoe Idealize.SL.Sem
open Cert.Kernel4Ideal.Out (mix)

/-- The composed term of the reference, over its eight arguments. -/
def out (h : FVec Ideal S8704x2048 .f32) (ya yb : FVec Ideal S8448x512 .bf16) (yc : FVec Ideal S8448x1024 .bf16) (sa sb : FVec Ideal S128x512 .bf16) (sc : FVec Ideal S128x1024 .bf16) (w : FVec Ideal S2x2048x2048 .f32) : FVec Ideal S8704x2048 .f32 :=
  addf h ((concatenate S8704x2048 0 [⟨S8448x2048, ((Host.dotGeneral dot_S8448x2048_S2048x2048_S8448x2048_1_0_0_1_n_n none (extf .f32 ((concatenate S8448x2048 1 [⟨S8448x512, (ya)⟩, ⟨S8448x512, (yb)⟩, ⟨S8448x1024, (yc)⟩] concatenates_S8448x512_S8448x512_S8448x1024_S8448x2048_d1)) bitsLt_bf16_f32) (shapeCast _ (extractStridedSlice S1x2048x2048 ![1, 0, 0] w slices_S2x2048x2048_S1x2048x2048_1_0_0) shapeCasts_S1x2048x2048_S2048x2048)))⟩, ⟨S128x2048, ((Host.dotGeneral dot_S128x2048_S2048x2048_S128x2048_1_0_0_1_n_n none (extf .f32 ((concatenate S128x2048 1 [⟨S128x512, (sa)⟩, ⟨S128x512, (sb)⟩, ⟨S128x1024, (sc)⟩] concatenates_S128x512_S128x512_S128x1024_S128x2048_d1)) bitsLt_bf16_f32) (shapeCast _ (extractStridedSlice S1x2048x2048 ![1, 0, 0] w slices_S2x2048x2048_S1x2048x2048_1_0_0) shapeCasts_S1x2048x2048_S2048x2048)))⟩, ⟨S128x2048, ((broadcastInDim S128x2048 ![] bcast_S_S128x2048 (constant S_ .f32 0x00000000#32)))⟩] concatenates_S8448x2048_S128x2048_S128x2048_S8704x2048_d0))

/-- A joined row at a column: the first mixer's, then the second's, then the third's. -/
def joined (a b : Fin 512 → EReal) (z : Fin 1024 → EReal) (k : Fin 2048) : EReal :=
  if h : k.val < 512 then a ⟨k.val, h⟩ else if h : k.val - 512 < 512 then b ⟨k.val - 512, h⟩ else z ⟨k.val - 512 - 512, by omega⟩

/-- A sum over the joined columns is the sum over the three parts. -/
theorem sum_three (f : Fin 2048 → EReal) :
    ∑ k, f k = (∑ k : Fin 512, f ⟨k.val, by omega⟩) + (∑ k : Fin 512, f ⟨512 + k.val, by omega⟩) + ∑ k : Fin 1024, f ⟨1024 + k.val, by omega⟩ := by
  have h1 : ∑ k, f k = (∑ k : Fin 1024, f ⟨k.val, by omega⟩) + ∑ k : Fin 1024, f ⟨1024 + k.val, by omega⟩ := Fin.sum_univ_add (a := 1024) (b := 1024) f
  have h2 : (∑ k : Fin 1024, f ⟨k.val, by omega⟩) = (∑ k : Fin 512, f ⟨k.val, by omega⟩) + ∑ k : Fin 512, f ⟨512 + k.val, by omega⟩ :=
    Fin.sum_univ_add (a := 512) (b := 512) fun k : Fin 1024 => f ⟨k.val, by omega⟩
  rw [h1, h2]

/-- A joined row times a column of the weight is the sum of the three products. -/
theorem joined_mix (a b : Fin 512 → EReal) (z : Fin 1024 → EReal) (w : Fin 2048 → EReal) :
    ∑ k, joined a b z k * w k = mix a b z w := by
  rw [sum_three, mix]
  refine congrArg₂ (· + ·) (congrArg₂ (· + ·) ?_ ?_) ?_
  all_goals refine Finset.sum_congr rfl fun k _ => congrArg₂ (· * ·) ?_ rfl
  · rw [joined, dif_pos k.isLt]
  · have hk := k.isLt
    rw [joined, dif_neg (by dsimp only; omega), dif_pos (by dsimp only; omega)]
    exact congrArg b (Fin.ext (by dsimp only; omega))
  · have hk := k.isLt
    rw [joined, dif_neg (by dsimp only; omega), dif_neg (by dsimp only; omega)]
    exact congrArg z (Fin.ext (by dsimp only; omega))

/-- The reference's element: the stream plus the joined rows times the weight. -/
theorem out_read (h : FVec Ideal S8704x2048 .f32) (ya yb : FVec Ideal S8448x512 .bf16) (yc : FVec Ideal S8448x1024 .bf16) (sa sb : FVec Ideal S128x512 .bf16) (sc : FVec Ideal S128x1024 .bf16) (w : FVec Ideal S2x2048x2048 .f32) (r : Fin 8704) (j : Fin 2048) :
    out h ya yb yc sa sb sc w (ix2 r j) = h (ix2 r j) +
      if hr : r.val < 8448 then ∑ k, joined (fun k => ya (ix2 ⟨r.val, hr⟩ k)) (fun k => yb (ix2 ⟨r.val, hr⟩ k)) (fun k => yc (ix2 ⟨r.val, hr⟩ k)) k * w (ix3 1 k j)
      else if hr : r.val - 8448 < 128 then ∑ k, joined (fun k => sa (ix2 ⟨r.val - 8448, hr⟩ k)) (fun k => sb (ix2 ⟨r.val - 8448, hr⟩ k)) (fun k => sc (ix2 ⟨r.val - 8448, hr⟩ k)) k * w (ix3 1 k j)
      else 0 := by
  pointwise [out]
  rfl

/-- The reference's element is the kernel's. -/
theorem out_apply (m : (ℓ : Loc Cert.Kernel4Ideal.nD Cert.Kernel4Ideal.τ Cert.Kernel4Ideal.sig) → Buf (Elt Ideal) ℓ) (c : Dev Cert.Kernel4Ideal.nD) (r : Fin 8704) (j : Fin 2048) :
    out
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (ix2 r j) = Cert.Kernel4Ideal.Out.hAt m c r j + Cert.Kernel4Ideal.Out.mixed m c r j := by
  rw [out_read, Cert.Kernel4Ideal.Out.mixed]
  simp only [joined_mix]

end Cert.Reference4Ideal.Out

end
-- ==== Proof.OutClaim.lean ====
/-
  The output projection's claim: kernel and reference compute one function.
-/
module

public import proofs.«01_k».proof.Proof.OutRef
public import proofs.«01_k».proof.Proof.Gen.Kernel4.Frame
public import proofs.«01_k».proof.Defs
public import Idealize.ShloMosaic.Lib.Claim

@[expose] public section

set_option maxRecDepth 16384

noncomputable section

namespace Cert.Proof.Out

open Idealize.ShloMosaic Idealize.SL.Sem

/-- Kernel and reference of the output projection leave equal result arrays, for every input. -/
theorem value_eq (m : (ℓ : Loc Cert.Kernel4Ideal.nD Cert.Kernel4Ideal.τ Cert.Kernel4Ideal.sig) → Buf (Elt Ideal) ℓ) (c : Dev Cert.Kernel4Ideal.nD) :
    Cert.Reference4Ideal.Out.out
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      = (Cert.Kernel4Ideal.Gen.dats m 0 c).arrAt 8 Cert.Kernel4Ideal.cfg0.N := by
  funext j
  have e : j = ix2 (j 0) (j 1) := by
    funext a
    match a with
    | ⟨0, _⟩ => rfl
    | ⟨1, _⟩ => rfl
  rw [e]
  exact (Cert.Reference4Ideal.Out.out_apply m c (j 0) (j 1)).trans (Cert.Kernel4Ideal.Out.arr_apply m c (j 0) (j 1)).symm

/-- The algebraic claim of the output projection. -/
theorem algebraic : @Cert.algebraic_Kernel4Ideal_Reference4Ideal Cert.Kernel4Ideal.Gen.facts Cert.Reference4Ideal.Gen.facts := by
  intro m g m' g' _ hag
  refine ⟨fun c => (Cert.Kernel4Ideal.Gen.dats m 0 c).arrAt 8 Cert.Kernel4Ideal.cfg0.N, Cert.Kernel4Ideal.Value.run_blocks m g, ?_⟩
  refine (θ_run _ _ _).mono (fun r h c => ?_) (Cert.Reference4Ideal.Value.run m' g')
  obtain ⟨hv, h0⟩ := h c
  refine ⟨hv.trans ?_, h0⟩
  obtain ⟨e0, e1, e2, e3, e4, e5, e6, e7⟩ := hag c
  rw [e0, e1, e2, e3, e4, e5, e6, e7]
  exact value_eq m c

end Cert.Proof.Out

end
-- ==== Proof.S5Math.lean ====
/-
  The sums of the S5 step: a product with a block-diagonal matrix, of which the kernel takes the block's slab, is the sum
  over the one block that is not zero.
-/
module

public import Idealize.ShloMosaic.Lib.Pointwise

@[expose] public section

noncomputable section

namespace Cert.Proof.S5

/-- A sum over `a` blocks of `b` entries whose terms vanish outside block `g` is the sum over that block. -/
theorem sum_block (a b : ℕ) (f : Fin (a * b) → EReal) (g : Fin a) (h : ∀ i : Fin (a * b), i.val / b ≠ g.val → f i = 0) :
    ∑ i, f i = ∑ c : Fin b, f ⟨b * g.val + c.val, by
      have h1 := c.isLt
      have h2 : b * g.val + b ≤ b * a := by rw [← Nat.mul_succ]; exact Nat.mul_le_mul_left b g.isLt
      rw [Nat.mul_comm a b]; omega⟩ := by
  rw [← finProdFinEquiv.sum_comp f, Fintype.sum_prod_type, Finset.sum_eq_single g]
  · refine Finset.sum_congr rfl fun c _ => congrArg f (Fin.ext ?_)
    show c.val + b * g.val = b * g.val + c.val
    omega
  · intro x _ hx
    refine Finset.sum_eq_zero fun c _ => h _ ?_
    show (c.val + b * x.val) / b ≠ g.val
    have hb : 0 < b := lt_of_le_of_lt (Nat.zero_le _) c.isLt
    rw [Nat.add_mul_div_left _ _ hb, Nat.div_eq_of_lt c.isLt, Nat.zero_add]
    exact fun e => hx (Fin.ext e)
  · exact fun hg => absurd (Finset.mem_univ g) hg

/-- The input side: row `u` times column `j` of the block-diagonal matrix, within the slab of `128` rows that holds the
    column's block, is the sum over the sixteen channels of the column's group. -/
theorem slab_in (u : Fin 512 → EReal) (B : Fin 512 → Fin 2048 → EReal) (j : Fin 2048)
    (h : ∀ k : Fin 512, k.val / 16 ≠ j.val / 64 → B k j = 0) :
    (∑ i : Fin 128, u ⟨128 * (j.val / 512) + i.val, by omega⟩ * B ⟨128 * (j.val / 512) + i.val, by omega⟩ j)
      = ∑ c : Fin 16, u ⟨16 * (j.val / 64) + c.val, by omega⟩ * B ⟨16 * (j.val / 64) + c.val, by omega⟩ j := by
  have hj := j.isLt
  refine (sum_block 8 16 (fun i : Fin 128 => u ⟨128 * (j.val / 512) + i.val, by omega⟩ * B ⟨128 * (j.val / 512) + i.val, by omega⟩ j)
    ⟨j.val / 64 % 8, Nat.mod_lt _ (by decide)⟩ fun i hi => ?_).trans (Finset.sum_congr rfl fun c _ => ?_)
  · have hi' : i.val / 16 ≠ j.val / 64 % 8 := hi
    have hil := i.isLt
    rw [h _ (by dsimp only; omega), mul_zero]
  · have hc := c.isLt
    have e : (⟨128 * (j.val / 512) + (16 * (j.val / 64 % 8) + c.val), by omega⟩ : Fin 512) = ⟨16 * (j.val / 64) + c.val, by omega⟩ :=
      Fin.ext (by dsimp only; omega)
    exact congrArg (fun k : Fin 512 => u k * B k j) e

/-- The output side: the states times column `j` of the block-diagonal matrix, within the slab of `512` rows that holds
    the column's block, is the sum over the 64 states of the column's group. -/
theorem slab_out (s : Fin 2048 → EReal) (C : Fin 2048 → Fin 512 → EReal) (j : Fin 512)
    (h : ∀ k : Fin 2048, k.val / 64 ≠ j.val / 16 → C k j = 0) :
    (∑ i : Fin 512, s ⟨512 * (j.val / 128) + i.val, by omega⟩ * C ⟨512 * (j.val / 128) + i.val, by omega⟩ j)
      = ∑ n : Fin 64, s ⟨64 * (j.val / 16) + n.val, by omega⟩ * C ⟨64 * (j.val / 16) + n.val, by omega⟩ j := by
  have hj := j.isLt
  refine (sum_block 8 64 (fun i : Fin 512 => s ⟨512 * (j.val / 128) + i.val, by omega⟩ * C ⟨512 * (j.val / 128) + i.val, by omega⟩ j)
    ⟨j.val / 16 % 8, Nat.mod_lt _ (by decide)⟩ fun i hi => ?_).trans (Finset.sum_congr rfl fun n _ => ?_)
  · have hi' : i.val / 64 ≠ j.val / 16 % 8 := hi
    have hil := i.isLt
    rw [h _ (by dsimp only; omega), mul_zero]
  · have hn := n.isLt
    have e : (⟨512 * (j.val / 128) + (64 * (j.val / 16 % 8) + n.val), by omega⟩ : Fin 2048) = ⟨64 * (j.val / 16) + n.val, by omega⟩ :=
      Fin.ext (by dsimp only; omega)
    exact congrArg (fun k : Fin 2048 => s k * C k j) e

end Cert.Proof.S5

end
-- ==== Proof.S5Block.lean ====
/-
  What the S5 step of the samples leaves in its output blocks, read at an index over the input blocks.
-/
module

public import proofs.«01_k».proof.Proof.S5Math
public import proofs.«01_k».proof.Proof.Gen.Kernel5Ideal.Value
public import Idealize.ShloMosaic.Lib.Pipeline.ValueKit

@[expose] public section

set_option maxRecDepth 16384

noncomputable section

namespace Cert.Kernel5Ideal.S5

open Cert.Kernel5Ideal Cert.Kernel5Ideal.Gen Idealize.ShloMosaic Idealize.ShloMosaic.TcCoe Idealize.SL.Sem

/-- The zero offsets of a rank-2 access are the constant zero function. -/
theorem hz2 : (![0, 0] : Fin 2 → Nat) = fun _ => 0 := funext fun a => by fin_cases a <;> rfl

/-- A slab of the input matrix at an index. -/
theorem ld_in (X : Vec Ideal S512x2048 .bf16) (o p : ℕ) (inb : ∀ a : Fin S512x2048.rank, (![o, p] : Fin 2 → ℕ) a + S128x512.size a ≤ S512x2048.size a)
    (i : Fin 128) (j : Fin 512) (I : Fin 512) (J : Fin 2048) (hI : I.val = o + i.val) (hJ : J.val = p + j.val) :
    View.ld X (Rect.unit (s := S512x2048) ![o, p] S128x512.size inb) (ix2 i j) = X (ix2 I J) :=
  View.ld_unit_apply_of X _ _ _ _ _ (fun a => match a with | ⟨0, _⟩ => hI | ⟨1, _⟩ => hJ)

/-- A slab of the output matrix at an index. -/
theorem ld_out (X : Vec Ideal S2048x512 .bf16) (o p : ℕ) (inb : ∀ a : Fin S2048x512.rank, (![o, p] : Fin 2 → ℕ) a + S512x128.size a ≤ S2048x512.size a)
    (i : Fin 512) (j : Fin 128) (I : Fin 2048) (J : Fin 512) (hI : I.val = o + i.val) (hJ : J.val = p + j.val) :
    View.ld X (Rect.unit (s := S2048x512) ![o, p] S512x128.size inb) (ix2 i j) = X (ix2 I J) :=
  View.ld_unit_apply_of X _ _ _ _ _ (fun a => match a with | ⟨0, _⟩ => hI | ⟨1, _⟩ => hJ)

/-- The first row of the discretised poles at an index. -/
theorem ld_pole (X : Vec Ideal S8x2048 .f32) (inb : ∀ a : Fin S8x2048.rank, (![0, 0] : Fin 2 → ℕ) a + S1x2048.size a ≤ S8x2048.size a) (j : Fin 2048) :
    View.ld X (Rect.unit (s := S8x2048) ![0, 0] S1x2048.size inb) (ix2 0 j) = X (ix2 0 j) :=
  View.ld_unit_apply_of X _ _ _ _ _ (fun a => match a with | ⟨0, _⟩ => rfl | ⟨1, _⟩ => (Nat.zero_add _).symm)

/-- Row `r` of the inputs times the slab of the input matrix that holds column `j`. -/
def slabIn (x0 : Vec Ideal S128x512 .f32) (B : Vec Ideal S512x2048 .bf16) (r : Fin 128) (j : Fin 2048) : EReal :=
  ∑ i : Fin 128, x0 (ix2 r ⟨128 * (j.val / 512) + i.val, by omega⟩) * B (ix2 ⟨128 * (j.val / 512) + i.val, by omega⟩ j)

/-- One entry of the four products of the inputs, side by side. -/
theorem pay7_apply (x0 : Vec Ideal S128x512 .f32) (v11 v15 v19 v23 : Vec Ideal S128x512 .bf16) (r : Fin 128) (j : Fin 2048) :
    k0_pay7 x0 v11 v15 v19 v23 (ix2 r j) =
      if h : j.val < 512 then ∑ i : Fin 128, x0 (ix2 r ⟨i.val, by omega⟩) * v11 (ix2 i ⟨j.val, h⟩)
      else if h : j.val - 512 < 512 then ∑ i : Fin 128, x0 (ix2 r ⟨128 + i.val, by omega⟩) * v15 (ix2 i ⟨j.val - 512, h⟩)
      else if h : j.val - 512 - 512 < 512 then ∑ i : Fin 128, x0 (ix2 r ⟨256 + i.val, by omega⟩) * v19 (ix2 i ⟨j.val - 512 - 512, h⟩)
      else ∑ i : Fin 128, x0 (ix2 r ⟨384 + i.val, by omega⟩) * v23 (ix2 i ⟨j.val - 512 - 512 - 512, by omega⟩) := by
  pointwise [k0_pay7, k0_pay2]

/-- The four products of the inputs with the slabs of the input matrix, side by side, are its slab product. -/
theorem in_apply (x0 : Vec Ideal S128x512 .f32) (B : Vec Ideal S512x2048 .bf16) (r : Fin 128) (j : Fin 2048) :
    (if h : j.val < 512 then ∑ i : Fin 128, x0 (ix2 r ⟨i.val, by omega⟩) * View.ld B r0_3 (ix2 i ⟨j.val, h⟩)
      else if h : j.val - 512 < 512 then ∑ i : Fin 128, x0 (ix2 r ⟨128 + i.val, by omega⟩) * View.ld B r0_4 (ix2 i ⟨j.val - 512, h⟩)
      else if h : j.val - 512 - 512 < 512 then ∑ i : Fin 128, x0 (ix2 r ⟨256 + i.val, by omega⟩) * View.ld B r0_5 (ix2 i ⟨j.val - 512 - 512, h⟩)
      else ∑ i : Fin 128, x0 (ix2 r ⟨384 + i.val, by omega⟩) * View.ld B r0_6 (ix2 i ⟨j.val - 512 - 512 - 512, by omega⟩) : EReal)
      = slabIn x0 B r j := by
  have hj := j.isLt
  unfold slabIn
  split_ifs with h1 h2 h3
  all_goals refine Finset.sum_congr rfl fun i _ => congrArg₂ (· * ·) (congrArg (fun k : Fin 512 => x0 (ix2 r k)) (Fin.ext ?_)) (ld_in B _ _ _ i _ _ _ ?_ ?_)
  all_goals dsimp only
  all_goals omega

/-- One entry of the new state's real part. -/
def reAt (x0 : Vec Ideal S128x512 .f32) (x1 x2 : Vec Ideal S128x2048 .f32) (x3 : Vec Ideal S512x2048 .bf16) (x5 x6 : Vec Ideal S8x2048 .f32) (r : Fin 128) (j : Fin 2048) : EReal :=
  slabIn x0 x3 r j + x5 (ix2 0 j) * x1 (ix2 r j) - x6 (ix2 0 j) * x2 (ix2 r j)

/-- One entry of the new state's imaginary part. -/
def imAt (x0 : Vec Ideal S128x512 .f32) (x1 x2 : Vec Ideal S128x2048 .f32) (x4 : Vec Ideal S512x2048 .bf16) (x5 x6 : Vec Ideal S8x2048 .f32) (r : Fin 128) (j : Fin 2048) : EReal :=
  slabIn x0 x4 r j + x5 (ix2 0 j) * x2 (ix2 r j) + x6 (ix2 0 j) * x1 (ix2 r j)

/-- The real part of the new state that the kernel computes, at an index. -/
theorem re_apply (x0 : Vec Ideal S128x512 .f32) (x1 x2 : Vec Ideal S128x2048 .f32) (x3 : Vec Ideal S512x2048 .bf16) (x5 x6 : Vec Ideal S8x2048 .f32) (r : Fin 128) (j : Fin 2048) :
    k0_pay10 (k0_pay3 (View.ld x5 r0_1)) (k0_pay4 (View.ld x6 r0_1)) (k0_pay5 x1) (k0_pay6 x2)
      (k0_pay7 x0 (View.ld x3 r0_3) (View.ld x3 r0_4) (View.ld x3 r0_5) (View.ld x3 r0_6)) (ix2 r j) = reAt x0 x1 x2 x3 x5 x6 r j := by
  rw [reAt, ← in_apply, ← pay7_apply]
  pointwise [k0_pay10, k0_pay3, k0_pay4, k0_pay5, k0_pay6]

/-- The imaginary part of the new state that the kernel computes, at an index. -/
theorem im_apply (x0 : Vec Ideal S128x512 .f32) (x1 x2 : Vec Ideal S128x2048 .f32) (x4 : Vec Ideal S512x2048 .bf16) (x5 x6 : Vec Ideal S8x2048 .f32) (r : Fin 128) (j : Fin 2048) :
    k0_pay11 (k0_pay2 x0) (k0_pay3 (View.ld x5 r0_1)) (k0_pay4 (View.ld x6 r0_1)) (k0_pay5 x1) (k0_pay6 x2) (k0_pay8 x0 (View.ld x4 r0_3)) (k0_pay9 x0)
      (View.ld x4 r0_4) (View.ld x4 r0_5) (View.ld x4 r0_6) (ix2 r j) = imAt x0 x1 x2 x4 x5 x6 r j := by
  rw [imAt, ← in_apply]
  pointwise [k0_pay11, k0_pay2, k0_pay3, k0_pay4, k0_pay5, k0_pay6, k0_pay8, k0_pay9]

/-- What the point leaves in the block of the real parts. -/
theorem out13_apply (x0 : Vec Ideal S128x512 .f32) (x1 x2 : Vec Ideal S128x2048 .f32) (x3 x4 : Vec Ideal S512x2048 .bf16) (x5 x6 : Vec Ideal S8x2048 .f32) (x7 x8 : Vec Ideal S2048x512 .bf16) (x9 : Vec Ideal S1x512 .f32) (x10 : Vec Ideal S512x512 .bf16) (x11 : Vec Ideal S1x512 .f32) (r : Fin 128) (j : Fin 2048) :
    out0_13 x0 x1 x2 x3 x4 x5 x6 x7 x8 x9 x10 x11 (ix2 r j) = reAt x0 x1 x2 x3 x5 x6 r j := by
  unfold_out out0_13
  rw [View.canon_unit_zero hz2, View.ld_unit_zero (S := S128x512) hz2, View.ld_unit_zero (S := S128x2048) hz2, View.ld_unit_zero (S := S128x2048) hz2]
  exact re_apply x0 x1 x2 x3 x5 x6 r j

/-- What the point leaves in the block of the imaginary parts. -/
theorem out14_apply (x0 : Vec Ideal S128x512 .f32) (x1 x2 : Vec Ideal S128x2048 .f32) (x3 x4 : Vec Ideal S512x2048 .bf16) (x5 x6 : Vec Ideal S8x2048 .f32) (x7 x8 : Vec Ideal S2048x512 .bf16) (x9 : Vec Ideal S1x512 .f32) (x10 : Vec Ideal S512x512 .bf16) (x11 : Vec Ideal S1x512 .f32) (r : Fin 128) (j : Fin 2048) :
    out0_14 x0 x1 x2 x3 x4 x5 x6 x7 x8 x9 x10 x11 (ix2 r j) = imAt x0 x1 x2 x4 x5 x6 r j := by
  unfold_out out0_14
  rw [View.canon_unit_zero hz2, View.ld_unit_zero (S := S128x512) hz2, View.ld_unit_zero (S := S128x2048) hz2, View.ld_unit_zero (S := S128x2048) hz2]
  exact im_apply x0 x1 x2 x4 x5 x6 r j

end Cert.Kernel5Ideal.S5

end
-- ==== Proof.S5Tail.lean ====
/-
  What the S5 step of the samples leaves in its row block: the gated output over the new state, read at an index.
-/
module

public import proofs.«01_k».proof.Proof.S5Block

@[expose] public section

set_option maxRecDepth 16384

noncomputable section

namespace Cert.Kernel5Ideal.S5

open Cert.Kernel5Ideal Cert.Kernel5Ideal.Gen Idealize.ShloMosaic Idealize.ShloMosaic.TcCoe Idealize.SL.Sem

/-- Row `r` of a state times the slab of the output matrix that holds column `j`. -/
def slabOut (s : Fin 2048 → EReal) (C : Vec Ideal S2048x512 .bf16) (j : Fin 512) : EReal :=
  ∑ i : Fin 512, s ⟨512 * (j.val / 128) + i.val, by omega⟩ * C (ix2 ⟨512 * (j.val / 128) + i.val, by omega⟩ j)

/-- The four differences of products side by side, plus the skip term, at an index. -/
theorem pay16_apply (v0 : Vec Ideal S128x512 .f32) (v58 v59 : FVec Ideal S128x2048 .bf16) (v68 : FVec Ideal S128x128 .f32) (v69 : FVec Ideal S128x512 .bf16)
    (v70 v74 v79 v83 v88 v92 : Vec Ideal S512x128 .bf16) (v97 : Vec Ideal S1x512 .f32) (r : Fin 128) (j : Fin 512) :
    k0_pay16 v0 v58 v59 v68 v69 v70 v74 v79 v83 v88 v92 v97 (ix2 r j) =
      (if h : j.val < 128 then v68 (ix2 r ⟨j.val, h⟩)
      else if h : j.val - 128 < 128 then (∑ i : Fin 512, v69 (ix2 r i) * v70 (ix2 i ⟨j.val - 128, h⟩)) - ∑ i : Fin 512, v59 (ix2 r ⟨512 + i.val, by omega⟩) * v74 (ix2 i ⟨j.val - 128, h⟩)
      else if h : j.val - 128 - 128 < 128 then (∑ i : Fin 512, v58 (ix2 r ⟨1024 + i.val, by omega⟩) * v79 (ix2 i ⟨j.val - 128 - 128, h⟩)) - ∑ i : Fin 512, v59 (ix2 r ⟨1024 + i.val, by omega⟩) * v83 (ix2 i ⟨j.val - 128 - 128, h⟩)
      else (∑ i : Fin 512, v58 (ix2 r ⟨1536 + i.val, by omega⟩) * v88 (ix2 i ⟨j.val - 128 - 128 - 128, by omega⟩)) - ∑ i : Fin 512, v59 (ix2 r ⟨1536 + i.val, by omega⟩) * v92 (ix2 i ⟨j.val - 128 - 128 - 128, by omega⟩))
      + v97 (ix2 0 j) * v0 (ix2 r j) := by
  pointwise [k0_pay16]

/-- The first difference of products at an index. -/
theorem pay14_apply (v1 : FVec Ideal S128x512 .bf16) (v3 v5 : FVec Ideal S1x2048 .f32) (v7 v9 v26 : FVec Ideal S128x2048 .f32) (v30 : FVec Ideal S128x512 .f32) (v31 : FVec Ideal S128x128 .bf16)
    (v32 v36 v40 : Vec Ideal S128x512 .bf16) (v61 v65 : Vec Ideal S512x128 .bf16) (r : Fin 128) (j : Fin 128) :
    k0_pay14 v1 v3 v5 v7 v9 v26 v30 v31 v32 v36 v40 v61 v65 (ix2 r j) =
      (∑ i : Fin 512, k0_pay10 v3 v5 v7 v9 v26 (ix2 r ⟨i.val, by omega⟩) * v61 (ix2 i j)) - ∑ i : Fin 512, k0_pay11 v1 v3 v5 v7 v9 v30 v31 v32 v36 v40 (ix2 r ⟨i.val, by omega⟩) * v65 (ix2 i j) := by
  pointwise [k0_pay14, k0_pay12, k0_pay13]

/-- The four differences of slab products are the difference of the slab products. -/
theorem out_slab (f g : Fin 2048 → EReal) (C D : Vec Ideal S2048x512 .bf16) (j : Fin 512) :
    (if h : j.val < 128 then (∑ i : Fin 512, f ⟨i.val, by omega⟩ * View.ld C r0_7 (ix2 i ⟨j.val, h⟩)) - ∑ i : Fin 512, g ⟨i.val, by omega⟩ * View.ld D r0_7 (ix2 i ⟨j.val, h⟩)
      else if h : j.val - 128 < 128 then (∑ i : Fin 512, f ⟨512 + i.val, by omega⟩ * View.ld C r0_8 (ix2 i ⟨j.val - 128, h⟩)) - ∑ i : Fin 512, g ⟨512 + i.val, by omega⟩ * View.ld D r0_8 (ix2 i ⟨j.val - 128, h⟩)
      else if h : j.val - 128 - 128 < 128 then (∑ i : Fin 512, f ⟨1024 + i.val, by omega⟩ * View.ld C r0_9 (ix2 i ⟨j.val - 128 - 128, h⟩)) - ∑ i : Fin 512, g ⟨1024 + i.val, by omega⟩ * View.ld D r0_9 (ix2 i ⟨j.val - 128 - 128, h⟩)
      else (∑ i : Fin 512, f ⟨1536 + i.val, by omega⟩ * View.ld C r0_10 (ix2 i ⟨j.val - 128 - 128 - 128, by omega⟩)) - ∑ i : Fin 512, g ⟨1536 + i.val, by omega⟩ * View.ld D r0_10 (ix2 i ⟨j.val - 128 - 128 - 128, by omega⟩) : EReal)
      = slabOut f C j - slabOut g D j := by
  have hj := j.isLt
  unfold slabOut
  split_ifs with h1 h2 h3
  all_goals refine congrArg₂ (· - ·) ?_ ?_
  all_goals refine Finset.sum_congr rfl fun i _ => congrArg₂ (· * ·) (congrArg _ (Fin.ext ?_)) (ld_out _ _ _ _ i _ _ _ ?_ ?_)
  all_goals dsimp only
  all_goals omega

/-- The mixer's output before its activation, at an index. -/
def yAt (x0 : Vec Ideal S128x512 .f32) (x1 x2 : Vec Ideal S128x2048 .f32) (x3 x4 : Vec Ideal S512x2048 .bf16) (x5 x6 : Vec Ideal S8x2048 .f32) (x7 x8 : Vec Ideal S2048x512 .bf16) (x9 : Vec Ideal S1x512 .f32) (r : Fin 128) (j : Fin 512) : EReal :=
  slabOut (reAt x0 x1 x2 x3 x5 x6 r) x7 j - slabOut (imAt x0 x1 x2 x4 x5 x6 r) x8 j + x9 (ix2 0 j) * x0 (ix2 r j)

/-- The kernel's value before the activation, at an index. -/
theorem y_apply (x0 : Vec Ideal S128x512 .f32) (x1 x2 : Vec Ideal S128x2048 .f32) (x3 x4 : Vec Ideal S512x2048 .bf16) (x5 x6 : Vec Ideal S8x2048 .f32) (x7 x8 : Vec Ideal S2048x512 .bf16) (x9 : Vec Ideal S1x512 .f32) (x10 : Vec Ideal S512x512 .bf16) (x11 : Vec Ideal S1x512 .f32) (r : Fin 128) (j : Fin 512) :
    k0_pay16 (View.ld x0 r0_0) (k0_pay28 (F := Ideal) x0 x1 x2 x3 x4 x5 x6 x7 x8 x9 x10 x11) (k0_pay29 (F := Ideal) x0 x1 x2 x3 x4 x5 x6 x7 x8 x9 x10 x11) (k0_pay30 (F := Ideal) x0 x1 x2 x3 x4 x5 x6 x7 x8 x9 x10 x11) (k0_pay31 (F := Ideal) x0 x1 x2 x3 x4 x5 x6 x7 x8 x9 x10 x11) (View.ld x7 r0_8) (View.ld x8 r0_8) (View.ld x7 r0_9) (View.ld x8 r0_9) (View.ld x7 r0_10) (View.ld x8 r0_10) (View.ld x9 r0_11) (ix2 r j)
      = yAt x0 x1 x2 x3 x4 x5 x6 x7 x8 x9 r j := by
  have e58 : ∀ k, k0_pay28 (F := Ideal) x0 x1 x2 x3 x4 x5 x6 x7 x8 x9 x10 x11 (ix2 r k) = reAt x0 x1 x2 x3 x5 x6 r k := fun k =>
    by have e := out13_apply x0 x1 x2 x3 x4 x5 x6 x7 x8 x9 x10 x11 r k; unfold out0_13 at e; rwa [View.canon_unit_zero hz2] at e
  have e59 : ∀ k, k0_pay29 (F := Ideal) x0 x1 x2 x3 x4 x5 x6 x7 x8 x9 x10 x11 (ix2 r k) = imAt x0 x1 x2 x4 x5 x6 r k := fun k =>
    by have e := out14_apply x0 x1 x2 x3 x4 x5 x6 x7 x8 x9 x10 x11 r k; unfold out0_14 at e; rwa [View.canon_unit_zero hz2] at e
  have e69 : ∀ k : Fin 512, k0_pay31 (F := Ideal) x0 x1 x2 x3 x4 x5 x6 x7 x8 x9 x10 x11 (ix2 r k) = reAt x0 x1 x2 x3 x5 x6 r ⟨512 + k.val, by omega⟩ := fun k => by
    rw [← e58]
    pointwise [k0_pay31, k0_pay15]
    rfl
  have e68 : ∀ k : Fin 128, k0_pay30 (F := Ideal) x0 x1 x2 x3 x4 x5 x6 x7 x8 x9 x10 x11 (ix2 r k)
      = (∑ i : Fin 512, reAt x0 x1 x2 x3 x5 x6 r ⟨i.val, by omega⟩ * View.ld x7 r0_7 (ix2 i k)) - ∑ i : Fin 512, imAt x0 x1 x2 x4 x5 x6 r ⟨i.val, by omega⟩ * View.ld x8 r0_7 (ix2 i k) := fun k => by
    simp only [← e58, ← e59]
    exact pay14_apply _ _ _ _ _ _ _ _ _ _ _ _ _ r k
  rw [pay16_apply, View.ld_unit_zero (S := S128x512) hz2, View.ld_unit_zero (S := S1x512) hz2]
  simp only [e58, e59, e68, e69]
  rw [out_slab]
  rfl

/-- The tanh form of the activation. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The gated output at an index: the activation times the logistic of its product with the gate's weight. -/
def tailAt (y : Fin 512 → EReal) (W : Fin 512 → Fin 512 → EReal) (b : Fin 512 → EReal) (j : Fin 512) : EReal :=
  gelu (y j) * Ideal.logistic ((∑ k, gelu (y k) * W k j) + b j)

/-- What the point leaves in the row block. -/
theorem out12_apply (x0 : Vec Ideal S128x512 .f32) (x1 x2 : Vec Ideal S128x2048 .f32) (x3 x4 : Vec Ideal S512x2048 .bf16) (x5 x6 : Vec Ideal S8x2048 .f32) (x7 x8 : Vec Ideal S2048x512 .bf16) (x9 : Vec Ideal S1x512 .f32) (x10 : Vec Ideal S512x512 .bf16) (x11 : Vec Ideal S1x512 .f32) (r : Fin 128) (j : Fin 512) :
    out0_12 x0 x1 x2 x3 x4 x5 x6 x7 x8 x9 x10 x11 (ix2 r j)
      = tailAt (yAt x0 x1 x2 x3 x4 x5 x6 x7 x8 x9 r) (fun k j => x10 (ix2 k j)) (fun j => x11 (ix2 0 j)) j := by
  have hy := y_apply x0 x1 x2 x3 x4 x5 x6 x7 x8 x9 x10 x11 r
  unfold out0_12
  rw [View.canon_unit_zero hz2]
  unfold k0_pay17 k0_pay18
  revert hy
  generalize k0_pay16 (F := Ideal) _ _ _ _ _ _ _ _ _ _ _ _ = Y
  intro hy
  rw [View.ld_unit_zero (S := S1x512) hz2, View.ld_unit_zero (S := S512x512) hz2]
  pointwise [k0_pay1, k0_pay19]
  simp only [hy]
  rfl

end Cert.Kernel5Ideal.S5

end
-- ==== Proof.S5Reads.lean ====
/-
  The S5 step's arrays at region entry, read at an index over the argument arrays: the flattened states, the first
  power of the pole, the block-diagonal matrices, the skip and the gate.
-/
module

public import proofs.«01_k».proof.Proof.S5Tail
public import Idealize.ShloMosaic.Lib.StableHlo.ReadAt

@[expose] public section

set_option maxRecDepth 16384

noncomputable section

namespace Cert.Kernel5Ideal.S5

open Cert.Kernel5Ideal Cert.Kernel5Ideal.Gen Idealize.ShloMosaic Idealize.ShloMosaic.TcCoe Idealize.SL.Sem

variable (m : (ℓ : Loc nD τ sig) → Buf (Elt Ideal) ℓ)

/-- The comparison of the two counters of the identity matrix. -/
theorem cmp_eye : ∀ a b : Fin 32, IntOp.cmpi CmpIPredicate.eq (IntOp.addi (BitVec.ofNat 32 a.val) 0#32) (BitVec.ofNat 32 b.val) = if a = b then 1#1 else 0#1 := by decide +kernel

/-- An entry of the identity matrix, as the host builds it, is one on the diagonal and zero elsewhere. -/
theorem eye (a b : Nat) (ha : a < 32) (hb : b < 32) :
    (FloatOps.uitofp (F := Ideal) FTy.f32 (IntOp.cmpi CmpIPredicate.eq (IntOp.addi (BitVec.ofNat 32 a) 0#32) (BitVec.ofNat 32 b)) : EReal) = if a = b then 1 else 0 := by
  rw [cmp_eye ⟨a, ha⟩ ⟨b, hb⟩]
  by_cases h : a = b
  · rw [if_pos (Fin.ext h), if_pos h]
    show (((1 : ℕ) : ℝ) : EReal) = 1
    norm_num
  · rw [if_neg (fun e => h (congrArg Fin.val e)), if_neg h]
    show (((0 : ℕ) : ℝ) : EReal) = 0
    norm_num

/-- The sample rows' columns of the projection that the mixer takes. -/
abbrev pAt (c : Dev nD) (r : Fin 128) (k : Fin 512) : EReal := m ((c : Thread nD τ).loc main_arg0) (ix2 ⟨8448 + r.val, by omega⟩ ⟨1536 + k.val, by omega⟩)

/-- The real part of a state. -/
abbrev srAt (c : Dev nD) (r : Fin 128) (g : Fin 32) (n : Fin 64) : EReal := m ((c : Thread nD τ).loc main_arg1) (ix4 1 r g n)

/-- The imaginary part of a state. -/
abbrev siAt (c : Dev nD) (r : Fin 128) (g : Fin 32) (n : Fin 64) : EReal := m ((c : Thread nD τ).loc main_arg2) (ix4 1 r g n)

/-- The real part of the pole. -/
abbrev lrAt (c : Dev nD) (g : Fin 32) (n : Fin 64) : EReal := m ((c : Thread nD τ).loc main_arg3) (ix3 0 g n)

/-- The imaginary part of the pole. -/
abbrev liAt (c : Dev nD) (g : Fin 32) (n : Fin 64) : EReal := m ((c : Thread nD τ).loc main_arg4) (ix3 0 g n)

/-- The real part of the input matrix. -/
abbrev brAt (c : Dev nD) (g : Fin 32) (k : Fin 16) (n : Fin 64) : EReal := m ((c : Thread nD τ).loc main_arg5) (ix3 g k n)

/-- The imaginary part of the input matrix. -/
abbrev biAt (c : Dev nD) (g : Fin 32) (k : Fin 16) (n : Fin 64) : EReal := m ((c : Thread nD τ).loc main_arg6) (ix3 g k n)

/-- The real part of the output matrix. -/
abbrev crAt (c : Dev nD) (g : Fin 32) (k : Fin 16) (n : Fin 64) : EReal := m ((c : Thread nD τ).loc main_arg7) (ix4 1 g k n)

/-- The imaginary part of the output matrix. -/
abbrev ciAt (c : Dev nD) (g : Fin 32) (k : Fin 16) (n : Fin 64) : EReal := m ((c : Thread nD τ).loc main_arg8) (ix4 1 g k n)

/-- The skip. -/
abbrev dAt (c : Dev nD) (g : Fin 32) (k : Fin 16) : EReal := m ((c : Thread nD τ).loc main_arg9) (ix3 1 g k)

/-- The gate's weight. -/
abbrev wAt (c : Dev nD) (k j : Fin 512) : EReal := m ((c : Thread nD τ).loc main_arg10) (ix3 1 k j)

/-- The gate's bias. -/
abbrev gAt (c : Dev nD) (j : Fin 512) : EReal := m ((c : Thread nD τ).loc main_arg11) (ix2 1 j)

set_option maxHeartbeats 1600000 in
/-- The flattened real parts of the states. -/
theorem V_sr (c : Dev nD) (r : Fin 128) (j : Fin 2048) : (V m c main_v71 : Vec Ideal S128x2048 .f32) (ix2 r j) = srAt m c r ⟨j.val / 64, by omega⟩ ⟨j.val % 64, Nat.mod_lt _ (by decide)⟩ := by
  unfold V
  after_reads_at

set_option maxHeartbeats 1600000 in
/-- The flattened imaginary parts of the states. -/
theorem V_si (c : Dev nD) (r : Fin 128) (j : Fin 2048) : (V m c main_v74 : Vec Ideal S128x2048 .f32) (ix2 r j) = siAt m c r ⟨j.val / 64, by omega⟩ ⟨j.val % 64, Nat.mod_lt _ (by decide)⟩ := by
  unfold V
  after_reads_at

set_option maxHeartbeats 1600000 in
/-- The flattened real parts of the pole. -/
theorem V_lr (c : Dev nD) (j : Fin 2048) : (V m c main_v26 : Vec Ideal S8x2048 .f32) (ix2 0 j) = lrAt m c ⟨j.val / 64, by omega⟩ ⟨j.val % 64, Nat.mod_lt _ (by decide)⟩ := by
  unfold V
  after_reads_at

set_option maxHeartbeats 1600000 in
/-- The flattened imaginary parts of the pole. -/
theorem V_li (c : Dev nD) (j : Fin 2048) : (V m c main_v27 : Vec Ideal S8x2048 .f32) (ix2 0 j) = liAt m c ⟨j.val / 64, by omega⟩ ⟨j.val % 64, Nat.mod_lt _ (by decide)⟩ := by
  unfold V
  after_reads_at

set_option maxHeartbeats 1600000 in
/-- The flattened skip. -/
theorem V_d (c : Dev nD) (j : Fin 512) : (V m c main_v62 : Vec Ideal S1x512 .f32) (ix2 0 j) = dAt m c ⟨j.val / 16, by omega⟩ ⟨j.val % 16, Nat.mod_lt _ (by decide)⟩ := by
  unfold V
  after_reads_at

set_option maxHeartbeats 1600000 in
/-- The gate's weight of the last layer. -/
theorem V_w (c : Dev nD) (k j : Fin 512) : (V m c main_v65 : Vec Ideal S512x512 .bf16) (ix2 k j) = wAt m c k j := by
  unfold V
  after_reads_at

set_option maxHeartbeats 1600000 in
/-- The gate's bias of the last layer. -/
theorem V_g (c : Dev nD) (j : Fin 512) : (V m c main_v68 : Vec Ideal S1x512 .f32) (ix2 0 j) = gAt m c j := by
  unfold V
  after_reads_at

set_option maxHeartbeats 1600000 in
/-- The block-diagonal input matrix, real part. -/
theorem V_br (c : Dev nD) (k : Fin 512) (j : Fin 2048) : (V m c main_v12 : Vec Ideal S512x2048 .bf16) (ix2 k j) = (if k.val / 16 = j.val / 64 then 1 else 0) * brAt m c ⟨k.val / 16, by omega⟩ ⟨k.val % 16, Nat.mod_lt _ (by decide)⟩ ⟨j.val % 64, Nat.mod_lt _ (by decide)⟩ := by
  unfold V
  after_reads_at
  exact congrArg₂ (· * ·) (eye (k.val / 16) (j.val / 64) (by omega) (by omega)) rfl

set_option maxHeartbeats 1600000 in
/-- The block-diagonal input matrix, imaginary part. -/
theorem V_bi (c : Dev nD) (k : Fin 512) (j : Fin 2048) : (V m c main_v25 : Vec Ideal S512x2048 .bf16) (ix2 k j) = (if k.val / 16 = j.val / 64 then 1 else 0) * biAt m c ⟨k.val / 16, by omega⟩ ⟨k.val % 16, Nat.mod_lt _ (by decide)⟩ ⟨j.val % 64, Nat.mod_lt _ (by decide)⟩ := by
  unfold V
  after_reads_at
  exact congrArg₂ (· * ·) (eye (k.val / 16) (j.val / 64) (by omega) (by omega)) rfl

set_option maxHeartbeats 1600000 in
/-- The block-diagonal output matrix, real part. -/
theorem V_cr (c : Dev nD) (k : Fin 2048) (j : Fin 512) : (V m c main_v43 : Vec Ideal S2048x512 .bf16) (ix2 k j) = (if k.val / 64 = j.val / 16 then 1 else 0) * crAt m c ⟨k.val / 64, by omega⟩ ⟨j.val % 16, Nat.mod_lt _ (by decide)⟩ ⟨k.val % 64, Nat.mod_lt _ (by decide)⟩ := by
  unfold V
  after_reads_at
  exact congrArg₂ (· * ·) (eye (k.val / 64) (j.val / 16) (by omega) (by omega)) rfl

set_option maxHeartbeats 1600000 in
/-- The block-diagonal output matrix, imaginary part. -/
theorem V_ci (c : Dev nD) (k : Fin 2048) (j : Fin 512) : (V m c main_v59 : Vec Ideal S2048x512 .bf16) (ix2 k j) = (if k.val / 64 = j.val / 16 then 1 else 0) * ciAt m c ⟨k.val / 64, by omega⟩ ⟨j.val % 16, Nat.mod_lt _ (by decide)⟩ ⟨k.val % 64, Nat.mod_lt _ (by decide)⟩ := by
  unfold V
  after_reads_at
  exact congrArg₂ (· * ·) (eye (k.val / 64) (j.val / 16) (by omega) (by omega)) rfl

end Cert.Kernel5Ideal.S5

end
-- ==== Proof.S5Array.lean ====
/-
  The S5 step's result arrays at an index, over the argument arrays.
-/
module

public import proofs.«01_k».proof.Proof.S5Reads
public import proofs.«01_k».proof.Proof.Gen.Kernel5Ideal.Value
public import proofs.«01_k».proof.Proof.S5Math

@[expose] public section

set_option maxRecDepth 16384

noncomputable section

namespace Cert.Kernel5Ideal.S5

open Cert.Kernel5Ideal Cert.Kernel5Ideal.Gen Idealize.ShloMosaic Idealize.ShloMosaic.TcCoe Idealize.SL.Sem

variable (m : (ℓ : Loc nD τ sig) → Buf (Elt Ideal) ℓ)

/-- The block indices of the windows at the one point: the sample rows' block of the projection, everything else whole. -/
theorem idx_facts : ∀ t : Fin cfg0.N,
    (win0_0.index t 0 = 66 ∧ win0_0.index t 1 = 3) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) ∧ (win0_14.index t 0 = 0 ∧ win0_14.index t 1 = 0) :=
  (by decide +kernel : ∀ t : Fin grid0.N, _)

/-- The block of the projection's sample rows at an index. -/
theorem blk0 (c : Dev nD) (t : Fin cfg0.N) (r : Fin 128) (k : Fin 512) : (iblk m c 0 t : Vec Ideal S128x512 .f32) (ix2 r k) = pAt m c r k := by
  obtain ⟨⟨h0, h1⟩, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 128 + 1 * r.val = 8448 + r.val; rw [h0]; omega
  | ⟨1, _⟩ => show win0_0.index t 1 * 512 + 1 * k.val = 1536 + k.val; rw [h1]; omega

/-- Window 1's block is its whole array. -/
theorem blk1 (c : Dev nD) (t : Fin cfg0.N) (r : Fin 128) (k : Fin 2048) : (iblk m c 1 t : Vec Ideal S128x2048 .f32) (ix2 r k) = (V m c main_v71 : Vec Ideal S128x2048 .f32) (ix2 r k) := by
  obtain ⟨-, ⟨h0, h1⟩, -⟩ := idx_facts t
  unfold iblk
  rw [View.read_apply]
  show V m c main_v71 _ = V m c main_v71 _
  congr 1
  funext a
  apply Fin.ext
  match a with
  | ⟨0, _⟩ => show win0_1.index t 0 * 128 + 1 * r.val = r.val; rw [h0]; omega
  | ⟨1, _⟩ => show win0_1.index t 1 * 2048 + 1 * k.val = k.val; rw [h1]; omega

/-- Window 2's block is its whole array. -/
theorem blk2 (c : Dev nD) (t : Fin cfg0.N) (r : Fin 128) (k : Fin 2048) : (iblk m c 2 t : Vec Ideal S128x2048 .f32) (ix2 r k) = (V m c main_v74 : Vec Ideal S128x2048 .f32) (ix2 r k) := by
  obtain ⟨-, -, ⟨h0, h1⟩, -⟩ := idx_facts t
  unfold iblk
  rw [View.read_apply]
  show V m c main_v74 _ = V m c main_v74 _
  congr 1
  funext a
  apply Fin.ext
  match a with
  | ⟨0, _⟩ => show win0_2.index t 0 * 128 + 1 * r.val = r.val; rw [h0]; omega
  | ⟨1, _⟩ => show win0_2.index t 1 * 2048 + 1 * k.val = k.val; rw [h1]; omega

/-- Window 3's block is its whole array. -/
theorem blk3 (c : Dev nD) (t : Fin cfg0.N) (r : Fin 512) (k : Fin 2048) : (iblk m c 3 t : Vec Ideal S512x2048 .bf16) (ix2 r k) = (V m c main_v12 : Vec Ideal S512x2048 .bf16) (ix2 r k) := by
  obtain ⟨-, -, -, ⟨h0, h1⟩, -⟩ := idx_facts t
  unfold iblk
  rw [View.read_apply]
  show V m c main_v12 _ = V m c main_v12 _
  congr 1
  funext a
  apply Fin.ext
  match a with
  | ⟨0, _⟩ => show win0_3.index t 0 * 512 + 1 * r.val = r.val; rw [h0]; omega
  | ⟨1, _⟩ => show win0_3.index t 1 * 2048 + 1 * k.val = k.val; rw [h1]; omega

/-- Window 4's block is its whole array. -/
theorem blk4 (c : Dev nD) (t : Fin cfg0.N) (r : Fin 512) (k : Fin 2048) : (iblk m c 4 t : Vec Ideal S512x2048 .bf16) (ix2 r k) = (V m c main_v25 : Vec Ideal S512x2048 .bf16) (ix2 r k) := by
  obtain ⟨-, -, -, -, ⟨h0, h1⟩, -⟩ := idx_facts t
  unfold iblk
  rw [View.read_apply]
  show V m c main_v25 _ = V m c main_v25 _
  congr 1
  funext a
  apply Fin.ext
  match a with
  | ⟨0, _⟩ => show win0_4.index t 0 * 512 + 1 * r.val = r.val; rw [h0]; omega
  | ⟨1, _⟩ => show win0_4.index t 1 * 2048 + 1 * k.val = k.val; rw [h1]; omega

/-- Window 5's block is its whole array. -/
theorem blk5 (c : Dev nD) (t : Fin cfg0.N) (r : Fin 8) (k : Fin 2048) : (iblk m c 5 t : Vec Ideal S8x2048 .f32) (ix2 r k) = (V m c main_v26 : Vec Ideal S8x2048 .f32) (ix2 r k) := by
  obtain ⟨-, -, -, -, -, ⟨h0, h1⟩, -⟩ := idx_facts t
  unfold iblk
  rw [View.read_apply]
  show V m c main_v26 _ = V m c main_v26 _
  congr 1
  funext a
  apply Fin.ext
  match a with
  | ⟨0, _⟩ => show win0_5.index t 0 * 8 + 1 * r.val = r.val; rw [h0]; omega
  | ⟨1, _⟩ => show win0_5.index t 1 * 2048 + 1 * k.val = k.val; rw [h1]; omega

/-- Window 6's block is its whole array. -/
theorem blk6 (c : Dev nD) (t : Fin cfg0.N) (r : Fin 8) (k : Fin 2048) : (iblk m c 6 t : Vec Ideal S8x2048 .f32) (ix2 r k) = (V m c main_v27 : Vec Ideal S8x2048 .f32) (ix2 r k) := by
  obtain ⟨-, -, -, -, -, -, ⟨h0, h1⟩, -⟩ := idx_facts t
  unfold iblk
  rw [View.read_apply]
  show V m c main_v27 _ = V m c main_v27 _
  congr 1
  funext a
  apply Fin.ext
  match a with
  | ⟨0, _⟩ => show win0_6.index t 0 * 8 + 1 * r.val = r.val; rw [h0]; omega
  | ⟨1, _⟩ => show win0_6.index t 1 * 2048 + 1 * k.val = k.val; rw [h1]; omega

/-- Window 7's block is its whole array. -/
theorem blk7 (c : Dev nD) (t : Fin cfg0.N) (r : Fin 2048) (k : Fin 512) : (iblk m c 7 t : Vec Ideal S2048x512 .bf16) (ix2 r k) = (V m c main_v43 : Vec Ideal S2048x512 .bf16) (ix2 r k) := by
  obtain ⟨-, -, -, -, -, -, -, ⟨h0, h1⟩, -⟩ := idx_facts t
  unfold iblk
  rw [View.read_apply]
  show V m c main_v43 _ = V m c main_v43 _
  congr 1
  funext a
  apply Fin.ext
  match a with
  | ⟨0, _⟩ => show win0_7.index t 0 * 2048 + 1 * r.val = r.val; rw [h0]; omega
  | ⟨1, _⟩ => show win0_7.index t 1 * 512 + 1 * k.val = k.val; rw [h1]; omega

/-- Window 8's block is its whole array. -/
theorem blk8 (c : Dev nD) (t : Fin cfg0.N) (r : Fin 2048) (k : Fin 512) : (iblk m c 8 t : Vec Ideal S2048x512 .bf16) (ix2 r k) = (V m c main_v59 : Vec Ideal S2048x512 .bf16) (ix2 r k) := by
  obtain ⟨-, -, -, -, -, -, -, -, ⟨h0, h1⟩, -⟩ := idx_facts t
  unfold iblk
  rw [View.read_apply]
  show V m c main_v59 _ = V m c main_v59 _
  congr 1
  funext a
  apply Fin.ext
  match a with
  | ⟨0, _⟩ => show win0_8.index t 0 * 2048 + 1 * r.val = r.val; rw [h0]; omega
  | ⟨1, _⟩ => show win0_8.index t 1 * 512 + 1 * k.val = k.val; rw [h1]; omega

/-- Window 9's block is its whole array. -/
theorem blk9 (c : Dev nD) (t : Fin cfg0.N) (r : Fin 1) (k : Fin 512) : (iblk m c 9 t : Vec Ideal S1x512 .f32) (ix2 r k) = (V m c main_v62 : Vec Ideal S1x512 .f32) (ix2 r k) := by
  obtain ⟨-, -, -, -, -, -, -, -, -, ⟨h0, h1⟩, -⟩ := idx_facts t
  unfold iblk
  rw [View.read_apply]
  show V m c main_v62 _ = V m c main_v62 _
  congr 1
  funext a
  apply Fin.ext
  match a with
  | ⟨0, _⟩ => show win0_9.index t 0 * 1 + 1 * r.val = r.val; rw [h0]; omega
  | ⟨1, _⟩ => show win0_9.index t 1 * 512 + 1 * k.val = k.val; rw [h1]; omega

/-- Window 10's block is its whole array. -/
theorem blk10 (c : Dev nD) (t : Fin cfg0.N) (r : Fin 512) (k : Fin 512) : (iblk m c 10 t : Vec Ideal S512x512 .bf16) (ix2 r k) = (V m c main_v65 : Vec Ideal S512x512 .bf16) (ix2 r k) := by
  obtain ⟨-, -, -, -, -, -, -, -, -, -, ⟨h0, h1⟩, -⟩ := idx_facts t
  unfold iblk
  rw [View.read_apply]
  show V m c main_v65 _ = V m c main_v65 _
  congr 1
  funext a
  apply Fin.ext
  match a with
  | ⟨0, _⟩ => show win0_10.index t 0 * 512 + 1 * r.val = r.val; rw [h0]; omega
  | ⟨1, _⟩ => show win0_10.index t 1 * 512 + 1 * k.val = k.val; rw [h1]; omega

/-- Window 11's block is its whole array. -/
theorem blk11 (c : Dev nD) (t : Fin cfg0.N) (r : Fin 1) (k : Fin 512) : (iblk m c 11 t : Vec Ideal S1x512 .f32) (ix2 r k) = (V m c main_v68 : Vec Ideal S1x512 .f32) (ix2 r k) := by
  obtain ⟨-, -, -, -, -, -, -, -, -, -, -, ⟨h0, h1⟩, -⟩ := idx_facts t
  unfold iblk
  rw [View.read_apply]
  show V m c main_v68 _ = V m c main_v68 _
  congr 1
  funext a
  apply Fin.ext
  match a with
  | ⟨0, _⟩ => show win0_11.index t 0 * 1 + 1 * r.val = r.val; rw [h0]; omega
  | ⟨1, _⟩ => show win0_11.index t 1 * 512 + 1 * k.val = k.val; rw [h1]; omega

/-- The real part of the new state of one pole: the inputs through the input matrix plus the pole times the state. -/
def reM (c : Dev nD) (r : Fin 128) (g : Fin 32) (n : Fin 64) : EReal :=
  (∑ x : Fin 16, pAt m c r ⟨16 * g.val + x.val, by omega⟩ * brAt m c g x n) + lrAt m c g n * srAt m c r g n - liAt m c g n * siAt m c r g n

/-- The imaginary part of the new state of one pole. -/
def imM (c : Dev nD) (r : Fin 128) (g : Fin 32) (n : Fin 64) : EReal :=
  (∑ x : Fin 16, pAt m c r ⟨16 * g.val + x.val, by omega⟩ * biAt m c g x n) + lrAt m c g n * siAt m c r g n + liAt m c g n * srAt m c r g n

/-- The mixer's output before its activation. -/
def yM (c : Dev nD) (r : Fin 128) (j : Fin 512) : EReal :=
  (∑ n : Fin 64, reM m c r ⟨j.val / 16, by omega⟩ n * crAt m c ⟨j.val / 16, by omega⟩ ⟨j.val % 16, Nat.mod_lt _ (by decide)⟩ n)
    - (∑ n : Fin 64, imM m c r ⟨j.val / 16, by omega⟩ n * ciAt m c ⟨j.val / 16, by omega⟩ ⟨j.val % 16, Nat.mod_lt _ (by decide)⟩ n)
    + dAt m c ⟨j.val / 16, by omega⟩ ⟨j.val % 16, Nat.mod_lt _ (by decide)⟩ * pAt m c r j

/-- A row's slab product with a block-diagonal input matrix is the sum over the pole's sixteen channels. -/
theorem slabIn_eq (x0 : Vec Ideal S128x512 .f32) (B : Vec Ideal S512x2048 .bf16) (r : Fin 128) (j : Fin 2048) (u : Fin 512 → EReal) (f : Fin 32 → Fin 16 → Fin 64 → EReal)
    (hu : ∀ k, x0 (ix2 r k) = u k)
    (hB : ∀ (k : Fin 512) (j : Fin 2048), B (ix2 k j) = (if k.val / 16 = j.val / 64 then 1 else 0) * f ⟨k.val / 16, by omega⟩ ⟨k.val % 16, Nat.mod_lt _ (by decide)⟩ ⟨j.val % 64, Nat.mod_lt _ (by decide)⟩) :
    slabIn x0 B r j = ∑ x : Fin 16, u ⟨16 * (j.val / 64) + x.val, by omega⟩ * f ⟨j.val / 64, by omega⟩ x ⟨j.val % 64, Nat.mod_lt _ (by decide)⟩ := by
  unfold slabIn
  simp only [hu]
  refine (Cert.Proof.S5.slab_in u (fun k j => B (ix2 k j)) j fun k hk => ?_).trans ?_
  · rw [hB, if_neg hk, zero_mul]
  · refine Finset.sum_congr rfl fun x _ => congrArg₂ (· * ·) rfl ?_
    have hx := x.isLt
    rw [hB, if_pos (by dsimp only; omega), one_mul]
    exact congrArg₂ (fun a b => f a b _) (Fin.ext (by dsimp only; omega)) (Fin.ext (by dsimp only; omega))

/-- A row of states times the slab of a block-diagonal output matrix is the sum over the group's poles. -/
theorem slabOut_eq (st : Fin 2048 → EReal) (C : Vec Ideal S2048x512 .bf16) (j : Fin 512) (f : Fin 32 → Fin 64 → EReal) (w : Fin 32 → Fin 16 → Fin 64 → EReal)
    (hs : ∀ k, st k = f ⟨k.val / 64, by omega⟩ ⟨k.val % 64, Nat.mod_lt _ (by decide)⟩)
    (hC : ∀ (k : Fin 2048) (j : Fin 512), C (ix2 k j) = (if k.val / 64 = j.val / 16 then 1 else 0) * w ⟨k.val / 64, by omega⟩ ⟨j.val % 16, Nat.mod_lt _ (by decide)⟩ ⟨k.val % 64, Nat.mod_lt _ (by decide)⟩) :
    slabOut st C j = ∑ n : Fin 64, f ⟨j.val / 16, by omega⟩ n * w ⟨j.val / 16, by omega⟩ ⟨j.val % 16, Nat.mod_lt _ (by decide)⟩ n := by
  unfold slabOut
  refine (Cert.Proof.S5.slab_out st (fun k j => C (ix2 k j)) j fun k hk => ?_).trans ?_
  · rw [hC, if_neg hk, zero_mul]
  · refine Finset.sum_congr rfl fun x _ => ?_
    have hx := x.isLt
    rw [hC, if_pos (by dsimp only; omega), one_mul, hs]
    have e1 : (⟨(64 * (j.val / 16) + x.val) / 64, by omega⟩ : Fin 32) = ⟨j.val / 16, by omega⟩ := Fin.ext (by dsimp only; omega)
    have e2 : (⟨(64 * (j.val / 16) + x.val) % 64, Nat.mod_lt _ (by decide)⟩ : Fin 64) = x := Fin.ext (by dsimp only; omega)
    exact congrArg₂ (fun a b => f a b * w a _ b) e1 e2

/-- The block's entry is the new state's. -/
theorem re_eq (c : Dev nD) (t : Fin cfg0.N) (r : Fin 128) (j : Fin 2048) :
    reAt (iblk m c 0 t) (iblk m c 1 t) (iblk m c 2 t) (iblk m c 3 t) (iblk m c 5 t) (iblk m c 6 t) r j = reM m c r ⟨j.val / 64, by omega⟩ ⟨j.val % 64, Nat.mod_lt _ (by decide)⟩ := by
  have h0 := fun k => blk0 m c t r k
  have h1 := (blk1 m c t r j).trans (V_sr m c r j)
  have h2 := (blk2 m c t r j).trans (V_si m c r j)
  have h3 := fun k j => (blk3 m c t k j).trans (V_br m c k j)
  have h5 := (blk5 m c t 0 j).trans (V_lr m c j)
  have h6 := (blk6 m c t 0 j).trans (V_li m c j)
  revert h0 h1 h2 h3 h5 h6
  generalize (iblk m c 0 t : Vec Ideal S128x512 .f32) = x0
  generalize (iblk m c 1 t : Vec Ideal S128x2048 .f32) = x1
  generalize (iblk m c 2 t : Vec Ideal S128x2048 .f32) = x2
  generalize (iblk m c 3 t : Vec Ideal S512x2048 .bf16) = x3
  generalize (iblk m c 5 t : Vec Ideal S8x2048 .f32) = x5
  generalize (iblk m c 6 t : Vec Ideal S8x2048 .f32) = x6
  intro h0 h1 h2 h3 h5 h6
  unfold reAt reM
  rw [slabIn_eq x0 x3 r j (fun k => pAt m c r k) (fun g k n => brAt m c g k n) h0 h3, h1, h2, h5, h6]

/-- The block's entry is the new state's. -/
theorem im_eq (c : Dev nD) (t : Fin cfg0.N) (r : Fin 128) (j : Fin 2048) :
    imAt (iblk m c 0 t) (iblk m c 1 t) (iblk m c 2 t) (iblk m c 4 t) (iblk m c 5 t) (iblk m c 6 t) r j = imM m c r ⟨j.val / 64, by omega⟩ ⟨j.val % 64, Nat.mod_lt _ (by decide)⟩ := by
  have h0 := fun k => blk0 m c t r k
  have h1 := (blk1 m c t r j).trans (V_sr m c r j)
  have h2 := (blk2 m c t r j).trans (V_si m c r j)
  have h3 := fun k j => (blk4 m c t k j).trans (V_bi m c k j)
  have h5 := (blk5 m c t 0 j).trans (V_lr m c j)
  have h6 := (blk6 m c t 0 j).trans (V_li m c j)
  revert h0 h1 h2 h3 h5 h6
  generalize (iblk m c 0 t : Vec Ideal S128x512 .f32) = x0
  generalize (iblk m c 1 t : Vec Ideal S128x2048 .f32) = x1
  generalize (iblk m c 2 t : Vec Ideal S128x2048 .f32) = x2
  generalize (iblk m c 4 t : Vec Ideal S512x2048 .bf16) = x3
  generalize (iblk m c 5 t : Vec Ideal S8x2048 .f32) = x5
  generalize (iblk m c 6 t : Vec Ideal S8x2048 .f32) = x6
  intro h0 h1 h2 h3 h5 h6
  unfold imAt imM
  rw [slabIn_eq x0 x3 r j (fun k => pAt m c r k) (fun g k n => biAt m c g k n) h0 h3, h1, h2, h5, h6]

/-- The block's value before the activation is the mixer's. -/
theorem y_eq (c : Dev nD) (t : Fin cfg0.N) (r : Fin 128) (j : Fin 512) :
    yAt (iblk m c 0 t) (iblk m c 1 t) (iblk m c 2 t) (iblk m c 3 t) (iblk m c 4 t) (iblk m c 5 t) (iblk m c 6 t) (iblk m c 7 t) (iblk m c 8 t) (iblk m c 9 t) r j = yM m c r j := by
  have h0 := blk0 m c t r j
  have h7 := fun k j => (blk7 m c t k j).trans (V_cr m c k j)
  have h8 := fun k j => (blk8 m c t k j).trans (V_ci m c k j)
  have h9 := (blk9 m c t 0 j).trans (V_d m c j)
  have e1 := re_eq m c t r
  have e2 := im_eq m c t r
  unfold yAt yM
  revert e1 e2 h0 h7 h8 h9
  generalize reAt _ _ _ _ _ _ r = f
  generalize imAt _ _ _ _ _ _ r = g
  generalize (iblk m c 0 t : Vec Ideal S128x512 .f32) = x0
  generalize (iblk m c 7 t : Vec Ideal S2048x512 .bf16) = x7
  generalize (iblk m c 8 t : Vec Ideal S2048x512 .bf16) = x8
  generalize (iblk m c 9 t : Vec Ideal S1x512 .f32) = x9
  intro h0 h7 h8 h9 e1 e2
  rw [slabOut_eq f x7 j (fun g n => reM m c r g n) (fun g k n => crAt m c g k n) e1 h7, slabOut_eq g x8 j (fun g n => imM m c r g n) (fun g k n => ciAt m c g k n) e2 h8, h0, h9]

/-- The gated output of equal rows, weights and biases is equal. -/
theorem tail_congr (y y' : Fin 512 → EReal) (W W' : Fin 512 → Fin 512 → EReal) (b b' : Fin 512 → EReal) (j : Fin 512) (hy : ∀ k, y k = y' k) (hW : ∀ k j, W k j = W' k j) (hb : ∀ j, b j = b' j) :
    tailAt y W b j = tailAt y' W' b' j := by
  rw [funext hy, funext hb, show W = W' from funext fun k => funext (hW k)]

/-- The gated output at an index. -/
def oM (c : Dev nD) (r : Fin 128) (j : Fin 512) : EReal := tailAt (yM m c r) (fun k j => wAt m c k j) (fun j => gAt m c j) j

/-- The one point of the grid. -/
theorem exists_t : ∃ t : Fin cfg0.N, t = t := ⟨⟨0, by rw [show cfg0.N = 1 from N_0]; decide⟩, rfl⟩

/-- The point writes its block back. -/
theorem flush12 : ∀ t : Fin cfg0.N, (cfg0.win 12).flush t = true := (by decide +kernel : ∀ t : Fin grid0.N, _)

/-- What the point leaves in window 12's block, over the argument arrays. -/
theorem left12 (c : Dev nD) (t : Fin cfg0.N) (r : Fin 128) (j : Fin 512) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = oM m c r j :=
  (out12_apply _ _ _ _ _ _ _ _ _ _ _ _ r j).trans (tail_congr _ _ _ _ _ _ j (fun k => y_eq m c t r k) (fun k j => (blk10 m c t k j).trans (V_w m c k j)) (fun j => (blk11 m c t 0 j).trans (V_g m c j)))

/-- The gated output array after the run. -/
theorem arr12 (c : Dev nD) (r : Fin 128) (j : Fin 512) :
    ((dats m 0 c).arrAt 12 cfg0.N : Vec Ideal S128x512 .bf16) (ix2 r j) = oM m c r j := by
  obtain ⟨t, -⟩ := exists_t
  obtain ⟨-, -, -, -, -, -, -, -, -, -, -, -, ⟨h0, h1⟩, -⟩ := idx_facts t
  have hblk := Value.blocks12 m c t (flush12 t)
  rw [Value.flushed12] at hblk
  have hv := left12 m c t r j
  revert hblk hv
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = O
  intro hblk hv
  have hat := congrFun hblk (ix2 r j)
  rw [View.read_apply] at hat
  refine Eq.trans ?_ (hat.trans hv)
  congr 1
  funext a
  apply Fin.ext
  match a with
  | ⟨0, _⟩ => show r.val = win0_12.index t 0 * 128 + 1 * r.val; rw [h0]; omega
  | ⟨1, _⟩ => show j.val = win0_12.index t 1 * 512 + 1 * j.val; rw [h1]; omega

/-- The point writes its block back. -/
theorem flush13 : ∀ t : Fin cfg0.N, (cfg0.win 13).flush t = true := (by decide +kernel : ∀ t : Fin grid0.N, _)

/-- What the point leaves in window 13's block, over the argument arrays. -/
theorem left13 (c : Dev nD) (t : Fin cfg0.N) (r : Fin 128) (j : Fin 2048) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = reM m c r ⟨j.val / 64, by omega⟩ ⟨j.val % 64, Nat.mod_lt _ (by decide)⟩ :=
  (out13_apply _ _ _ _ _ _ _ _ _ _ _ _ r j).trans (re_eq m c t r j)

/-- The array of the real parts after the run. -/
theorem arr13 (c : Dev nD) (r : Fin 128) (j : Fin 2048) :
    ((dats m 0 c).arrAt 13 cfg0.N : Vec Ideal S128x2048 .f32) (ix2 r j) = reM m c r ⟨j.val / 64, by omega⟩ ⟨j.val % 64, Nat.mod_lt _ (by decide)⟩ := by
  obtain ⟨t, -⟩ := exists_t
  obtain ⟨-, -, -, -, -, -, -, -, -, -, -, -, -, ⟨h0, h1⟩, -⟩ := idx_facts t
  have hblk := Value.blocks13 m c t (flush13 t)
  rw [Value.flushed13] at hblk
  have hv := left13 m c t r j
  revert hblk hv
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = O
  intro hblk hv
  have hat := congrFun hblk (ix2 r j)
  rw [View.read_apply] at hat
  refine Eq.trans ?_ (hat.trans hv)
  congr 1
  funext a
  apply Fin.ext
  match a with
  | ⟨0, _⟩ => show r.val = win0_13.index t 0 * 128 + 1 * r.val; rw [h0]; omega
  | ⟨1, _⟩ => show j.val = win0_13.index t 1 * 2048 + 1 * j.val; rw [h1]; omega

/-- The point writes its block back. -/
theorem flush14 : ∀ t : Fin cfg0.N, (cfg0.win 14).flush t = true := (by decide +kernel : ∀ t : Fin grid0.N, _)

/-- What the point leaves in window 14's block, over the argument arrays. -/
theorem left14 (c : Dev nD) (t : Fin cfg0.N) (r : Fin 128) (j : Fin 2048) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = imM m c r ⟨j.val / 64, by omega⟩ ⟨j.val % 64, Nat.mod_lt _ (by decide)⟩ :=
  (out14_apply _ _ _ _ _ _ _ _ _ _ _ _ r j).trans (im_eq m c t r j)

/-- The array of the imaginary parts after the run. -/
theorem arr14 (c : Dev nD) (r : Fin 128) (j : Fin 2048) :
    ((dats m 0 c).arrAt 14 cfg0.N : Vec Ideal S128x2048 .f32) (ix2 r j) = imM m c r ⟨j.val / 64, by omega⟩ ⟨j.val % 64, Nat.mod_lt _ (by decide)⟩ := by
  obtain ⟨t, -⟩ := exists_t
  obtain ⟨-, -, -, -, -, -, -, -, -, -, -, -, -, -, ⟨h0, h1⟩⟩ := idx_facts t
  have hblk := Value.blocks14 m c t (flush14 t)
  rw [Value.flushed14] at hblk
  have hv := left14 m c t r j
  revert hblk hv
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = O
  intro hblk hv
  have hat := congrFun hblk (ix2 r j)
  rw [View.read_apply] at hat
  refine Eq.trans ?_ (hat.trans hv)
  congr 1
  funext a
  apply Fin.ext
  match a with
  | ⟨0, _⟩ => show r.val = win0_14.index t 0 * 128 + 1 * r.val; rw [h0]; omega
  | ⟨1, _⟩ => show j.val = win0_14.index t 1 * 2048 + 1 * j.val; rw [h1]; omega

end Cert.Kernel5Ideal.S5

end
-- ==== Proof.S5Ref.lean ====
/-
  The S5 step's reference read at an index over its arguments: the new states, the mixer's output and the gated result.
-/
module

public import proofs.«01_k».proof.Proof.S5Array
public import proofs.«01_k».proof.Proof.Gen.Reference5Ideal.Run

@[expose] public section

set_option maxRecDepth 16384

noncomputable section

namespace Cert.Reference5Ideal.S5

open Cert.Reference5Ideal Cert.Reference5Ideal.Gen Idealize.ShloMosaic Idealize.ShloMosaic.TcCoe Idealize.SL.Sem

open Cert.Kernel5Ideal.S5 (reM imM yM oM gelu tailAt)

/-- The reference's new state, real part, over the arguments. -/
def reT (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) : FVec Ideal S128x1x32x64 .f32 :=
  subf (addf (transpose S128x1x32x64 [1, 2, 0, 3] (Host.dotGeneral dot_S128x1x32x16_S32x16x64_S32x128x1x64_3_1_01_2_2_0 none (shapeCast _ (extractStridedSlice S128x512 ![8448, 1536] a0 slices_S8704x5632_S128x512_8448_1536) shapeCasts_S128x512_S128x1x32x16) a5) transposes_S32x128x1x64_S128x1x32x64_1_2_0_3) (mulf (broadcastInDim S128x1x32x64 ![2, 3] bcast_S32x64_S128x1x32x64_2_3 (shapeCast _ (extractStridedSlice S1x32x64 ![0, 0, 0] a3 slices_S8x32x64_S1x32x64_0_0_0) shapeCasts_S1x32x64_S32x64)) (broadcastInDim S128x1x32x64 ![0, 2, 3] bcast_S128x32x64_S128x1x32x64_0_2_3 (shapeCast _ (extractStridedSlice S1x128x32x64 ![1, 0, 0, 0] a1 slices_S2x128x32x64_S1x128x32x64_1_0_0_0) shapeCasts_S1x128x32x64_S128x32x64)))) (mulf (broadcastInDim S128x1x32x64 ![2, 3] bcast_S32x64_S128x1x32x64_2_3 (shapeCast _ (extractStridedSlice S1x32x64 ![0, 0, 0] a4 slices_S8x32x64_S1x32x64_0_0_0) shapeCasts_S1x32x64_S32x64)) (broadcastInDim S128x1x32x64 ![0, 2, 3] bcast_S128x32x64_S128x1x32x64_0_2_3 (shapeCast _ (extractStridedSlice S1x128x32x64 ![1, 0, 0, 0] a2 slices_S2x128x32x64_S1x128x32x64_1_0_0_0) shapeCasts_S1x128x32x64_S128x32x64)))

/-- The reference's new state, imaginary part, over the arguments. -/
def imT (a0 : FVec Ideal S8704x5632 .f32) (a1 : FVec Ideal S2x128x32x64 .f32) (a2 : FVec Ideal S2x128x32x64 .f32) (a3 : FVec Ideal S8x32x64 .f32) (a4 : FVec Ideal S8x32x64 .f32) (a6 : FVec Ideal S32x16x64 .f32) : FVec Ideal S128x1x32x64 .f32 :=
  addf (addf (transpose S128x1x32x64 [1, 2, 0, 3] (Host.dotGeneral dot_S128x1x32x16_S32x16x64_S32x128x1x64_3_1_01_2_2_0 none (shapeCast _ (extractStridedSlice S128x512 ![8448, 1536] a0 slices_S8704x5632_S128x512_8448_1536) shapeCasts_S128x512_S128x1x32x16) a6) transposes_S32x128x1x64_S128x1x32x64_1_2_0_3) (mulf (broadcastInDim S128x1x32x64 ![2, 3] bcast_S32x64_S128x1x32x64_2_3 (shapeCast _ (extractStridedSlice S1x32x64 ![0, 0, 0] a3 slices_S8x32x64_S1x32x64_0_0_0) shapeCasts_S1x32x64_S32x64)) (broadcastInDim S128x1x32x64 ![0, 2, 3] bcast_S128x32x64_S128x1x32x64_0_2_3 (shapeCast _ (extractStridedSlice S1x128x32x64 ![1, 0, 0, 0] a2 slices_S2x128x32x64_S1x128x32x64_1_0_0_0) shapeCasts_S1x128x32x64_S128x32x64)))) (mulf (broadcastInDim S128x1x32x64 ![2, 3] bcast_S32x64_S128x1x32x64_2_3 (shapeCast _ (extractStridedSlice S1x32x64 ![0, 0, 0] a4 slices_S8x32x64_S1x32x64_0_0_0) shapeCasts_S1x32x64_S32x64)) (broadcastInDim S128x1x32x64 ![0, 2, 3] bcast_S128x32x64_S128x1x32x64_0_2_3 (shapeCast _ (extractStridedSlice S1x128x32x64 ![1, 0, 0, 0] a1 slices_S2x128x32x64_S1x128x32x64_1_0_0_0) shapeCasts_S1x128x32x64_S128x32x64)))

/-- The reference's output before the activation. -/
def yT (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (a6 : FVec Ideal S32x16x64 .f32) (a7 : FVec Ideal S2x32x16x64 .f32) (a8 : FVec Ideal S2x32x16x64 .f32) (a9 : FVec Ideal S2x32x16 .f32) : FVec Ideal S128x512 .f32 :=
  shapeCast _ (addf (subf (transpose S128x1x32x16 [1, 2, 0, 3] (Host.dotGeneral dot_S128x1x32x64_S32x16x64_S32x128x1x16_3_2_01_1_2_0 none (reT a0 a1 a2 a3 a4 a5) (shapeCast _ (extractStridedSlice S1x32x16x64 ![1, 0, 0, 0] a7 slices_S2x32x16x64_S1x32x16x64_1_0_0_0) shapeCasts_S1x32x16x64_S32x16x64)) transposes_S32x128x1x16_S128x1x32x16_1_2_0_3) (transpose S128x1x32x16 [1, 2, 0, 3] (Host.dotGeneral dot_S128x1x32x64_S32x16x64_S32x128x1x16_3_2_01_1_2_0 none (imT a0 a1 a2 a3 a4 a6) (shapeCast _ (extractStridedSlice S1x32x16x64 ![1, 0, 0, 0] a8 slices_S2x32x16x64_S1x32x16x64_1_0_0_0) shapeCasts_S1x32x16x64_S32x16x64)) transposes_S32x128x1x16_S128x1x32x16_1_2_0_3)) (mulf (broadcastInDim S128x1x32x16 ![0, 1, 2, 3] bcast_S1x1x32x16_S128x1x32x16_0_1_2_3 (broadcastInDim S1x1x32x16 ![2, 3] bcast_S32x16_S1x1x32x16_2_3 (shapeCast _ (extractStridedSlice S1x32x16 ![1, 0, 0] a9 slices_S2x32x16_S1x32x16_1_0_0) shapeCasts_S1x32x16_S32x16))) (shapeCast _ (extractStridedSlice S128x512 ![8448, 1536] a0 slices_S8704x5632_S128x512_8448_1536) shapeCasts_S128x512_S128x1x32x16))) shapeCasts_S128x1x32x16_S128x512

/-- The reference's activation. -/
def gT (y : FVec Ideal S128x512 .f32) : FVec Ideal S128x512 .f32 :=
  mulf y (mulf (broadcastInDim S128x512 ![] bcast_S_S128x512 (constant S_ .f32 0x3F000000#32)) (addf (broadcastInDim S128x512 ![] bcast_S_S128x512 (constant S_ .f32 0x3F800000#32)) (Host.tanh (mulf (broadcastInDim S128x512 ![] bcast_S_S128x512 (constant S_ .f32 0x3F4C422A#32)) (addf y (mulf (broadcastInDim S128x512 ![] bcast_S_S128x512 (constant S_ .f32 0x3D372713#32)) (mulf (mulf y y) y)))))))

/-- The reference's gated output. -/
def outT (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (a6 : FVec Ideal S32x16x64 .f32) (a7 : FVec Ideal S2x32x16x64 .f32) (a8 : FVec Ideal S2x32x16x64 .f32) (a9 : FVec Ideal S2x32x16 .f32) (a10 : FVec Ideal S2x512x512 .f32) (a11 : FVec Ideal S2x512 .f32) : FVec Ideal S128x512 .bf16 :=
  truncf .bf16 (mulf (gT (yT a0 a1 a2 a3 a4 a5 a6 a7 a8 a9)) (Host.divf (broadcastInDim S128x512 ![] bcast_S_S128x512 (constant S_ .f32 0x3F800000#32)) (addf (broadcastInDim S128x512 ![] bcast_S_S128x512 (constant S_ .f32 0x3F800000#32)) (Host.exp (Host.negf (addf (Host.dotGeneral dot_S128x512_S512x512_S128x512_1_0_0_1_n_n none (gT (yT a0 a1 a2 a3 a4 a5 a6 a7 a8 a9)) (shapeCast _ (extractStridedSlice S1x512x512 ![1, 0, 0] a10 slices_S2x512x512_S1x512x512_1_0_0) shapeCasts_S1x512x512_S512x512)) (broadcastInDim S128x512 ![0, 1] bcast_S1x512_S128x512_0_1 (broadcastInDim S1x512 ![1] bcast_S512_S1x512_1 (shapeCast _ (extractStridedSlice S1x512 ![1, 0] a11 slices_S2x512_S1x512_1_0) shapeCasts_S1x512_S512))))))))) bitsLt_bf16_f32

/-- The reference's flattened real parts. -/
def reOut (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) : FVec Ideal S128x2048 .f32 :=
  shapeCast _ (shapeCast _ (reT a0 a1 a2 a3 a4 a5) shapeCasts_S128x1x32x64_S128x32x64) shapeCasts_S128x32x64_S128x2048

/-- The reference's flattened imaginary parts. -/
def imOut (a0 : FVec Ideal S8704x5632 .f32) (a1 : FVec Ideal S2x128x32x64 .f32) (a2 : FVec Ideal S2x128x32x64 .f32) (a3 : FVec Ideal S8x32x64 .f32) (a4 : FVec Ideal S8x32x64 .f32) (a6 : FVec Ideal S32x16x64 .f32) : FVec Ideal S128x2048 .f32 :=
  shapeCast _ (shapeCast _ (imT a0 a1 a2 a3 a4 a6) shapeCasts_S128x1x32x64_S128x32x64) shapeCasts_S128x32x64_S128x2048

/-- The new state's real part at an index. -/
theorem reT_apply (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (r : Fin 128) (g : Fin 32) (n : Fin 64) :
    reT a0 a1 a2 a3 a4 a5 (ix4 r 0 g n) = (∑ x : Fin 16, a0 (ix2 ⟨8448 + r.val, by omega⟩ ⟨1536 + (g.val * 16 + x.val), by omega⟩) * a5 (ix3 g x n)) + a3 (ix3 0 g n) * a1 (ix4 1 r g n) - a4 (ix3 0 g n) * a2 (ix4 1 r g n) := by
  pointwise [reT]

/-- The new state's imaginary part at an index. -/
theorem imT_apply (a0 : FVec Ideal S8704x5632 .f32) (a1 : FVec Ideal S2x128x32x64 .f32) (a2 : FVec Ideal S2x128x32x64 .f32) (a3 : FVec Ideal S8x32x64 .f32) (a4 : FVec Ideal S8x32x64 .f32) (a6 : FVec Ideal S32x16x64 .f32) (r : Fin 128) (g : Fin 32) (n : Fin 64) :
    imT a0 a1 a2 a3 a4 a6 (ix4 r 0 g n) = (∑ x : Fin 16, a0 (ix2 ⟨8448 + r.val, by omega⟩ ⟨1536 + (g.val * 16 + x.val), by omega⟩) * a6 (ix3 g x n)) + a3 (ix3 0 g n) * a2 (ix4 1 r g n) + a4 (ix3 0 g n) * a1 (ix4 1 r g n) := by
  pointwise [imT]

/-- The output before the activation at an index. -/
theorem yT_apply (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (a6 : FVec Ideal S32x16x64 .f32) (a7 : FVec Ideal S2x32x16x64 .f32) (a8 : FVec Ideal S2x32x16x64 .f32) (a9 : FVec Ideal S2x32x16 .f32) (r : Fin 128) (j : Fin 512) :
    yT a0 a1 a2 a3 a4 a5 a6 a7 a8 a9 (ix2 r j) = (∑ n : Fin 64, reT a0 a1 a2 a3 a4 a5 (ix4 r 0 ⟨j.val / 16, by omega⟩ n) * a7 (ix4 1 ⟨j.val / 16, by omega⟩ ⟨j.val % 16, Nat.mod_lt _ (by decide)⟩ n))
      - (∑ n : Fin 64, imT a0 a1 a2 a3 a4 a6 (ix4 r 0 ⟨j.val / 16, by omega⟩ n) * a8 (ix4 1 ⟨j.val / 16, by omega⟩ ⟨j.val % 16, Nat.mod_lt _ (by decide)⟩ n))
      + a9 (ix3 1 ⟨j.val / 16, by omega⟩ ⟨j.val % 16, Nat.mod_lt _ (by decide)⟩) * a0 (ix2 ⟨8448 + r.val, by omega⟩ ⟨1536 + j.val, by omega⟩) := by
  pointwise [yT]

/-- The activation at an index. -/
theorem gT_apply (y : FVec Ideal S128x512 .f32) (r : Fin 128) (j : Fin 512) : gT y (ix2 r j) = gelu (y (ix2 r j)) := by
  pointwise [gT]
  unfold gelu
  exact (mul_left_comm _ _ _).trans (mul_assoc _ _ _).symm

/-- The gated output at an index. -/
theorem outT_apply (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (a6 : FVec Ideal S32x16x64 .f32) (a7 : FVec Ideal S2x32x16x64 .f32) (a8 : FVec Ideal S2x32x16x64 .f32) (a9 : FVec Ideal S2x32x16 .f32) (a10 : FVec Ideal S2x512x512 .f32) (a11 : FVec Ideal S2x512 .f32) (r : Fin 128) (j : Fin 512) :
    outT a0 a1 a2 a3 a4 a5 a6 a7 a8 a9 a10 a11 (ix2 r j) = tailAt (fun k => yT a0 a1 a2 a3 a4 a5 a6 a7 a8 a9 (ix2 r k)) (fun k j => a10 (ix3 1 k j)) (fun j => a11 (ix2 1 j)) j := by
  unfold outT tailAt
  simp only [← gT_apply]
  generalize gT _ = G
  pointwise []
  rfl

/-- The flattened real parts at an index. -/
theorem reOut_apply (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (r : Fin 128) (j : Fin 2048) :
    reOut a0 a1 a2 a3 a4 a5 (ix2 r j) = reT a0 a1 a2 a3 a4 a5 (ix4 r 0 ⟨j.val / 64, by omega⟩ ⟨j.val % 64, Nat.mod_lt _ (by decide)⟩) := by
  pointwise [reOut]

/-- The flattened imaginary parts at an index. -/
theorem imOut_apply (a0 : FVec Ideal S8704x5632 .f32) (a1 : FVec Ideal S2x128x32x64 .f32) (a2 : FVec Ideal S2x128x32x64 .f32) (a3 : FVec Ideal S8x32x64 .f32) (a4 : FVec Ideal S8x32x64 .f32) (a6 : FVec Ideal S32x16x64 .f32) (r : Fin 128) (j : Fin 2048) :
    imOut a0 a1 a2 a3 a4 a6 (ix2 r j) = imT a0 a1 a2 a3 a4 a6 (ix4 r 0 ⟨j.val / 64, by omega⟩ ⟨j.val % 64, Nat.mod_lt _ (by decide)⟩) := by
  pointwise [imOut]

/-- Equal arguments give equal arrays. -/
theorem outT_congr (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (a6 : FVec Ideal S32x16x64 .f32) (a7 : FVec Ideal S2x32x16x64 .f32) (a8 : FVec Ideal S2x32x16x64 .f32) (a9 : FVec Ideal S2x32x16 .f32) (a10 : FVec Ideal S2x512x512 .f32) (a11 : FVec Ideal S2x512 .f32) (b0 : FVec Ideal S8704x5632 .f32) (b1 : FVec Ideal S2x128x32x64 .f32) (b2 : FVec Ideal S2x128x32x64 .f32) (b3 : FVec Ideal S8x32x64 .f32) (b4 : FVec Ideal S8x32x64 .f32) (b5 : FVec Ideal S32x16x64 .f32) (b6 : FVec Ideal S32x16x64 .f32) (b7 : FVec Ideal S2x32x16x64 .f32) (b8 : FVec Ideal S2x32x16x64 .f32) (b9 : FVec Ideal S2x32x16 .f32) (b10 : FVec Ideal S2x512x512 .f32) (b11 : FVec Ideal S2x512 .f32) (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) :
    outT a0 a1 a2 a3 a4 a5 a6 a7 a8 a9 a10 a11 = outT b0 b1 b2 b3 b4 b5 b6 b7 b8 b9 b10 b11 := by
  rw [e0, e1, e2, e3, e4, e5, e6, e7, e8, e9, e10, e11]

/-- Equal arguments give equal arrays. -/
theorem reOut_congr (a0 : FVec Ideal S8704x5632 .f32) (a1 : FVec Ideal S2x128x32x64 .f32) (a2 : FVec Ideal S2x128x32x64 .f32) (a3 : FVec Ideal S8x32x64 .f32) (a4 : FVec Ideal S8x32x64 .f32) (a5 : FVec Ideal S32x16x64 .f32) (b0 : FVec Ideal S8704x5632 .f32) (b1 : FVec Ideal S2x128x32x64 .f32) (b2 : FVec Ideal S2x128x32x64 .f32) (b3 : FVec Ideal S8x32x64 .f32) (b4 : FVec Ideal S8x32x64 .f32) (b5 : FVec Ideal S32x16x64 .f32) (e0 : a0 = b0) (e1 : a1 = b1) (e2 : a2 = b2) (e3 : a3 = b3) (e4 : a4 = b4) (e5 : a5 = b5) :
    reOut a0 a1 a2 a3 a4 a5 = reOut b0 b1 b2 b3 b4 b5 := by
  rw [e0, e1, e2, e3, e4, e5]

/-- Equal arguments give equal arrays. -/
theorem imOut_congr (a0 : FVec Ideal S8704x5632 .f32) (a1 : FVec Ideal S2x128x32x64 .f32) (a2 : FVec Ideal S2x128x32x64 .f32) (a3 : FVec Ideal S8x32x64 .f32) (a4 : FVec Ideal S8x32x64 .f32) (a6 : FVec Ideal S32x16x64 .f32) (b0 : FVec Ideal S8704x5632 .f32) (b1 : FVec Ideal S2x128x32x64 .f32) (b2 : FVec Ideal S2x128x32x64 .f32) (b3 : FVec Ideal S8x32x64 .f32) (b4 : FVec Ideal S8x32x64 .f32) (b6 : FVec Ideal S32x16x64 .f32) (e0 : a0 = b0) (e1 : a1 = b1) (e2 : a2 = b2) (e3 : a3 = b3) (e4 : a4 = b4) (e6 : a6 = b6) :
    imOut a0 a1 a2 a3 a4 a6 = imOut b0 b1 b2 b3 b4 b6 := by
  rw [e0, e1, e2, e3, e4, e6]

end Cert.Reference5Ideal.S5

end
-- ==== Proof.S5Claim.lean ====
/-
  The S5 step's claim: kernel and reference compute one function.
-/
module

public import proofs.«01_k».proof.Proof.S5Ref
public import proofs.«01_k».proof.Proof.Gen.Kernel5.Frame
public import proofs.«01_k».proof.Defs
public import Idealize.ShloMosaic.Lib.Claim

@[expose] public section

set_option maxRecDepth 16384

noncomputable section

namespace Cert.Proof.S5

open Idealize.ShloMosaic Idealize.SL.Sem

/-- The reference's new state, real part, is the kernel's. -/
theorem re_state (m : (ℓ : Loc Cert.Kernel5Ideal.nD Cert.Kernel5Ideal.τ Cert.Kernel5Ideal.sig) → Buf (Elt Ideal) ℓ) (c : Dev Cert.Kernel5Ideal.nD) (r : Fin 128) (g : Fin 32) (n : Fin 64) :
    Cert.Reference5Ideal.S5.reT
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5)) (ix4 r 0 g n) = Cert.Kernel5Ideal.S5.reM m c r g n := by
  rw [Cert.Reference5Ideal.S5.reT_apply, Cert.Kernel5Ideal.S5.reM]
  refine congrArg (fun z : EReal => z + _ - _) (Finset.sum_congr rfl fun x _ => congrArg₂ (· * ·) ?_ rfl)
  exact congrArg (fun k : Fin 5632 => m ((c.tc : Thread Cert.Kernel5Ideal.nD Cert.Kernel5Ideal.τ).loc Cert.Kernel5Ideal.main_arg0) (ix2 _ k)) (Fin.ext (by dsimp only; omega))

/-- The reference's new state, imaginary part, is the kernel's. -/
theorem im_state (m : (ℓ : Loc Cert.Kernel5Ideal.nD Cert.Kernel5Ideal.τ Cert.Kernel5Ideal.sig) → Buf (Elt Ideal) ℓ) (c : Dev Cert.Kernel5Ideal.nD) (r : Fin 128) (g : Fin 32) (n : Fin 64) :
    Cert.Reference5Ideal.S5.imT
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg6)) (ix4 r 0 g n) = Cert.Kernel5Ideal.S5.imM m c r g n := by
  rw [Cert.Reference5Ideal.S5.imT_apply, Cert.Kernel5Ideal.S5.imM]
  refine congrArg (fun z : EReal => z + _ + _) (Finset.sum_congr rfl fun x _ => congrArg₂ (· * ·) ?_ rfl)
  exact congrArg (fun k : Fin 5632 => m ((c.tc : Thread Cert.Kernel5Ideal.nD Cert.Kernel5Ideal.τ).loc Cert.Kernel5Ideal.main_arg0) (ix2 _ k)) (Fin.ext (by dsimp only; omega))

/-- The reference's output before the activation is the kernel's. -/
theorem y_row (m : (ℓ : Loc Cert.Kernel5Ideal.nD Cert.Kernel5Ideal.τ Cert.Kernel5Ideal.sig) → Buf (Elt Ideal) ℓ) (c : Dev Cert.Kernel5Ideal.nD) (r : Fin 128) (j : Fin 512) :
    Cert.Reference5Ideal.S5.yT
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7))
      (m ((c.tc : Thread Cert.Kernel5Ideal.nD Cert.Kernel5Ideal.τ).loc Cert.Kernel5Ideal.main_arg8))
      (m ((c.tc : Thread Cert.Kernel5Ideal.nD Cert.Kernel5Ideal.τ).loc Cert.Kernel5Ideal.main_arg9)) (ix2 r j) = Cert.Kernel5Ideal.S5.yM m c r j := by
  rw [Cert.Reference5Ideal.S5.yT_apply, Cert.Kernel5Ideal.S5.yM]
  simp only [re_state, im_state]

/-- Kernel and reference of the S5 step leave equal arrays of the gated outputs, for every input. -/
theorem value_y (m : (ℓ : Loc Cert.Kernel5Ideal.nD Cert.Kernel5Ideal.τ Cert.Kernel5Ideal.sig) → Buf (Elt Ideal) ℓ) (c : Dev Cert.Kernel5Ideal.nD) :
    Cert.Reference5Ideal.S5.outT
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7))
      (m ((c.tc : Thread Cert.Kernel5Ideal.nD Cert.Kernel5Ideal.τ).loc Cert.Kernel5Ideal.main_arg8))
      (m ((c.tc : Thread Cert.Kernel5Ideal.nD Cert.Kernel5Ideal.τ).loc Cert.Kernel5Ideal.main_arg9))
      (m ((c.tc : Thread Cert.Kernel5Ideal.nD Cert.Kernel5Ideal.τ).loc Cert.Kernel5Ideal.main_arg10))
      (m ((c.tc : Thread Cert.Kernel5Ideal.nD Cert.Kernel5Ideal.τ).loc Cert.Kernel5Ideal.main_arg11))
      = (Cert.Kernel5Ideal.Gen.dats m 0 c).arrAt 12 Cert.Kernel5Ideal.cfg0.N := by
  funext j
  have e : j = ix2 (j 0) (j 1) := by
    funext a
    match a with
    | ⟨0, _⟩ => rfl
    | ⟨1, _⟩ => rfl
  rw [e]
  exact ((Cert.Reference5Ideal.S5.outT_apply _ _ _ _ _ _ _ _ _ _ _ _ (j 0) (j 1)).trans (Cert.Kernel5Ideal.S5.tail_congr _ _ _ _ _ _ (j 1) (fun k => y_row m c (j 0) k) (fun _ _ => rfl) fun _ => rfl)).trans (Cert.Kernel5Ideal.S5.arr12 m c (j 0) (j 1)).symm

/-- Kernel and reference of the S5 step leave equal arrays of the real parts of the new states, for every input. -/
theorem value_re (m : (ℓ : Loc Cert.Kernel5Ideal.nD Cert.Kernel5Ideal.τ Cert.Kernel5Ideal.sig) → Buf (Elt Ideal) ℓ) (c : Dev Cert.Kernel5Ideal.nD) :
    Cert.Reference5Ideal.S5.reOut
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      = (Cert.Kernel5Ideal.Gen.dats m 0 c).arrAt 13 Cert.Kernel5Ideal.cfg0.N := by
  funext j
  have e : j = ix2 (j 0) (j 1) := by
    funext a
    match a with
    | ⟨0, _⟩ => rfl
    | ⟨1, _⟩ => rfl
  rw [e]
  exact ((Cert.Reference5Ideal.S5.reOut_apply _ _ _ _ _ _ (j 0) (j 1)).trans (re_state m c (j 0) _ _)).trans (Cert.Kernel5Ideal.S5.arr13 m c (j 0) (j 1)).symm

/-- Kernel and reference of the S5 step leave equal arrays of the imaginary parts of the new states, for every input. -/
theorem value_im (m : (ℓ : Loc Cert.Kernel5Ideal.nD Cert.Kernel5Ideal.τ Cert.Kernel5Ideal.sig) → Buf (Elt Ideal) ℓ) (c : Dev Cert.Kernel5Ideal.nD) :
    Cert.Reference5Ideal.S5.imOut
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg6))
      = (Cert.Kernel5Ideal.Gen.dats m 0 c).arrAt 14 Cert.Kernel5Ideal.cfg0.N := by
  funext j
  have e : j = ix2 (j 0) (j 1) := by
    funext a
    match a with
    | ⟨0, _⟩ => rfl
    | ⟨1, _⟩ => rfl
  rw [e]
  exact ((Cert.Reference5Ideal.S5.imOut_apply _ _ _ _ _ _ (j 0) (j 1)).trans (im_state m c (j 0) _ _)).trans (Cert.Kernel5Ideal.S5.arr14 m c (j 0) (j 1)).symm

/-- The reference's run leaves the gated output of its arguments. -/
theorem res_eq (m : (ℓ : Loc Cert.Reference5Ideal.nD Cert.Reference5Ideal.τ Cert.Reference5Ideal.sig) → Buf (Elt Ideal) ℓ) (c : Dev Cert.Reference5Ideal.nD) :
    Cert.Reference5Ideal.Value.res_main_v70 m c = Cert.Reference5Ideal.S5.outT
      (m ((c.tc : Thread Cert.Reference5Ideal.nD Cert.Reference5Ideal.τ).loc Cert.Reference5Ideal.main_arg0))
      (m ((c.tc : Thread Cert.Reference5Ideal.nD Cert.Reference5Ideal.τ).loc Cert.Reference5Ideal.main_arg1))
      (m ((c.tc : Thread Cert.Reference5Ideal.nD Cert.Reference5Ideal.τ).loc Cert.Reference5Ideal.main_arg2))
      (m ((c.tc : Thread Cert.Reference5Ideal.nD Cert.Reference5Ideal.τ).loc Cert.Reference5Ideal.main_arg3))
      (m ((c.tc : Thread Cert.Reference5Ideal.nD Cert.Reference5Ideal.τ).loc Cert.Reference5Ideal.main_arg4))
      (m ((c.tc : Thread Cert.Reference5Ideal.nD Cert.Reference5Ideal.τ).loc Cert.Reference5Ideal.main_arg5))
      (m ((c.tc : Thread Cert.Reference5Ideal.nD Cert.Reference5Ideal.τ).loc Cert.Reference5Ideal.main_arg6))
      (m ((c.tc : Thread Cert.Reference5Ideal.nD Cert.Reference5Ideal.τ).loc Cert.Reference5Ideal.main_arg7))
      (m ((c.tc : Thread Cert.Reference5Ideal.nD Cert.Reference5Ideal.τ).loc Cert.Reference5Ideal.main_arg8))
      (m ((c.tc : Thread Cert.Reference5Ideal.nD Cert.Reference5Ideal.τ).loc Cert.Reference5Ideal.main_arg9))
      (m ((c.tc : Thread Cert.Reference5Ideal.nD Cert.Reference5Ideal.τ).loc Cert.Reference5Ideal.main_arg10))
      (m ((c.tc : Thread Cert.Reference5Ideal.nD Cert.Reference5Ideal.τ).loc Cert.Reference5Ideal.main_arg11)) := by
  unfold Cert.Reference5Ideal.Value.res_main_v70 Cert.Reference5Ideal.S5.outT Cert.Reference5Ideal.S5.gT Cert.Reference5Ideal.S5.yT Cert.Reference5Ideal.S5.reT Cert.Reference5Ideal.S5.imT
  rfl

/-- The algebraic claim of the S5 step. -/
theorem algebraic : @Cert.algebraic_Kernel5Ideal_Reference5Ideal Cert.Kernel5Ideal.Gen.facts Cert.Reference5Ideal.Gen.facts := by
  intro m g m' g' _ hag
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, Cert.Kernel5Ideal.Value.run_blocks m g, ?_⟩
  refine (θ_run _ _ _).mono (fun r h c => ?_) (Cert.Reference5Ideal.Value.run m' g')
  obtain ⟨h0, h1, h2, hr⟩ := h c
  obtain ⟨e0, e1, e2, e3, e4, e5, e6, e7, e8, e9, e10, e11⟩ := hag c
  refine ⟨h0.trans ((res_eq m' c).trans ((Cert.Reference5Ideal.S5.outT_congr _ _ _ _ _ _ _ _ _ _ _ _ _ _ _ _ _ _ _ _ _ _ _ _ e0 e1 e2 e3 e4 e5 e6 e7 e8 e9 e10 e11).trans (value_y m c))), h1.trans ((Cert.Reference5Ideal.S5.reOut_congr _ _ _ _ _ _ _ _ _ _ _ _ e0 e1 e2 e3 e4 e5).trans (value_re m c)), h2.trans ((Cert.Reference5Ideal.S5.imOut_congr _ _ _ _ _ _ _ _ _ _ _ _ e0 e1 e2 e3 e4 e6).trans (value_im m c)), hr⟩

end Cert.Proof.S5

end
-- ==== Proof.SsdBlock.lean ====
/-
  What one grid point of the SSD call leaves in the blocks of its copied results: the keys and the values of the two
  layers, and the log forget gates.
-/
module

public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Kernel6Ideal.Ssd

open Cert.Kernel6Ideal Cert.Kernel6Ideal.Gen Idealize.ShloMosaic Idealize.ShloMosaic.TcCoe Idealize.SL.Sem

variable {F : FTy → Type} [FloatOps F]

/-- The zero offsets of a rank-2 access are the constant zero function. -/
theorem hz2 : (![0, 0] : Fin 2 → Nat) = fun _ => 0 := funext fun a => by fin_cases a <;> rfl

/-- The zero offsets of a rank-3 access are the constant zero function. -/
theorem hz3 : (![0, 0, 0] : Fin 3 → Nat) = fun _ => 0 := funext fun a => by fin_cases a <;> rfl

/-- The zero offsets of a rank-4 access are the constant zero function. -/
theorem hz4 : (![0, 0, 0, 0] : Fin 4 → Nat) = fun _ => 0 := funext fun a => by fin_cases a <;> rfl

/-- The block of a stacked result: the layer before's rows first, this layer's second. -/
def stack (a : Vec F S128x1024 .f32) (p : Vec F S1x1x128x1024 .f32) : Vec F S2x1x128x1024 .f32 :=
  View.canon (Val := Elt F) (s := S2x1x128x1024) (e := .f32)
    [⟨Rect.unit (s := S2x1x128x1024) ![0, 0, 0, 0] S1x1x128x1024.size inb_S2x1x128x1024_S1x1x128x1024_0_0_0_0, k0_pay6 p⟩,
     ⟨Rect.unit (s := S2x1x128x1024) ![1, 0, 0, 0] S1x1x128x1024.size inb_S2x1x128x1024_S1x1x128x1024_1_0_0_0, k0_pay4 a⟩]

/-- The block of the log forget gates: eight columns of the block of step sizes and gates. -/
def gates (x : Vec F S128x128 .f32) : Vec F S1x128x8 .f32 :=
  k0_pay8 (View.ld x (Rect.unit (s := S128x128) ![0, 8] S128x8.size inb_S128x128_S128x8_0_8))

/-- At the first point of a prompt the keys' block is the stack of the two layers' keys. -/
theorem out_A_17 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 = stack x4 x11 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At the first point of a prompt the values' block is the stack of the two layers' values. -/
theorem out_A_18 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 = stack x5 x12 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At the first point of a prompt the gates' block is the gates' columns. -/
theorem out_A_19 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 = gates x3 := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At a middle point of a prompt the keys' block is the stack of the two layers' keys. -/
theorem out_B_17 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = stack x4 x11 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At a middle point of a prompt the values' block is the stack of the two layers' values. -/
theorem out_B_18 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = stack x5 x12 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At a middle point of a prompt the gates' block is the gates' columns. -/
theorem out_B_19 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : ¬cond0_1 i) (hc2 : ¬cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = gates x3 := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At the last point of a prompt the keys' block is the stack of the two layers' keys. -/
theorem out_C_17 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : cond0_1 i) (hc2 : cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = stack x4 x11 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At the last point of a prompt the values' block is the stack of the two layers' values. -/
theorem out_C_18 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : cond0_1 i) (hc2 : cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = stack x5 x12 := by
  unfold out0_C_18
  rw [View.read_writes_eq_canon _ _ _ (cover0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- At the last point of a prompt the gates' block is the gates' columns. -/
theorem out_C_19 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : cond0_1 i) (hc2 : cond0_2 i)
    (x0 : Vec F S128x512 .f32) (x1 : Vec F S128x512 .f32) (x2 : Vec F S128x512 .f32) (x3 : Vec F S128x128 .f32) (x4 : Vec F S128x1024 .f32) (x5 : Vec F S128x1024 .f32) (x6 : Vec F S4x1024 .f32) (x7 : Vec F S1x1024 .f32) (x8 : Vec F S1x128 .f32) (x9 : Vec F S1x512 .f32) (x10 : Vec F S1x512 .f32) (x11 : Vec F S1x1x128x1024 .f32) (x12 : Vec F S1x1x128x1024 .f32) (xs0 : Vec F S136x1024 .f32) (xs1 : Vec F S8x128x64 .f32) (xs2 : Vec F S8x128 .f32) :
    out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 = gates x3 := by
  unfold out0_C_19
  rw [View.read_writes_eq_canon _ _ _ (cover0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x1024) hz2, View.ld_unit_zero (S := S1x1x128x1024) hz4]
  rfl

/-- A row of the stack's second half is this layer's row. -/
theorem stack_cur (a : Vec Ideal S128x1024 .f32) (p : Vec Ideal S1x1x128x1024 .f32) (r : Fin 128) (k : Fin 1024) :
    stack a p (ix4 1 0 r k) = a (ix2 r k) := by
  unfold stack
  rw [View.canon_cons_of_not_mem ⟨_, _⟩ _ (fun hm => by
    have h1 : (1 : ℕ) < 0 + 1 := (Rect.mem_set_unit (s := S2x1x128x1024) (inb := inb_S2x1x128x1024_S1x1x128x1024_0_0_0_0).mp hm (0 : Fin 4)).2
    omega)]
  have e : (ix4 1 0 r k : S2x1x128x1024.Idx) = (Rect.unit (s := S2x1x128x1024) ![1, 0, 0, 0] S1x1x128x1024.size inb_S2x1x128x1024_S1x1x128x1024_1_0_0_0).emb (ix4 0 0 r k) := by
    funext x
    refine Fin.ext (Eq.trans ?_ (Rect.idx_unit_val _ _ _ _ x).symm)
    match x with
    | ⟨0, _⟩ => rfl
    | ⟨1, _⟩ => rfl
    | ⟨2, _⟩ => exact (Nat.zero_add _).symm
    | ⟨3, _⟩ => exact (Nat.zero_add _).symm
  rw [e]
  refine (View.canon_cons_emb _ _ _ _).trans ?_
  show k0_pay4 (F := Ideal) a (ix4 0 0 r k) = _
  pointwise [k0_pay4]

/-- A row of the stack's first half is the layer before's row. -/
theorem stack_prev (a : Vec Ideal S128x1024 .f32) (p : Vec Ideal S1x1x128x1024 .f32) (r : Fin 128) (k : Fin 1024) :
    stack a p (ix4 0 0 r k) = p (ix4 0 0 r k) := by
  unfold stack
  have e : (ix4 0 0 r k : S2x1x128x1024.Idx) = (Rect.unit (s := S2x1x128x1024) ![0, 0, 0, 0] S1x1x128x1024.size inb_S2x1x128x1024_S1x1x128x1024_0_0_0_0).emb (ix4 0 0 r k) := by
    funext x
    refine Fin.ext (Eq.trans ?_ (Rect.idx_unit_val _ _ _ _ x).symm)
    match x with
    | ⟨0, _⟩ => rfl
    | ⟨1, _⟩ => rfl
    | ⟨2, _⟩ => exact (Nat.zero_add _).symm
    | ⟨3, _⟩ => exact (Nat.zero_add _).symm
  rw [e]
  refine (View.canon_cons_emb _ _ _ _).trans ?_
  show k0_pay6 (F := Ideal) p (ix4 0 0 r k) = _
  pointwise [k0_pay6]

/-- A gate is its column of the block of step sizes and gates. -/
theorem gates_apply (x : Vec Ideal S128x128 .f32) (r : Fin 128) (h : Fin 8) :
    gates x (ix3 0 r h) = x (ix2 r ⟨8 + h.val, by omega⟩) := by
  pointwise [gates, k0_pay8]

end Cert.Kernel6Ideal.Ssd

end
-- ==== Proof.SsdReads.lean ====
/-
  The blocks the SSD call's points see, read at an index over the argument arrays.
-/
module

public import proofs.«01_k».proof.Proof.SsdBlock

@[expose] public section

set_option maxRecDepth 16384

noncomputable section

namespace Cert.Kernel6Ideal.Ssd

open Cert.Kernel6Ideal Cert.Kernel6Ideal.Gen Idealize.ShloMosaic Idealize.ShloMosaic.TcCoe Idealize.SL.Sem

variable (m : (ℓ : Loc nD τ sig) → Buf (Elt Ideal) ℓ)

/-- The block indices of the windows at a point: point `t` is chunk `t % 33` of prompt `t / 33`. -/
theorem idx_facts : ∀ t : Fin cfg0.N,
    (win0_1.index t 0 = t.val ∧ win0_1.index t 1 = 1) ∧ (win0_2.index t 0 = t.val ∧ win0_2.index t 1 = 2)
    ∧ (win0_3.index t 0 = t.val ∧ win0_3.index t 1 = 40) ∧ (win0_4.index t 0 = t.val ∧ win0_4.index t 1 = 3)
    ∧ (win0_5.index t 0 = t.val ∧ win0_5.index t 1 = 4)
    ∧ (win0_11.index t 0 = 0 ∧ win0_11.index t 1 = t.val / 33 ∧ win0_11.index t 2 = t.val % 33 ∧ win0_11.index t 3 = 0)
    ∧ (win0_12.index t 0 = 0 ∧ win0_12.index t 1 = t.val / 33 ∧ win0_12.index t 2 = t.val % 33 ∧ win0_12.index t 3 = 0)
    ∧ (win0_16.index t 0 = t.val / 33 ∧ win0_16.index t 1 = 0 ∧ win0_16.index t 2 = 0)
    ∧ (win0_17.index t 0 = 0 ∧ win0_17.index t 1 = t.val / 33 ∧ win0_17.index t 2 = t.val % 33 ∧ win0_17.index t 3 = 0)
    ∧ (win0_18.index t 0 = 0 ∧ win0_18.index t 1 = t.val / 33 ∧ win0_18.index t 2 = t.val % 33 ∧ win0_18.index t 3 = 0)
    ∧ (win0_19.index t 0 = t.val / 33 ∧ win0_19.index t 1 = t.val % 33 ∧ win0_19.index t 2 = 0) :=
  (by decide +kernel : ∀ t : Fin grid0.N, _)

/-- The first half of the convolution's block at an index. -/
theorem blk1 (c : Dev nD) (t : Fin cfg0.N) (r : Fin 128) (k : Fin 512) (R : Fin 8704) (hR : R.val = 128 * t.val + r.val) :
    (iblk m c 1 t : Vec Ideal S128x512 .f32) (ix2 r k) = m ((c : Thread nD τ).loc main_arg0) (ix2 R ⟨512 + k.val, by omega⟩) := by
  obtain ⟨h, -⟩ := idx_facts t
  unfold iblk
  rw [View.read_apply]
  show V m c main_arg0 _ = _
  rw [V_main_arg0]
  congr 1
  funext a
  apply Fin.ext
  match a with
  | ⟨0, _⟩ => show win0_1.index t 0 * 128 + 1 * r.val = R.val; rw [h.1]; omega
  | ⟨1, _⟩ => show win0_1.index t 1 * 512 + 1 * k.val = 512 + k.val; rw [h.2]; omega

/-- The second half of the convolution's block at an index. -/
theorem blk2 (c : Dev nD) (t : Fin cfg0.N) (r : Fin 128) (k : Fin 512) (R : Fin 8704) (hR : R.val = 128 * t.val + r.val) :
    (iblk m c 2 t : Vec Ideal S128x512 .f32) (ix2 r k) = m ((c : Thread nD τ).loc main_arg0) (ix2 R ⟨1024 + k.val, by omega⟩) := by
  obtain ⟨-, h, -⟩ := idx_facts t
  unfold iblk
  rw [View.read_apply]
  show V m c main_arg0 _ = _
  rw [V_main_arg0]
  congr 1
  funext a
  apply Fin.ext
  match a with
  | ⟨0, _⟩ => show win0_2.index t 0 * 128 + 1 * r.val = R.val; rw [h.1]; omega
  | ⟨1, _⟩ => show win0_2.index t 1 * 512 + 1 * k.val = 1024 + k.val; rw [h.2]; omega

/-- The block of step sizes and gates at an index. -/
theorem blk3 (c : Dev nD) (t : Fin cfg0.N) (r : Fin 128) (k : Fin 128) (R : Fin 8704) (hR : R.val = 128 * t.val + r.val) :
    (iblk m c 3 t : Vec Ideal S128x128 .f32) (ix2 r k) = m ((c : Thread nD τ).loc main_arg0) (ix2 R ⟨5120 + k.val, by omega⟩) := by
  obtain ⟨-, -, h, -⟩ := idx_facts t
  unfold iblk
  rw [View.read_apply]
  show V m c main_arg0 _ = _
  rw [V_main_arg0]
  congr 1
  funext a
  apply Fin.ext
  match a with
  | ⟨0, _⟩ => show win0_3.index t 0 * 128 + 1 * r.val = R.val; rw [h.1]; omega
  | ⟨1, _⟩ => show win0_3.index t 1 * 128 + 1 * k.val = 5120 + k.val; rw [h.2]; omega

/-- The block of the keys at an index. -/
theorem blk4 (c : Dev nD) (t : Fin cfg0.N) (r : Fin 128) (k : Fin 1024) (R : Fin 8704) (hR : R.val = 128 * t.val + r.val) :
    (X0_4 m c t : Vec Ideal S128x1024 .f32) (ix2 r k) = m ((c : Thread nD τ).loc main_arg0) (ix2 R ⟨3072 + k.val, by omega⟩) := by
  obtain ⟨-, -, -, h, -⟩ := idx_facts t
  unfold X0_4 Pipeline.Window.fill
  rw [dif_pos (moved0_4 t _)]
  unfold iblk
  rw [View.read_apply]
  show V m c main_arg0 _ = _
  rw [V_main_arg0]
  congr 1
  funext a
  apply Fin.ext
  match a with
  | ⟨0, _⟩ => show win0_4.index t 0 * 128 + 1 * r.val = R.val; rw [h.1]; omega
  | ⟨1, _⟩ => show win0_4.index t 1 * 1024 + 1 * k.val = 3072 + k.val; rw [h.2]; omega

/-- The block of the values at an index. -/
theorem blk5 (c : Dev nD) (t : Fin cfg0.N) (r : Fin 128) (k : Fin 1024) (R : Fin 8704) (hR : R.val = 128 * t.val + r.val) :
    (X0_5 m c t : Vec Ideal S128x1024 .f32) (ix2 r k) = m ((c : Thread nD τ).loc main_arg0) (ix2 R ⟨4096 + k.val, by omega⟩) := by
  obtain ⟨-, -, -, -, h, -⟩ := idx_facts t
  unfold X0_5 Pipeline.Window.fill
  rw [dif_pos (moved0_5 t _)]
  unfold iblk
  rw [View.read_apply]
  show V m c main_arg0 _ = _
  rw [V_main_arg0]
  congr 1
  funext a
  apply Fin.ext
  match a with
  | ⟨0, _⟩ => show win0_5.index t 0 * 128 + 1 * r.val = R.val; rw [h.1]; omega
  | ⟨1, _⟩ => show win0_5.index t 1 * 1024 + 1 * k.val = 4096 + k.val; rw [h.2]; omega

/-- The block of the layer before's keys at an index. -/
theorem blk11 (c : Dev nD) (t : Fin cfg0.N) (r : Fin 128) (k : Fin 1024) (b : Fin 2) (R : Fin 4224) (hb : b.val = t.val / 33) (hR : R.val = 128 * (t.val % 33) + r.val) :
    (iblk m c 11 t : Vec Ideal S1x1x128x1024 .f32) (ix4 0 0 r k) = m ((c : Thread nD τ).loc main_arg6) (ix4 0 b R k) := by
  obtain ⟨-, -, -, -, -, h, -⟩ := idx_facts t
  unfold iblk
  rw [View.read_apply]
  show V m c main_arg6 _ = _
  rw [V_main_arg6]
  congr 1
  funext a
  apply Fin.ext
  match a with
  | ⟨0, _⟩ => show win0_11.index t 0 * 1 + 1 * 0 = 0; rw [h.1]
  | ⟨1, _⟩ => show win0_11.index t 1 * 1 + 1 * 0 = b.val; rw [h.2.1]; omega
  | ⟨2, _⟩ => show win0_11.index t 2 * 128 + 1 * r.val = R.val; rw [h.2.2.1]; omega
  | ⟨3, _⟩ => show win0_11.index t 3 * 1024 + 1 * k.val = k.val; rw [h.2.2.2]; omega

/-- The block of the layer before's values at an index. -/
theorem blk12 (c : Dev nD) (t : Fin cfg0.N) (r : Fin 128) (k : Fin 1024) (b : Fin 2) (R : Fin 4224) (hb : b.val = t.val / 33) (hR : R.val = 128 * (t.val % 33) + r.val) :
    (iblk m c 12 t : Vec Ideal S1x1x128x1024 .f32) (ix4 0 0 r k) = m ((c : Thread nD τ).loc main_arg7) (ix4 0 b R k) := by
  obtain ⟨-, -, -, -, -, -, h, -⟩ := idx_facts t
  unfold iblk
  rw [View.read_apply]
  show V m c main_arg7 _ = _
  rw [V_main_arg7]
  congr 1
  funext a
  apply Fin.ext
  match a with
  | ⟨0, _⟩ => show win0_12.index t 0 * 1 + 1 * 0 = 0; rw [h.1]
  | ⟨1, _⟩ => show win0_12.index t 1 * 1 + 1 * 0 = b.val; rw [h.2.1]; omega
  | ⟨2, _⟩ => show win0_12.index t 2 * 128 + 1 * r.val = R.val; rw [h.2.2.1]; omega
  | ⟨3, _⟩ => show win0_12.index t 3 * 1024 + 1 * k.val = k.val; rw [h.2.2.2]; omega

end Cert.Kernel6Ideal.Ssd

end
-- ==== Proof.SsdArray.lean ====
/-
  The SSD call's copied results: the two layers' keys and values, and the log forget gates, over the argument arrays.
-/
module

public import proofs.«01_k».proof.Proof.SsdReads

@[expose] public section

set_option maxRecDepth 16384

noncomputable section

namespace Cert.Kernel6Ideal.Ssd

open Cert.Kernel6Ideal Cert.Kernel6Ideal.Gen Idealize.ShloMosaic Idealize.ShloMosaic.TcCoe Idealize.SL.Sem

variable (m : (ℓ : Loc nD τ sig) → Buf (Elt Ideal) ℓ)

/-- Every point writes its block of result 17 back. -/
theorem flush17 : ∀ t : Fin cfg0.N, (cfg0.win 17).flush t = true := (by decide +kernel : ∀ t : Fin grid0.N, _)

/-- Every point writes its block of result 18 back. -/
theorem flush18 : ∀ t : Fin cfg0.N, (cfg0.win 18).flush t = true := (by decide +kernel : ∀ t : Fin grid0.N, _)

/-- Every point writes its block of result 19 back. -/
theorem flush19 : ∀ t : Fin cfg0.N, (cfg0.win 19).flush t = true := (by decide +kernel : ∀ t : Fin grid0.N, _)

/-- What a point writes back of the keys. -/
theorem flushed17 (c : Dev nD) (t : Fin cfg0.N) :
    (dats m 0 c).flushed 17 t = (cfg0.win 17).cut (grid0.coords t) (stack (X0_4 m c t) (iblk m c 11 t)) := by
  by_cases h0 : t.val % 33 = 0
  · rw [Value.flushed17_A m c t h0 (by omega) (by omega), out_A_17]
  by_cases h1 : t.val % 33 = 32
  · rw [Value.flushed17_C m c t h0 h1 h1, out_C_17]
  · rw [Value.flushed17_B m c t h0 h1 h1, out_B_17]

/-- What a point writes back of the values. -/
theorem flushed18 (c : Dev nD) (t : Fin cfg0.N) :
    (dats m 0 c).flushed 18 t = (cfg0.win 18).cut (grid0.coords t) (stack (X0_5 m c t) (iblk m c 12 t)) := by
  by_cases h0 : t.val % 33 = 0
  · rw [Value.flushed18_A m c t h0 (by omega) (by omega), out_A_18]
  by_cases h1 : t.val % 33 = 32
  · rw [Value.flushed18_C m c t h0 h1 h1, out_C_18]
  · rw [Value.flushed18_B m c t h0 h1 h1, out_B_18]

/-- What a point writes back of the gates. -/
theorem flushed19 (c : Dev nD) (t : Fin cfg0.N) :
    (dats m 0 c).flushed 19 t = (cfg0.win 19).cut (grid0.coords t) (gates (iblk m c 3 t)) := by
  by_cases h0 : t.val % 33 = 0
  · rw [Value.flushed19_A m c t h0 (by omega) (by omega), out_A_19]
  by_cases h1 : t.val % 33 = 32
  · rw [Value.flushed19_C m c t h0 h1 h1, out_C_19]
  · rw [Value.flushed19_B m c t h0 h1 h1, out_B_19]

/-- The keys of both layers after the run, at an index, from the block of the point that writes it. -/
theorem arr17 (c : Dev nD) (t : Fin cfg0.N) (b : Fin 2) (R : Fin 4224) (r : Fin 128) (k : Fin 1024) (l : Fin 2)
    (ht : t.val = 33 * b.val + R.val / 128) (hr : r.val = R.val % 128) :
    ((dats m 0 c).arrAt 17 cfg0.N : Vec Ideal S2x2x4224x1024 .f32) (ix4 l b R k) = stack (X0_4 m c t) (iblk m c 11 t) (ix4 l 0 r k) := by
  have hRl := R.isLt
  obtain ⟨-, -, -, -, -, -, -, -, h, -⟩ := idx_facts t
  have hblk := Value.blocks17 m c t (flush17 t)
  rw [flushed17] at hblk
  have hat := congrFun hblk (ix4 l 0 r k)
  rw [View.read_apply] at hat
  refine Eq.trans ?_ hat
  congr 1
  funext a
  apply Fin.ext
  match a with
  | ⟨0, _⟩ => show l.val = win0_17.index t 0 * 2 + 1 * l.val; rw [h.1]; omega
  | ⟨1, _⟩ => show b.val = win0_17.index t 1 * 1 + 1 * 0; rw [h.2.1]; omega
  | ⟨2, _⟩ => show R.val = win0_17.index t 2 * 128 + 1 * r.val; rw [h.2.2.1]; omega
  | ⟨3, _⟩ => show k.val = win0_17.index t 3 * 1024 + 1 * k.val; rw [h.2.2.2]; omega

/-- The keys of this layer after the run, at an index. -/
theorem arr17_cur (c : Dev nD) (b : Fin 2) (R : Fin 4224) (k : Fin 1024) :
    ((dats m 0 c).arrAt 17 cfg0.N : Vec Ideal S2x2x4224x1024 .f32) (ix4 1 b R k) = m ((c : Thread nD τ).loc main_arg0) (ix2 ⟨b.val * 4224 + R.val, by omega⟩ ⟨3072 + k.val, by omega⟩) := by
  have hb := b.isLt
  have hRl := R.isLt
  obtain ⟨t, ht⟩ : ∃ t : Fin cfg0.N, t.val = 33 * b.val + R.val / 128 := ⟨⟨33 * b.val + R.val / 128, by rw [show cfg0.N = 66 from N_0]; omega⟩, rfl⟩
  obtain ⟨r, hr⟩ : ∃ r : Fin 128, r.val = R.val % 128 := ⟨⟨R.val % 128, Nat.mod_lt _ (by decide)⟩, rfl⟩
  exact (arr17 m c t b R r k 1 ht hr).trans ((stack_cur _ _ r k).trans (blk4 m c t r k ⟨b.val * 4224 + R.val, by omega⟩ (by dsimp only; omega)))

/-- The keys of the layer before after the run, at an index. -/
theorem arr17_prev (c : Dev nD) (b : Fin 2) (R : Fin 4224) (k : Fin 1024) :
    ((dats m 0 c).arrAt 17 cfg0.N : Vec Ideal S2x2x4224x1024 .f32) (ix4 0 b R k) = m ((c : Thread nD τ).loc main_arg6) (ix4 0 b R k) := by
  have hb := b.isLt
  have hRl := R.isLt
  obtain ⟨t, ht⟩ : ∃ t : Fin cfg0.N, t.val = 33 * b.val + R.val / 128 := ⟨⟨33 * b.val + R.val / 128, by rw [show cfg0.N = 66 from N_0]; omega⟩, rfl⟩
  obtain ⟨r, hr⟩ : ∃ r : Fin 128, r.val = R.val % 128 := ⟨⟨R.val % 128, Nat.mod_lt _ (by decide)⟩, rfl⟩
  exact (arr17 m c t b R r k 0 ht hr).trans ((stack_prev _ _ r k).trans (blk11 m c t r k b R (by omega) (by omega)))

/-- The values of both layers after the run, at an index, from the block of the point that writes it. -/
theorem arr18 (c : Dev nD) (t : Fin cfg0.N) (b : Fin 2) (R : Fin 4224) (r : Fin 128) (k : Fin 1024) (l : Fin 2)
    (ht : t.val = 33 * b.val + R.val / 128) (hr : r.val = R.val % 128) :
    ((dats m 0 c).arrAt 18 cfg0.N : Vec Ideal S2x2x4224x1024 .f32) (ix4 l b R k) = stack (X0_5 m c t) (iblk m c 12 t) (ix4 l 0 r k) := by
  have hRl := R.isLt
  obtain ⟨-, -, -, -, -, -, -, -, -, h, -⟩ := idx_facts t
  have hblk := Value.blocks18 m c t (flush18 t)
  rw [flushed18] at hblk
  have hat := congrFun hblk (ix4 l 0 r k)
  rw [View.read_apply] at hat
  refine Eq.trans ?_ hat
  congr 1
  funext a
  apply Fin.ext
  match a with
  | ⟨0, _⟩ => show l.val = win0_18.index t 0 * 2 + 1 * l.val; rw [h.1]; omega
  | ⟨1, _⟩ => show b.val = win0_18.index t 1 * 1 + 1 * 0; rw [h.2.1]; omega
  | ⟨2, _⟩ => show R.val = win0_18.index t 2 * 128 + 1 * r.val; rw [h.2.2.1]; omega
  | ⟨3, _⟩ => show k.val = win0_18.index t 3 * 1024 + 1 * k.val; rw [h.2.2.2]; omega

/-- The values of this layer after the run, at an index. -/
theorem arr18_cur (c : Dev nD) (b : Fin 2) (R : Fin 4224) (k : Fin 1024) :
    ((dats m 0 c).arrAt 18 cfg0.N : Vec Ideal S2x2x4224x1024 .f32) (ix4 1 b R k) = m ((c : Thread nD τ).loc main_arg0) (ix2 ⟨b.val * 4224 + R.val, by omega⟩ ⟨4096 + k.val, by omega⟩) := by
  have hb := b.isLt
  have hRl := R.isLt
  obtain ⟨t, ht⟩ : ∃ t : Fin cfg0.N, t.val = 33 * b.val + R.val / 128 := ⟨⟨33 * b.val + R.val / 128, by rw [show cfg0.N = 66 from N_0]; omega⟩, rfl⟩
  obtain ⟨r, hr⟩ : ∃ r : Fin 128, r.val = R.val % 128 := ⟨⟨R.val % 128, Nat.mod_lt _ (by decide)⟩, rfl⟩
  exact (arr18 m c t b R r k 1 ht hr).trans ((stack_cur _ _ r k).trans (blk5 m c t r k ⟨b.val * 4224 + R.val, by omega⟩ (by dsimp only; omega)))

/-- The values of the layer before after the run, at an index. -/
theorem arr18_prev (c : Dev nD) (b : Fin 2) (R : Fin 4224) (k : Fin 1024) :
    ((dats m 0 c).arrAt 18 cfg0.N : Vec Ideal S2x2x4224x1024 .f32) (ix4 0 b R k) = m ((c : Thread nD τ).loc main_arg7) (ix4 0 b R k) := by
  have hb := b.isLt
  have hRl := R.isLt
  obtain ⟨t, ht⟩ : ∃ t : Fin cfg0.N, t.val = 33 * b.val + R.val / 128 := ⟨⟨33 * b.val + R.val / 128, by rw [show cfg0.N = 66 from N_0]; omega⟩, rfl⟩
  obtain ⟨r, hr⟩ : ∃ r : Fin 128, r.val = R.val % 128 := ⟨⟨R.val % 128, Nat.mod_lt _ (by decide)⟩, rfl⟩
  exact (arr18 m c t b R r k 0 ht hr).trans ((stack_prev _ _ r k).trans (blk12 m c t r k b R (by omega) (by omega)))

/-- The log forget gates after the run, at an index. -/
theorem arr19 (c : Dev nD) (b : Fin 2) (R : Fin 4224) (k : Fin 8) :
    ((dats m 0 c).arrAt 19 cfg0.N : Vec Ideal S2x4224x8 .f32) (ix3 b R k) = m ((c : Thread nD τ).loc main_arg0) (ix2 ⟨b.val * 4224 + R.val, by omega⟩ ⟨5128 + k.val, by omega⟩) := by
  have hb := b.isLt
  have hRl := R.isLt
  obtain ⟨t, ht⟩ : ∃ t : Fin cfg0.N, t.val = 33 * b.val + R.val / 128 := ⟨⟨33 * b.val + R.val / 128, by rw [show cfg0.N = 66 from N_0]; omega⟩, rfl⟩
  obtain ⟨r, hr⟩ : ∃ r : Fin 128, r.val = R.val % 128 := ⟨⟨R.val % 128, Nat.mod_lt _ (by decide)⟩, rfl⟩
  obtain ⟨-, -, -, -, -, -, -, -, -, -, h⟩ := idx_facts t
  have hblk := Value.blocks19 m c t (flush19 t)
  rw [flushed19] at hblk
  have hat := congrFun hblk (ix3 0 r k)
  rw [View.read_apply] at hat
  refine Eq.trans ?_ (hat.trans (((gates_apply _ r k).trans (blk3 m c t r ⟨8 + k.val, by omega⟩ ⟨b.val * 4224 + R.val, by omega⟩ (by dsimp only; omega))).trans ?_))
  · congr 1
    funext a
    apply Fin.ext
    match a with
    | ⟨0, _⟩ => show b.val = win0_19.index t 0 * 1 + 1 * 0; rw [h.1]; omega
    | ⟨1, _⟩ => show R.val = win0_19.index t 1 * 128 + 1 * r.val; rw [h.2.1]; omega
    | ⟨2, _⟩ => show k.val = win0_19.index t 2 * 8 + 1 * k.val; rw [h.2.2]; omega
  · congr 2
    exact Fin.ext (by dsimp only; omega)

end Cert.Kernel6Ideal.Ssd

end
-- ==== Proof.SsdConv.lean ====
/-
  The SSD call's copied rows of the convolution's input: the last three real rows of each prompt.
-/
module

public import proofs.«01_k».proof.Proof.SsdReads
public import Idealize.ShloMosaic.Lib.WritesUnit

@[expose] public section

set_option maxRecDepth 16384

noncomputable section

namespace Cert.Kernel6Ideal.Ssd

open Cert.Kernel6Ideal Cert.Kernel6Ideal.Gen Idealize.ShloMosaic Idealize.ShloMosaic.TcCoe Idealize.SL.Sem

/-- The last three real rows of a chunk: the two halves of the convolution's block side by side. -/
def tail (x y : Vec Ideal S128x512 .f32) (r : Fin 3) (k : Fin 1024) : Elt Ideal .f32 :=
  if h : k.val < 512 then x (ix2 ⟨13 + r.val, by omega⟩ ⟨k.val, h⟩)
  else y (ix2 ⟨13 + r.val, by omega⟩ ⟨k.val - 512, by omega⟩)

/-- The block of kept rows is the rows loaded for it. -/
theorem pay17_apply (v : Vec Ideal S3x1024 .f32) (r : Fin 3) (k : Fin 1024) : k0_pay17 v (ix3 0 r k) = v (ix2 r k) := by
  pointwise [k0_pay17]

/-- Rows 21 to 23 of the scratch, read after both halves are stored from row 8 on, are the tail of the two halves. -/
theorem read_tail {sig : RefSig} {κ : Kind} {sp : Space} (v : View sig κ sp S136x1024 .f32) (x y : Vec Ideal S128x512 .f32) (r : Fin 3) (k : Fin 1024) :
    v.readCov (Val := Elt Ideal) [⟨Rect.unit (s := S136x1024) ![8, 512] ![128, 512] inb_S136x1024_S128x512_8_512, k0_pay13 y⟩,
        ⟨Rect.unit (s := S136x1024) ![8, 0] ![128, 512] inb_S136x1024_S128x512_8_0, k0_pay12 x⟩]
      (Rect.unit (s := S136x1024) ![21, 0] ![3, 1024] inb_S136x1024_S3x1024_21_0).toLoadRect (ix2 r k) = tail x y r k := by
  have e : (Rect.unit (s := S136x1024) ![21, 0] ![3, 1024] inb_S136x1024_S3x1024_21_0).toLoadRect.idx (ix2 r k)
      = (ix2 ⟨21 + r.val, by omega⟩ k : S136x1024.Idx) := by
    funext a
    apply Fin.ext
    match a with
    | ⟨0, _⟩ => show 21 + 1 * r.val = 21 + r.val; omega
    | ⟨1, _⟩ => show 0 + 1 * k.val = k.val; omega
  unfold View.readCov View.readAt
  rw [e]
  unfold tail
  by_cases h : k.val < 512
  · rw [dif_pos h]
    refine (View.read_writes_cons_unit_of_not_mem v _ _ _ _ _ rfl (1 : Fin 2) (Or.inl h)).trans ?_
    refine (View.read_writes_cons_unit_of_mem v _ _ _ _ _ (ix2 ⟨13 + r.val, by omega⟩ ⟨k.val, h⟩) rfl (fun a => ?_)).trans ?_
    · match a with
      | ⟨0, _⟩ => show 21 + r.val = 8 + (13 + r.val); omega
      | ⟨1, _⟩ => show k.val = 0 + k.val; omega
    · pointwise [k0_pay12]
  · rw [dif_neg h]
    refine (View.read_writes_cons_unit_of_mem v _ _ _ _ _ (ix2 ⟨13 + r.val, by omega⟩ ⟨k.val - 512, by omega⟩) rfl (fun a => ?_)).trans ?_
    · match a with
      | ⟨0, _⟩ => show 21 + r.val = 8 + (13 + r.val); omega
      | ⟨1, _⟩ => show k.val = 512 + (k.val - 512); omega
    · pointwise [k0_pay13]

set_option maxHeartbeats 1600000 in
/-- At the last point of a prompt the block of kept rows is the tail of the two halves just read. -/
theorem out_C_16 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x1x128x1024 .f32) (harg13 : arg13.IsWhole) (arg14 : Memref sig .tc .vmem S1x1x128x1024 .f32) (harg14 : arg14.IsWhole) (arg15 : Memref sig .tc .vmem S128x512 .bf16) (harg15 : arg15.IsWhole) (arg16 : Memref sig .tc .vmem S1x8x128 .f32) (harg16 : arg16.IsWhole) (arg17 : Memref sig .tc .vmem S1x8x128x64 .f32) (harg17 : arg17.IsWhole) (arg18 : Memref sig .tc .vmem S1x3x1024 .f32) (harg18 : arg18.IsWhole) (arg19 : Memref sig .tc .vmem S2x1x128x1024 .f32) (harg19 : arg19.IsWhole) (arg20 : Memref sig .tc .vmem S2x1x128x1024 .f32) (harg20 : arg20.IsWhole) (arg21 : Memref sig .tc .vmem S1x128x8 .f32) (harg21 : arg21.IsWhole) (arg22 : Memref sig .tc .vmem S136x1024 .f32) (harg22 : arg22.IsWhole) (arg23 : Memref sig .tc .vmem S8x128x64 .f32) (harg23 : arg23.IsWhole) (arg24 : Memref sig .tc .vmem S8x128 .f32) (harg24 : arg24.IsWhole) (arg25 : Memref sig .tc .vmem S128x512 .f32) (harg25 : arg25.IsWhole) (hc0 : ¬cond0_0 i) (hc1 : cond0_1 i) (hc2 : cond0_2 i)
    (x0 : Vec Ideal S128x512 .f32) (x1 : Vec Ideal S128x512 .f32) (x2 : Vec Ideal S128x512 .f32) (x3 : Vec Ideal S128x128 .f32) (x4 : Vec Ideal S128x1024 .f32) (x5 : Vec Ideal S128x1024 .f32) (x6 : Vec Ideal S4x1024 .f32) (x7 : Vec Ideal S1x1024 .f32) (x8 : Vec Ideal S1x128 .f32) (x9 : Vec Ideal S1x512 .f32) (x10 : Vec Ideal S1x512 .f32) (x11 : Vec Ideal S1x1x128x1024 .f32) (x12 : Vec Ideal S1x1x128x1024 .f32) (xs0 : Vec Ideal S136x1024 .f32) (xs1 : Vec Ideal S8x128x64 .f32) (xs2 : Vec Ideal S8x128 .f32) (r : Fin 3) (k : Fin 1024) :
    out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2 (ix3 0 r k) = tail x1 x2 r k := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S128x512) hz2]
  exact (pay17_apply _ r k).trans (read_tail arg22.view x1 x2 r k)

variable (m : (ℓ : Loc nD τ sig) → Buf (Elt Ideal) ℓ)

/-- Result 16's blocks are written back at the last point of each prompt. -/
theorem flush16 : ∀ t : Fin cfg0.N, t.val % 33 = 32 → (cfg0.win 16).flush t = true := (by decide +kernel : ∀ t : Fin grid0.N, _)

/-- The kept rows after the run, at an index. -/
theorem arr16 (c : Dev nD) (b : Fin 2) (R : Fin 3) (k : Fin 1024) :
    ((dats m 0 c).arrAt 16 cfg0.N : Vec Ideal S2x3x1024 .f32) (ix3 b R k) = m ((c : Thread nD τ).loc main_arg0) (ix2 ⟨b.val * 4224 + 4109 + R.val, by omega⟩ ⟨512 + k.val, by omega⟩) := by
  have hb := b.isLt
  have hRl := R.isLt
  obtain ⟨t, ht⟩ : ∃ t : Fin cfg0.N, t.val = 33 * b.val + 32 := ⟨⟨33 * b.val + 32, by rw [show cfg0.N = 66 from N_0]; omega⟩, rfl⟩
  obtain ⟨-, -, -, -, -, -, -, h, -⟩ := idx_facts t
  have h1 : t.val % 33 = 32 := by omega
  have hf := flush16 t h1
  have hblk := Value.flushed16_eq m c t hf
  rw [← Value.final16 m c, Value.flushed16_C m c t (by omega) h1 h1] at hblk
  have hat := (congrFun hblk (ix3 0 R k)).symm
  rw [View.read_apply] at hat
  refine Eq.trans ?_ (hat.trans ((out_C_16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R k).trans ?_))
  · congr 1
    funext a
    apply Fin.ext
    match a with
    | ⟨0, _⟩ => show b.val = win0_16.index t 0 * 1 + 1 * 0; rw [h.1]; omega
    | ⟨1, _⟩ => show R.val = win0_16.index t 1 * 3 + 1 * R.val; rw [h.2.1]; omega
    | ⟨2, _⟩ => show k.val = win0_16.index t 2 * 1024 + 1 * k.val; rw [h.2.2]; omega
  · unfold tail
    by_cases hk : k.val < 512
    · rw [dif_pos hk]
      exact blk1 m c t ⟨13 + R.val, by omega⟩ ⟨k.val, hk⟩ ⟨b.val * 4224 + 4109 + R.val, by omega⟩ (by dsimp only; omega)
    · rw [dif_neg hk]
      refine (blk2 m c t ⟨13 + R.val, by omega⟩ ⟨k.val - 512, by omega⟩ ⟨b.val * 4224 + 4109 + R.val, by omega⟩ (by dsimp only; omega)).trans ?_
      congr 2
      exact Fin.ext (by dsimp only; omega)

end Cert.Kernel6Ideal.Ssd

end
-- ==== Proof.SsdRef.lean ====
/-
  The reference's copies: its composed terms over the arguments, read at an index.
-/
module

public import proofs.«01_k».proof.Proof.Gen.Reference6Ideal.Run
public import Idealize.ShloMosaic.Lib.Pointwise

@[expose] public section

set_option maxRecDepth 16384

noncomputable section

namespace Cert.Reference6Ideal.Ssd

open Cert.Reference6Ideal Cert.Reference6Ideal.Gen Idealize.ShloMosaic Idealize.ShloMosaic.TcCoe Idealize.SL.Sem

/-- The rows before the convolution that the prompts leave. -/
def convT (a0 : FVec Ideal S8704x5632 .f32) : FVec Ideal S2x3x1024 .f32 :=
  extractStridedSlice S2x3x1024 ![0, 4112, 0] (concatenate S2x4115x1024 1 [⟨S2x3x1024, (broadcastInDim S2x3x1024 ![] bcast_S_S2x3x1024 (constant S_ .f32 0x00000000#32))⟩, ⟨S2x4112x1024, (extractStridedSlice S2x4112x1024 ![0, 0, 512] (shapeCast _ (extractStridedSlice S8448x5632 ![0, 0] a0 slices_S8704x5632_S8448x5632_0_0) shapeCasts_S8448x5632_S2x4224x5632) slices_S2x4224x5632_S2x4112x1024_0_0_512)⟩] concatenates_S2x3x1024_S2x4112x1024_S2x4115x1024_d1) slices_S2x4115x1024_S2x3x1024_0_4112_0

/-- The two layers' keys. -/
def keysT (a0 : FVec Ideal S8704x5632 .f32) (a6 : FVec Ideal S1x2x4224x1024 .f32) : FVec Ideal S2x2x4224x1024 .f32 :=
  concatenate S2x2x4224x1024 0 [⟨S1x2x4224x1024, a6⟩, ⟨S1x2x4224x1024, (broadcastInDim S1x2x4224x1024 ![1, 2, 3] bcast_S2x4224x1024_S1x2x4224x1024_1_2_3 (extractStridedSlice S2x4224x1024 ![0, 0, 3072] (shapeCast _ (extractStridedSlice S8448x5632 ![0, 0] a0 slices_S8704x5632_S8448x5632_0_0) shapeCasts_S8448x5632_S2x4224x5632) slices_S2x4224x5632_S2x4224x1024_0_0_3072))⟩] concatenates_S1x2x4224x1024_S1x2x4224x1024_S2x2x4224x1024_d0

/-- The two layers' values. -/
def valsT (a0 : FVec Ideal S8704x5632 .f32) (a7 : FVec Ideal S1x2x4224x1024 .f32) : FVec Ideal S2x2x4224x1024 .f32 :=
  concatenate S2x2x4224x1024 0 [⟨S1x2x4224x1024, a7⟩, ⟨S1x2x4224x1024, (broadcastInDim S1x2x4224x1024 ![1, 2, 3] bcast_S2x4224x1024_S1x2x4224x1024_1_2_3 (extractStridedSlice S2x4224x1024 ![0, 0, 4096] (shapeCast _ (extractStridedSlice S8448x5632 ![0, 0] a0 slices_S8704x5632_S8448x5632_0_0) shapeCasts_S8448x5632_S2x4224x5632) slices_S2x4224x5632_S2x4224x1024_0_0_4096))⟩] concatenates_S1x2x4224x1024_S1x2x4224x1024_S2x2x4224x1024_d0

/-- The log forget gates. -/
def gatesT (a0 : FVec Ideal S8704x5632 .f32) : FVec Ideal S2x4224x8 .f32 :=
  extractStridedSlice S2x4224x8 ![0, 0, 5128] (shapeCast _ (extractStridedSlice S8448x5632 ![0, 0] a0 slices_S8704x5632_S8448x5632_0_0) shapeCasts_S8448x5632_S2x4224x5632) slices_S2x4224x5632_S2x4224x8_0_0_5128

/-- The stacked keys at an index: the layer before's, then this layer's. -/
theorem keysT_apply (a0 : FVec Ideal S8704x5632 .f32) (a6 : FVec Ideal S1x2x4224x1024 .f32) (l b : Fin 2) (R : Fin 4224) (k : Fin 1024) :
    keysT a0 a6 (ix4 l b R k) = if h : l.val < 1 then a6 (ix4 ⟨l.val, h⟩ b R k) else a0 (ix2 ⟨b.val * 4224 + R.val, by omega⟩ ⟨3072 + k.val, by omega⟩) := by
  pointwise [keysT]

/-- Equal arguments give equal keys. -/
theorem keysT_congr (a0 : FVec Ideal S8704x5632 .f32) (a6 : FVec Ideal S1x2x4224x1024 .f32) (b0 : FVec Ideal S8704x5632 .f32) (b6 : FVec Ideal S1x2x4224x1024 .f32) (e0 : a0 = b0) (e6 : a6 = b6) :
    keysT a0 a6 = keysT b0 b6 := by
  rw [e0, e6]

/-- The stacked values at an index: the layer before's, then this layer's. -/
theorem valsT_apply (a0 : FVec Ideal S8704x5632 .f32) (a7 : FVec Ideal S1x2x4224x1024 .f32) (l b : Fin 2) (R : Fin 4224) (k : Fin 1024) :
    valsT a0 a7 (ix4 l b R k) = if h : l.val < 1 then a7 (ix4 ⟨l.val, h⟩ b R k) else a0 (ix2 ⟨b.val * 4224 + R.val, by omega⟩ ⟨4096 + k.val, by omega⟩) := by
  pointwise [valsT]

/-- Equal arguments give equal values. -/
theorem valsT_congr (a0 : FVec Ideal S8704x5632 .f32) (a7 : FVec Ideal S1x2x4224x1024 .f32) (b0 : FVec Ideal S8704x5632 .f32) (b7 : FVec Ideal S1x2x4224x1024 .f32) (e0 : a0 = b0) (e7 : a7 = b7) :
    valsT a0 a7 = valsT b0 b7 := by
  rw [e0, e7]

/-- The log forget gates at an index. -/
theorem gatesT_apply (a0 : FVec Ideal S8704x5632 .f32) (b : Fin 2) (R : Fin 4224) (k : Fin 8) :
    gatesT a0 (ix3 b R k) = a0 (ix2 ⟨b.val * 4224 + R.val, by omega⟩ ⟨5128 + k.val, by omega⟩) := by
  pointwise [gatesT]

/-- The rows before the convolution at an index: the last three of the prompt. -/
theorem convT_apply (a0 : FVec Ideal S8704x5632 .f32) (b : Fin 2) (R : Fin 3) (k : Fin 1024) :
    convT a0 (ix3 b R k) = a0 (ix2 ⟨b.val * 4224 + 4109 + R.val, by omega⟩ ⟨512 + k.val, by omega⟩) := by
  have hR := R.isLt
  have hb := b.isLt
  pointwise [convT]
  rw [dif_neg (by omega)]
  exact congrArg (fun i => a0 (ix2 i _)) (Fin.ext (by dsimp only; omega))

end Cert.Reference6Ideal.Ssd

end
-- ==== Proof.SsdClaim.lean ====
/-
  The copies of the SSD call: its run leaves the reference's arrays, for every input.
-/
module

public import proofs.«01_k».proof.Defs
public import proofs.«01_k».proof.Proof.SsdArray
public import proofs.«01_k».proof.Proof.SsdConv
public import proofs.«01_k».proof.Proof.SsdRef

@[expose] public section

set_option maxRecDepth 16384

noncomputable section

namespace Cert.Proof.Ssd

open Idealize.ShloMosaic Idealize.SL.Sem

/-- Kernel and reference leave equal arrays of the keys. -/
theorem value_keys (m : (ℓ : Loc Cert.Kernel6Ideal.nD Cert.Kernel6Ideal.τ Cert.Kernel6Ideal.sig) → Buf (Elt Ideal) ℓ) (c : Dev Cert.Kernel6Ideal.nD) :
    Cert.Reference6Ideal.Ssd.keysT (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg6)) = (Cert.Kernel6Ideal.Gen.dats m 0 c).arrAt 17 Cert.Kernel6Ideal.cfg0.N := by
  have key : ∀ (l b : Fin 2) (R : Fin 4224) (k : Fin 1024), Cert.Reference6Ideal.Ssd.keysT (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg6)) (ix4 l b R k)
      = ((Cert.Kernel6Ideal.Gen.dats m 0 c).arrAt 17 Cert.Kernel6Ideal.cfg0.N : Vec Ideal Cert.Kernel6Ideal.S2x2x4224x1024 .f32) (ix4 l b R k) := by
    intro l b R k
    refine (Cert.Reference6Ideal.Ssd.keysT_apply _ _ l b R k).trans ?_
    by_cases h : l.val < 1
    · obtain rfl : l = 0 := Fin.ext (by show l.val = 0; omega)
      rw [dif_pos h]
      exact (Cert.Kernel6Ideal.Ssd.arr17_prev m c b R k).symm
    · obtain rfl : l = 1 := Fin.ext (by show l.val = 1; omega)
      rw [dif_neg h]
      exact (Cert.Kernel6Ideal.Ssd.arr17_cur m c b R k).symm
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact key (j 0) (j 1) (j 2) (j 3)

/-- Kernel and reference leave equal arrays of the values. -/
theorem value_values (m : (ℓ : Loc Cert.Kernel6Ideal.nD Cert.Kernel6Ideal.τ Cert.Kernel6Ideal.sig) → Buf (Elt Ideal) ℓ) (c : Dev Cert.Kernel6Ideal.nD) :
    Cert.Reference6Ideal.Ssd.valsT (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg7)) = (Cert.Kernel6Ideal.Gen.dats m 0 c).arrAt 18 Cert.Kernel6Ideal.cfg0.N := by
  have key : ∀ (l b : Fin 2) (R : Fin 4224) (k : Fin 1024), Cert.Reference6Ideal.Ssd.valsT (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg7)) (ix4 l b R k)
      = ((Cert.Kernel6Ideal.Gen.dats m 0 c).arrAt 18 Cert.Kernel6Ideal.cfg0.N : Vec Ideal Cert.Kernel6Ideal.S2x2x4224x1024 .f32) (ix4 l b R k) := by
    intro l b R k
    refine (Cert.Reference6Ideal.Ssd.valsT_apply _ _ l b R k).trans ?_
    by_cases h : l.val < 1
    · obtain rfl : l = 0 := Fin.ext (by show l.val = 0; omega)
      rw [dif_pos h]
      exact (Cert.Kernel6Ideal.Ssd.arr18_prev m c b R k).symm
    · obtain rfl : l = 1 := Fin.ext (by show l.val = 1; omega)
      rw [dif_neg h]
      exact (Cert.Kernel6Ideal.Ssd.arr18_cur m c b R k).symm
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact key (j 0) (j 1) (j 2) (j 3)

/-- Kernel and reference leave equal arrays of the log forget gates. -/
theorem value_gates (m : (ℓ : Loc Cert.Kernel6Ideal.nD Cert.Kernel6Ideal.τ Cert.Kernel6Ideal.sig) → Buf (Elt Ideal) ℓ) (c : Dev Cert.Kernel6Ideal.nD) :
    Cert.Reference6Ideal.Ssd.gatesT (m ((c.tc : Thread Cert.Kernel6Ideal.nD Cert.Kernel6Ideal.τ).loc Cert.Kernel6Ideal.main_arg0)) = (Cert.Kernel6Ideal.Gen.dats m 0 c).arrAt 19 Cert.Kernel6Ideal.cfg0.N := by
  funext j
  have e : j = ix3 (j 0) (j 1) (j 2) := by
    funext a
    match a with
    | ⟨0, _⟩ => rfl
    | ⟨1, _⟩ => rfl
    | ⟨2, _⟩ => rfl
  rw [e]
  exact (Cert.Reference6Ideal.Ssd.gatesT_apply _ (j 0) (j 1) (j 2)).trans (Cert.Kernel6Ideal.Ssd.arr19 m c (j 0) (j 1) (j 2)).symm

/-- Kernel and reference leave equal arrays of the rows before the convolution. -/
theorem value_conv (m : (ℓ : Loc Cert.Kernel6Ideal.nD Cert.Kernel6Ideal.τ Cert.Kernel6Ideal.sig) → Buf (Elt Ideal) ℓ) (c : Dev Cert.Kernel6Ideal.nD) :
    Cert.Reference6Ideal.Ssd.convT (m ((c.tc : Thread Cert.Kernel6Ideal.nD Cert.Kernel6Ideal.τ).loc Cert.Kernel6Ideal.main_arg0)) = (Cert.Kernel6Ideal.Gen.dats m 0 c).arrAt 16 Cert.Kernel6Ideal.cfg0.N := by
  funext j
  have e : j = ix3 (j 0) (j 1) (j 2) := by
    funext a
    match a with
    | ⟨0, _⟩ => rfl
    | ⟨1, _⟩ => rfl
    | ⟨2, _⟩ => rfl
  rw [e]
  exact (Cert.Reference6Ideal.Ssd.convT_apply _ (j 0) (j 1) (j 2)).trans (Cert.Kernel6Ideal.Ssd.arr16 m c (j 0) (j 1) (j 2)).symm

/-- The algebraic claim of the SSD call's copies. -/
theorem algebraic : @Cert.algebraic_Kernel6Ideal_Reference6Ideal Cert.Kernel6Ideal.Gen.facts Cert.Reference6Ideal.Gen.facts := by
  intro m g m' g' _ hag
  refine ⟨fun c => (Cert.Kernel6Ideal.Gen.dats m 0 c).arrAt 16 Cert.Kernel6Ideal.cfg0.N, fun c => (Cert.Kernel6Ideal.Gen.dats m 0 c).arrAt 17 Cert.Kernel6Ideal.cfg0.N, fun c => (Cert.Kernel6Ideal.Gen.dats m 0 c).arrAt 18 Cert.Kernel6Ideal.cfg0.N, fun c => (Cert.Kernel6Ideal.Gen.dats m 0 c).arrAt 19 Cert.Kernel6Ideal.cfg0.N, ?_, ?_⟩
  · refine (θ_run _ _ _).mono (fun r h c => ?_) (Cert.Kernel6Ideal.Value.run_blocks m g)
    obtain ⟨-, -, -, hr⟩ := h c
    exact hr
  · refine (θ_run _ _ _).mono (fun r h c => ?_) (Cert.Reference6Ideal.Value.run m' g')
    obtain ⟨h0, h1, h2, h3, hr⟩ := h c
    obtain ⟨e0, e1, e2, e3, e4, e5, e6, e7⟩ := hag c
    refine ⟨h0.trans ((congrArg Cert.Reference6Ideal.Ssd.convT e0).trans (value_conv m c)), h1.trans ((Cert.Reference6Ideal.Ssd.keysT_congr _ _ _ _ e0 e6).trans (value_keys m c)), h2.trans ((Cert.Reference6Ideal.Ssd.valsT_congr _ _ _ _ e0 e7).trans (value_values m c)), h3.trans ((congrArg Cert.Reference6Ideal.Ssd.gatesT e0).trans (value_gates m c)), hr⟩

end Cert.Proof.Ssd

end
-- ==== Proof.lean ====
/-
  The claims of the statement: the frames of the programs, what their idealizations change, and that every kernel
  computes its reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite
public import proofs.«01_k».proof.Proof.Gen.ReferenceIdeal.Run
public import proofs.«01_k».proof.Proof.FfnClaim
public import proofs.«01_k».proof.Proof.FoxClaim
public import proofs.«01_k».proof.Proof.Gen.Kernel2
public import proofs.«01_k».proof.Proof.Gen.Kernel2Ideal
public import proofs.«01_k».proof.Proof.Gen.Reference2Ideal
public import proofs.«01_k».proof.Proof.InClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.OutClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.S5Claim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.SsdClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Claim

@[expose] public section

noncomputable section

namespace Cert.Proof

open Idealize.ShloMosaic Idealize.SL.Sem

/-- The attention reference runs, its arguments and semaphores unchanged. -/
theorem frame_ReferenceIdeal : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference runs, its arguments and semaphores unchanged. -/
theorem frame_Reference2Ideal : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection's reference runs, its arguments and semaphores unchanged. -/
theorem frame_Reference3Ideal : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's reference runs, its arguments and semaphores unchanged. -/
theorem frame_Reference4Ideal : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

/-- The S5 step's reference runs, its arguments and semaphores unchanged. -/
theorem frame_Reference5Ideal : @Cert.quiescent_Reference5Ideal Cert.Reference5Ideal.Gen.facts := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The reference of the SSD call's copies runs, its arguments and semaphores unchanged. -/
theorem frame_Reference6Ideal : @Cert.quiescent_Reference6Ideal Cert.Reference6Ideal.Gen.facts := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The two rounded literals of the attention, printed as the reals they stand for. -/
theorem preserves_Kernel : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl⟩

/-- The conjunction the statement certifies. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    fun m ρ _ => Cert.Kernel2.Gen.frame m ρ,
    fun m ρ _ => Cert.Kernel2Ideal.Gen.frame m ρ,
    frame_Reference2Ideal,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    preserves_Kernel,
    Cert.Proof.Fox.algebraic,
    trivial,
    Cert.Proof.Ffn.algebraic,
    trivial,
    Cert.Proof.In.algebraic,
    trivial,
    Cert.Proof.Out.algebraic,
    trivial,
    Cert.Proof.S5.algebraic,
    trivial,
    Cert.Proof.Ssd.algebraic⟩

end Cert.Proof

end
